-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  IdealRules.named_const.Statement Cert.KernelIdeal.κ "inv_sqrt_two" .f32 0x3F3504F3#32 (((Real.sqrt 2)⁻¹ : ℝ) : EReal)
  ∧ IdealRules.named_const.Statement Cert.KernelIdeal.κ "inv_sqrt_two_pi" .f32 0x3ECC422A#32 (((9465531 / 16777216) * (Real.sqrt 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v127) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)) (v3 : (c : Dev Cert.Kernel2Ideal.nD) → Buf (Elt Ideal) ((c.tc : Thread Cert.Kernel2Ideal.nD Cert.Kernel2Ideal.τ).loc Cert.Kernel2Ideal.main_v23_3)) (v4 : (c : Dev Cert.Kernel2Ideal.nD) → Buf (Elt Ideal) ((c.tc : Thread Cert.Kernel2Ideal.nD Cert.Kernel2Ideal.τ).loc Cert.Kernel2Ideal.main_v23_4)) (v5 : (c : Dev Cert.Kernel2Ideal.nD) → Buf (Elt Ideal) ((c.tc : Thread Cert.Kernel2Ideal.nD Cert.Kernel2Ideal.τ).loc Cert.Kernel2Ideal.main_v23_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_v23_3) = v3 c
          ∧ r.2.mem ((c.tc : Thread Cert.Kernel2Ideal.nD Cert.Kernel2Ideal.τ).loc Cert.Kernel2Ideal.main_v23_4) = v4 c
          ∧ r.2.mem ((c.tc : Thread Cert.Kernel2Ideal.nD Cert.Kernel2Ideal.τ).loc Cert.Kernel2Ideal.main_v23_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_v90) = v1 c
          ∧ r.2.mem ((c.tc : Thread Cert.Reference2Ideal.nD Cert.Reference2Ideal.τ).loc Cert.Reference2Ideal.main_v91) = v2 c
          ∧ r.2.mem ((c.tc : Thread Cert.Reference2Ideal.nD Cert.Reference2Ideal.τ).loc Cert.Reference2Ideal.main_v96) = v3 c
          ∧ r.2.mem ((c.tc : Thread Cert.Reference2Ideal.nD Cert.Reference2Ideal.τ).loc Cert.Reference2Ideal.main_v99) = v4 c
          ∧ r.2.mem ((c.tc : Thread Cert.Reference2Ideal.nD Cert.Reference2Ideal.τ).loc Cert.Reference2Ideal.main_v58) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v8) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_v41) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v5) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_v6) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_v8) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v42) = v0 c
          ∧ r.2.mem ((c.tc : Thread Cert.Reference11Ideal.nD Cert.Reference11Ideal.τ).loc Cert.Reference11Ideal.main_v57) = v1 c
          ∧ r.2.mem ((c.tc : Thread Cert.Reference11Ideal.nD Cert.Reference11Ideal.τ).loc Cert.Reference11Ideal.main_v41) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v26) = v0 c
          ∧ r.2.mem ((c.tc : Thread Cert.Reference12Ideal.nD Cert.Reference12Ideal.τ).loc Cert.Reference12Ideal.main_v7) = v1 c
          ∧ r.2.mem ((c.tc : Thread Cert.Reference12Ideal.nD Cert.Reference12Ideal.τ).loc Cert.Reference12Ideal.main_v13) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v7_0)) (v1 : (c : Dev Cert.Kernel13Ideal.nD) → Buf (Elt Ideal) ((c.tc : Thread Cert.Kernel13Ideal.nD Cert.Kernel13Ideal.τ).loc Cert.Kernel13Ideal.main_v7_1)) (v2 : (c : Dev Cert.Kernel13Ideal.nD) → Buf (Elt Ideal) ((c.tc : Thread Cert.Kernel13Ideal.nD Cert.Kernel13Ideal.τ).loc Cert.Kernel13Ideal.main_v7_2)) (v3 : (c : Dev Cert.Kernel13Ideal.nD) → Buf (Elt Ideal) ((c.tc : Thread Cert.Kernel13Ideal.nD Cert.Kernel13Ideal.τ).loc Cert.Kernel13Ideal.main_v7_3)) (v4 : (c : Dev Cert.Kernel13Ideal.nD) → Buf (Elt Ideal) ((c.tc : Thread Cert.Kernel13Ideal.nD Cert.Kernel13Ideal.τ).loc Cert.Kernel13Ideal.main_v7_4)) (v5 : (c : Dev Cert.Kernel13Ideal.nD) → Buf (Elt Ideal) ((c.tc : Thread Cert.Kernel13Ideal.nD Cert.Kernel13Ideal.τ).loc Cert.Kernel13Ideal.main_v7_5)) (v6 : (c : Dev Cert.Kernel13Ideal.nD) → Buf (Elt Ideal) ((c.tc : Thread Cert.Kernel13Ideal.nD Cert.Kernel13Ideal.τ).loc Cert.Kernel13Ideal.main_v7_6)) (v7 : (c : Dev Cert.Kernel13Ideal.nD) → Buf (Elt Ideal) ((c.tc : Thread Cert.Kernel13Ideal.nD Cert.Kernel13Ideal.τ).loc Cert.Kernel13Ideal.main_v7_7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7_0) = v0 c
          ∧ r.2.mem ((c.tc : Thread Cert.Kernel13Ideal.nD Cert.Kernel13Ideal.τ).loc Cert.Kernel13Ideal.main_v7_1) = v1 c
          ∧ r.2.mem ((c.tc : Thread Cert.Kernel13Ideal.nD Cert.Kernel13Ideal.τ).loc Cert.Kernel13Ideal.main_v7_2) = v2 c
          ∧ r.2.mem ((c.tc : Thread Cert.Kernel13Ideal.nD Cert.Kernel13Ideal.τ).loc Cert.Kernel13Ideal.main_v7_3) = v3 c
          ∧ r.2.mem ((c.tc : Thread Cert.Kernel13Ideal.nD Cert.Kernel13Ideal.τ).loc Cert.Kernel13Ideal.main_v7_4) = v4 c
          ∧ r.2.mem ((c.tc : Thread Cert.Kernel13Ideal.nD Cert.Kernel13Ideal.τ).loc Cert.Kernel13Ideal.main_v7_5) = v5 c
          ∧ r.2.mem ((c.tc : Thread Cert.Kernel13Ideal.nD Cert.Kernel13Ideal.τ).loc Cert.Kernel13Ideal.main_v7_6) = v6 c
          ∧ r.2.mem ((c.tc : Thread Cert.Kernel13Ideal.nD Cert.Kernel13Ideal.τ).loc Cert.Kernel13Ideal.main_v7_7) = v7 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v187) = v0 c
          ∧ r.2.mem ((c.tc : Thread Cert.Reference13Ideal.nD Cert.Reference13Ideal.τ).loc Cert.Reference13Ideal.main_v188) = v1 c
          ∧ r.2.mem ((c.tc : Thread Cert.Reference13Ideal.nD Cert.Reference13Ideal.τ).loc Cert.Reference13Ideal.main_v107) = v2 c
          ∧ r.2.mem ((c.tc : Thread Cert.Reference13Ideal.nD Cert.Reference13Ideal.τ).loc Cert.Reference13Ideal.main_v106) = v3 c
          ∧ r.2.mem ((c.tc : Thread Cert.Reference13Ideal.nD Cert.Reference13Ideal.τ).loc Cert.Reference13Ideal.main_v189) = v4 c
          ∧ r.2.mem ((c.tc : Thread Cert.Reference13Ideal.nD Cert.Reference13Ideal.τ).loc Cert.Reference13Ideal.main_v190) = v5 c
          ∧ r.2.mem ((c.tc : Thread Cert.Reference13Ideal.nD Cert.Reference13Ideal.τ).loc Cert.Reference13Ideal.main_v191) = v6 c
          ∧ r.2.mem ((c.tc : Thread Cert.Reference13Ideal.nD Cert.Reference13Ideal.τ).loc Cert.Reference13Ideal.main_v192) = v7 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_v6) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_v8) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  IdealRules.named_const.Statement Cert.Kernel16Ideal.κ "inv_sqrt_two" .f32 0x3F3504F3#32 (((Real.sqrt 2)⁻¹ : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v52) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite2 : Cert.Pre_finite2.Facts) (hPre_finite11 : Cert.Pre_finite11.Facts) (hPre_finite13 : Cert.Pre_finite13.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S4096x1024 : Shape := ⟨2, ![4096, 1024]⟩
abbrev S1x512 : Shape := ⟨2, ![1, 512]⟩
abbrev S1x4x128x128 : Shape := ⟨4, ![1, 4, 128, 128]⟩
abbrev S1x4x128 : Shape := ⟨3, ![1, 4, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S1x512 : S_.BroadcastsInDim S1x512 (![] : Fin 0 → Fin S1x512.rank)
  reducesTo_S1x512_S_d0_1 : S1x512.ReducesTo [0, 1] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x4x128 : S_.BroadcastsInDim S1x4x128 (![] : Fin 0 → Fin S1x4x128.rank)
  reducesTo_S1x4x128_S_d0_1_2 : S1x4x128.ReducesTo [0, 1, 2] S_

variable [Facts]

def fn_part1 {F : FTy → Type} [FloatOps F] (main_arg4 : FVec F S1x4x128 .f32) (main_v14 : IVec S_ 1) (main_v15 : FVec F S1x4x128x128 .f32) (main_v16 : FVec F S1x4x128x128 .f32) : IVec S_ 1 :=
  let main_v17 : IVec S1x4x128x128 1 := cmpf .olt main_v15 main_v16
  let main_c_5 : IVec S_ 1 := constantI S_ 1 1#1
  let main_v18 : IVec S_ 1 := (fun x v => Host.reduce IntOp.andi x v reducesTo_S1x4x128x128_S_d0_1_2_3 h_S_) main_v17 main_c_5
  let main_v19 : IVec S_ 1 := andi main_v14 main_v18
  let main_v20 : FVec F S1x4x128 .f32 := Host.absf main_arg4
  let main_cst_6 : FVec F S_ .f32 := constant S_ .f32 0x7F800000#32
  let main_v21 : FVec F S1x4x128 .f32 := broadcastInDim S1x4x128 ![] bcast_S_S1x4x128 main_cst_6
  let main_v22 : IVec S1x4x128 1 := cmpf .olt main_v20 main_v21
  let main_c_7 : IVec S_ 1 := constantI S_ 1 1#1
  let main_v23 : IVec S_ 1 := (fun x v => Host.reduce IntOp.andi x v reducesTo_S1x4x128_S_d0_1_2 h_S_) main_v22 main_c_7
  let main_v24 : IVec S_ 1 := andi main_v19 main_v23
  main_v24

def fn {F : FTy → Type} [FloatOps F] (main_arg0 : FVec F S4096x1024 .f32) (main_arg1 : FVec F S4096x1024 .bf16) (main_arg2 : FVec F S1x512 .f32) (main_arg3 : FVec F S1x4x128x128 .f32) (main_arg4 : FVec F S1x4x128 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v3 main_v8
  let main_v10 : FVec F S1x512 .f32 := Host.absf main_arg2
  let main_cst_2 : FVec F S_ .f32 := constant S_ .f32 0x7F800000#32
  let main_v11 : FVec F S1x512 .f32 := broadcastInDim S1x512 ![] bcast_S_S1x512 main_cst_2
  let main_v12 : IVec S1x512 1 := cmpf .olt main_v10 main_v11
  let main_c_3 : IVec S_ 1 := constantI S_ 1 1#1
  let main_v13 : IVec S_ 1 := (fun x v => Host.reduce IntOp.andi x v reducesTo_S1x512_S_d0_1 h_S_) main_v12 main_c_3
  let main_v14 : IVec S_ 1 := andi main_v9 main_v13
  let main_v15 : FVec F S1x4x128x128 .f32 := Host.absf main_arg3
  let main_cst_4 : FVec F S_ .f32 := constant S_ .f32 0x7F800000#32
  let main_v16 : FVec F S1x4x128x128 .f32 := broadcastInDim S1x4x128x128 ![] bcast_S_S1x4x128x128 main_cst_4
  fn_part1 (F := F) main_arg4 main_v14 main_v15 main_v16
-- ==== Pre_finite11.lean ====
abbrev S4096x1024 : Shape := ⟨2, ![4096, 1024]⟩
abbrev S4096x2560 : Shape := ⟨2, ![4096, 2560]⟩
abbrev S1x1024x2560 : Shape := ⟨3, ![1, 1024, 2560]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S4096x2560 : S_.BroadcastsInDim S4096x2560 (![] : Fin 0 → Fin S4096x2560.rank)
  reducesTo_S4096x2560_S_d0_1 : S4096x2560.ReducesTo [0, 1] S_
  bcast_S_S1x1024x2560 : S_.BroadcastsInDim S1x1024x2560 (![] : Fin 0 → Fin S1x1024x2560.rank)
  reducesTo_S1x1024x2560_S_d0_1_2 : S1x1024x2560.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v14 : IVec S_ 1) (main_v15 : FVec F S4096x1024 .f32) (main_v16 : FVec F S4096x1024 .f32) : IVec S_ 1 :=
  let main_v17 : IVec S4096x1024 1 := cmpf .olt main_v15 main_v16
  let main_c_5 : IVec S_ 1 := constantI S_ 1 1#1
  let main_v18 : IVec S_ 1 := (fun x v => Host.reduce IntOp.andi x v reducesTo_S4096x1024_S_d0_1 h_S_) main_v17 main_c_5
  let main_v19 : IVec S_ 1 := andi main_v14 main_v18
  let main_v20 : FVec F S1x1024 .f32 := Host.absf main_arg4
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  main_v24

def fn {F : FTy → Type} [FloatOps F] (main_arg0 : FVec F S4096x1024 .f32) (main_arg1 : FVec F S4096x2560 .bf16) (main_arg2 : FVec F S1x1024x2560 .f32) (main_arg3 : FVec F S4096x1024 .f32) (main_arg4 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2560 .f32 := (extf .f32 · bitsLt_bf16_f32) main_arg1
  let main_v5 : FVec F S4096x2560 .f32 := Host.absf main_v4
  let main_cst_0 : FVec F S_ .f32 := constant S_ .f32 0x7F800000#32
  let main_v6 : FVec F S4096x2560 .f32 := broadcastInDim S4096x2560 ![] bcast_S_S4096x2560 main_cst_0
  let main_v7 : IVec S4096x2560 1 := cmpf .olt main_v5 main_v6
  let main_c_1 : IVec S_ 1 := constantI S_ 1 1#1
  let main_v8 : IVec S_ 1 := (fun x v => Host.reduce IntOp.andi x v reducesTo_S4096x2560_S_d0_1 h_S_) main_v7 main_c_1
  let main_v9 : IVec S_ 1 := andi main_v3 main_v8
  let main_v10 : FVec F S1x1024x2560 .f32 := Host.absf main_arg2
  let main_cst_2 : FVec F S_ .f32 := constant S_ .f32 0x7F800000#32
  let main_v11 : FVec F S1x1024x2560 .f32 := broadcastInDim S1x1024x2560 ![] bcast_S_S1x1024x2560 main_cst_2
  let main_v12 : IVec S1x1024x2560 1 := cmpf .olt main_v10 main_v11
  let main_c_3 : IVec S_ 1 := constantI S_ 1 1#1
  let main_v13 : IVec S_ 1 := (fun x v => Host.reduce IntOp.andi x v reducesTo_S1x1024x2560_S_d0_1_2 h_S_) main_v12 main_c_3
  let main_v14 : IVec S_ 1 := andi main_v9 main_v13
  let main_v15 : FVec F S4096x1024 .f32 := Host.absf main_arg3
  let main_cst_4 : FVec F S_ .f32 := constant S_ .f32 0x7F800000#32
  let main_v16 : FVec F S4096x1024 .f32 := broadcastInDim S4096x1024 ![] bcast_S_S4096x1024 main_cst_4
  fn_part1 (F := F) main_arg4 main_v14 main_v15 main_v16
-- ==== Pre_finite13.lean ====
abbrev S4096x1024 : Shape := ⟨2, ![4096, 1024]⟩
abbrev S4096x256 : Shape := ⟨2, ![4096, 256]⟩
abbrev S1x1024 : Shape := ⟨2, ![1, 1024]⟩
abbrev S1024 : Shape := ⟨1, ![1024]⟩
abbrev S1x1024x1024 : Shape := ⟨3, ![1, 1024, 1024]⟩
abbrev S1x256x1024 : Shape := ⟨3, ![1, 256, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x256x1024 : S_.BroadcastsInDim S1x256x1024 (![] : Fin 0 → Fin S1x256x1024.rank)
  reducesTo_S1x256x1024_S_d0_1_2 : S1x256x1024.ReducesTo [0, 1, 2] S_

variable [Facts]

def fn_part1 {F : FTy → Type} [FloatOps F] (main_arg4 : FVec F S1024 .f32) (main_arg5 : FVec F S1x1024x1024 .f32) (main_arg6 : FVec F S1x256x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1x1024x1024 .f32 := Host.absf main_arg5
  let main_cst_8 : FVec F S_ .f32 := constant S_ .f32 0x7F800000#32
  let main_v25 : FVec F S1x1024x1024 .f32 := broadcastInDim S1x1024x1024 ![] bcast_S_S1x1024x1024 main_cst_8
  let main_v26 : IVec S1x1024x1024 1 := cmpf .olt main_v24 main_v25
  let main_c_9 : IVec S_ 1 := constantI S_ 1 1#1
  let main_v27 : IVec S_ 1 := (fun x v => Host.reduce IntOp.andi x v reducesTo_S1x1024x1024_S_d0_1_2 h_S_) main_v26 main_c_9
  let main_v28 : IVec S_ 1 := andi main_v23 main_v27
  let main_v29 : FVec F S1x256x1024 .f32 := Host.absf main_arg6
  let main_cst_10 : FVec F S_ .f32 := constant S_ .f32 0x7F800000#32
  let main_v30 : FVec F S1x256x1024 .f32 := broadcastInDim S1x256x1024 ![] bcast_S_S1x256x1024 main_cst_10
  let main_v31 : IVec S1x256x1024 1 := cmpf .olt main_v29 main_v30
  let main_c_11 : IVec S_ 1 := constantI S_ 1 1#1
  let main_v32 : IVec S_ 1 := (fun x v => Host.reduce IntOp.andi x v reducesTo_S1x256x1024_S_d0_1_2 h_S_) main_v31 main_c_11
  let main_v33 : IVec S_ 1 := andi main_v28 main_v32
  main_v33

def fn {F : FTy → Type} [FloatOps F] (main_arg0 : FVec F S4096x1024 .f32) (main_arg1 : FVec F S4096x256 .f32) (main_arg2 : FVec F S4096x1024 .f32) (main_arg3 : FVec F S1x1024 .f32) (main_arg4 : FVec F S1024 .f32) (main_arg5 : FVec F S1x1024x1024 .f32) (main_arg6 : FVec F S1x256x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== Pre_finite2.lean ====
abbrev S4096x1024 : Shape := ⟨2, ![4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x2816x1024 .f32) (main_v13 : IVec S_ 1) (main_v16 : IVec S1x1024x5632 1) : IVec S_ 1 :=
  let main_c_5 : IVec S_ 1 := constantI S_ 1 1#1
  let main_v17 : IVec S_ 1 := (fun x v => Host.reduce IntOp.andi x v reducesTo_S1x1024x5632_S_d0_1_2 h_S_) main_v16 main_c_5
  let main_v18 : IVec S_ 1 := andi main_v13 main_v17
  let main_v19 : FVec F S1x2816x1024 .f32 := Host.absf main_arg4
  let main_cst_6 : FVec F S_ .f32 := constant S_ .f32 0x7F800000#32
  let main_v20 : FVec F S1x2816x1024 .f32 := broadcastInDim S1x2816x1024 ![] bcast_S_S1x2816x1024 main_cst_6
  let main_v21 : IVec S1x2816x1024 1 := cmpf .olt main_v19 main_v20
  let main_c_7 : IVec S_ 1 := constantI S_ 1 1#1
  let main_v22 : IVec S_ 1 := (fun x v => Host.reduce IntOp.andi x v reducesTo_S1x2816x1024_S_d0_1_2 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S1x1024 .f32) (main_arg3 : FVec F S1x1024x5632 .f32) (main_arg4 : FVec F S1x2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x5632 .f32 := Host.absf main_arg3
  let main_cst_4 : FVec F S_ .f32 := constant S_ .f32 0x7F800000#32
  let main_v15 : FVec F S1x1024x5632 .f32 := broadcastInDim S1x1024x5632 ![] bcast_S_S1x1024x5632 main_cst_4
  let main_v16 : IVec S1x1024x5632 1 := cmpf .olt main_v14 main_v15
  fn_part1 (F := F) main_arg4 main_v13 main_v16
-- ==== Kernel.lean ====
abbrev S4096x1024 : Shape := ⟨2, ![4096, 1024]⟩
abbrev S1x512 : Shape := ⟨2, ![1, 512]⟩
abbrev S1x4x128x128 : Shape := ⟨4, ![1, 4, 128, 128]⟩
abbrev S1x4x128 : Shape := ⟨3, ![1, 4, 128]⟩
abbrev S4x128x128 : Shape := ⟨3, ![4, 128, 128]⟩
abbrev S4x128 : Shape := ⟨2, ![4, 128]⟩
abbrev S128x4 : Shape := ⟨2, ![128, 4]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S128 : Shape := ⟨1, ![128]⟩
abbrev S512x128 : Shape := ⟨2, ![512, 128]⟩

abbrev nBuf : Space → Nat
  | .hbm => 12
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x512, .f32⟩
  | .hbm, ⟨3, _⟩ => ⟨S1x4x128x128, .f32⟩
  | .hbm, ⟨4, _⟩ => ⟨S1x4x128, .f32⟩
  | .hbm, ⟨5, _⟩ => ⟨S4x128x128, .f32⟩
  | .hbm, ⟨6, _⟩ => ⟨S4x128, .f32⟩
  | .hbm, ⟨7, _⟩ => ⟨S128x4, .f32⟩
  | .hbm, ⟨8, _⟩ => ⟨S4096x1024, .bf16⟩
  | .hbm, ⟨9, _⟩ => ⟨S4x128x128, .f32⟩
  | .hbm, ⟨10, _⟩ => ⟨S128x4, .f32⟩
  | .hbm, ⟨11, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S4x128x128, .f32⟩
  | .local _ .vmem, ⟨6, _⟩ => ⟨S128x4, .f32⟩
  | .local _ .vmem, ⟨7, _⟩ => ⟨S512x1024, .bf16⟩
  | .local _ .vmem, ⟨8, _⟩ => ⟨S512x1024, .bf16⟩
  | .local _ .vmem, ⟨9, _⟩ => ⟨S4x128x128, .f32⟩
  | .local _ .vmem, ⟨10, _⟩ => ⟨S128x4, .f32⟩
  | .local _ .vmem, ⟨11, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "inv_sqrt_two" => some (((Real.sqrt 2)⁻¹ : ℝ) : EReal)
  | "inv_sqrt_two_pi" => some (((9465531 / 16777216) * (Real.sqrt 2)⁻¹ : ℝ) : EReal)
  | _ => none
-- ==== ReferenceIdeal.lean ====
abbrev S4096x1024 : Shape := ⟨2, ![4096, 1024]⟩
abbrev S1x512 : Shape := ⟨2, ![1, 512]⟩
abbrev S1x4x128x128 : Shape := ⟨4, ![1, 4, 128, 128]⟩
abbrev S1x4x128 : Shape := ⟨3, ![1, 4, 128]⟩
abbrev S4096x512 : Shape := ⟨2, ![4096, 512]⟩
abbrev S1x4096x512 : Shape := ⟨3, ![1, 4096, 512]⟩
abbrev S1x4096x1024 : Shape := ⟨3, ![1, 4096, 1024]⟩
abbrev S_ : Shape := ⟨0, ![]⟩
abbrev S512 : Shape := ⟨1, ![512]⟩
abbrev S4x128x128 : Shape := ⟨3, ![4, 128, 128]⟩
abbrev S4x128 : Shape := ⟨2, ![4, 128]⟩
abbrev S1x4096 : Shape := ⟨2, ![1, 4096]⟩
abbrev S1x4096x1 : Shape := ⟨3, ![1, 4096, 1]⟩
abbrev S1x1x512 : Shape := ⟨3, ![1, 1, 512]⟩
abbrev S1x32x128x4x128 : Shape := ⟨5, ![1, 32, 128, 4, 128]⟩
abbrev S128x128 : Shape := ⟨2, ![128, 128]⟩
abbrev S1x128x128 : Shape := ⟨3, ![1, 128, 128]⟩
abbrev S4x1x32x128x128 : Shape := ⟨5, ![4, 1, 32, 128, 128]⟩
abbrev S128x4 : Shape := ⟨2, ![128, 4]⟩
abbrev S1x1x128x4x1 : Shape := ⟨5, ![1, 1, 128, 4, 1]⟩
abbrev S1x128x4 : Shape := ⟨3, ![1, 128, 4]⟩
abbrev S4096 : Shape := ⟨1, ![4096]⟩

abbrev nBuf : Space → Nat
  | .hbm => 168
  | .vmem => 0
  | .smem => 0
  | _ => 0

abbrev hbmTy0_0 (i : Nat) : BufTy := match i % 128 with
  | 0 => ⟨S4096x1024, .f32⟩
  | 1 => ⟨S4096x1024, .bf16⟩
  | 2 => ⟨S1x512, .f32⟩
  | 3 => ⟨S1x4x128x128, .f32⟩
  | 4 => ⟨S1x4x128, .f32⟩
  | 5 => ⟨S4096x512, .bf16⟩
  | 6 => ⟨S1x4096x512, .bf16⟩
  | 7 => ⟨S1x4096x512, .f32⟩
  | 8 => ⟨S1x4096x1024, .f32⟩
  | 9 => ⟨S1x4096x512, .f32⟩
  | 10 => ⟨S1x4096x512, .f32⟩
  | 11 => ⟨S_, .f32⟩
  | 12 => ⟨S1x4096x512, .f32⟩
  | 13 => ⟨S1x4096x512, .f32⟩
  | 14 => ⟨S1x4096x512, .f32⟩
  | 15 => ⟨S_, .f32⟩
  | 16 => ⟨S_, .f32⟩
  | 17 => ⟨S_, .f32⟩
  | 18 => ⟨S1x4096x512, .f32⟩
  | 19 => ⟨S1x4096x512, .f32⟩
  | 20 => ⟨S1x4096x512, .f32⟩
  | 21 => ⟨S1x4096x512, .f32⟩
  | 22 => ⟨S1x4096x512, .f32⟩
  | 23 => ⟨S1x4096x512, .f32⟩
  | 24 => ⟨S1x4096x512, .f32⟩
  | 25 => ⟨S_, .f32⟩
  | 26 => ⟨S1x4096x512, .f32⟩
  | 27 => ⟨S1x4096x512, .f32⟩
  | 28 => ⟨S1x4096x512, .f32⟩
  | 29 => ⟨S_, .f32⟩
  | 30 => ⟨S_, .f32⟩
  | 31 => ⟨S_, .f32⟩
  | 32 => ⟨S1x4096x512, .f32⟩
  | 33 => ⟨S1x4096x512, .f32⟩
  | 34 => ⟨S1x4096x512, .f32⟩
  | 35 => ⟨S1x4096x512, .f32⟩
  | 36 => ⟨S1x4096x512, .f32⟩
  | 37 => ⟨S1x4096x512, .f32⟩
  | 38 => ⟨S1x4096x512, .f32⟩
  | 39 => ⟨S512, .f32⟩
  | 40 => ⟨S4x128x128, .f32⟩
  | 41 => ⟨S4x128, .f32⟩
  | 42 => ⟨S1x4096x512, .f32⟩
  | 43 => ⟨S_, .f32⟩
  | 44 => ⟨S1x4096, .f32⟩
  | 45 => ⟨S1x4096x1, .f32⟩
  | 46 => ⟨S_, .f32⟩
  | 47 => ⟨S1x4096x1, .f32⟩
  | 48 => ⟨S1x4096x1, .f32⟩
  | 49 => ⟨S_, .f32⟩
  | 50 => ⟨S1x4096x1, .f32⟩
  | 51 => ⟨S1x4096x1, .f32⟩
  | 52 => ⟨S1x4096x1, .f32⟩
  | 53 => ⟨S1x4096x1, .f32⟩
  | 54 => ⟨S_, .f32⟩
  | 55 => ⟨S1x4096x1, .f32⟩
  | 56 => ⟨S1x4096x1, .f32⟩
  | 57 => ⟨S1x4096x512, .f32⟩
  | 58 => ⟨S1x4096x512, .f32⟩
  | 59 => ⟨S1x1x512, .f32⟩
  | 60 => ⟨S1x4096x512, .f32⟩
  | 61 => ⟨S1x4096x512, .f32⟩
  | 62 => ⟨S1x32x128x4x128, .f32⟩
  | 63 => ⟨S_, .i1⟩
  | 64 => ⟨S128x128, .i1⟩
  | 65 => ⟨S128x128, .i32⟩
  | 66 => ⟨S_, .i32⟩
  | 67 => ⟨S128x128, .i32⟩
  | 68 => ⟨S128x128, .i32⟩
  | 69 => ⟨S128x128, .i32⟩
  | 70 => ⟨S128x128, .i1⟩
  | 71 => ⟨S_, .i1⟩
  | 72 => ⟨S128x128, .i1⟩
  | 73 => ⟨S128x128, .i1⟩
  | 74 => ⟨S1x128x128, .i1⟩
  | 75 => ⟨S_, .f32⟩
  | 76 => ⟨S4x128x128, .f32⟩
  | 77 => ⟨S4x128x128, .i1⟩
  | 78 => ⟨S4x128x128, .f32⟩
  | 79 => ⟨S_, .f32⟩
  | 80 => ⟨S4x128x128, .f32⟩
  | 81 => ⟨S4x1x32x128x128, .f32⟩
  | 82 => ⟨S1x32x128x4x128, .f32⟩
  | 83 => ⟨S128x4, .f32⟩
  | 84 => ⟨S1x1x128x4x1, .f32⟩
  | 85 => ⟨S1x32x128x4x128, .f32⟩
  | 86 => ⟨S1x32x128x4x128, .f32⟩
  | 87 => ⟨S1x4096x512, .f32⟩
  | 88 => ⟨S1x4096x512, .f32⟩
  | 89 => ⟨S1x4096x512, .f32⟩
  | 90 => ⟨S1x4096x512, .f32⟩
  | 91 => ⟨S1x32x128x4x128, .f32⟩
  | 92 => ⟨S_, .f32⟩
  | 93 => ⟨S1x128x4, .f32⟩
  | 94 => ⟨S1x1x128x4x1, .f32⟩
  | 95 => ⟨S_, .f32⟩
  | 96 => ⟨S128x4, .f32⟩
  | 97 => ⟨S4x128, .f32⟩
  | 98 => ⟨S4x1x32x128x128, .f32⟩
  | 99 => ⟨S4x128x128, .f32⟩
  | 100 => ⟨S4x1x32x128x128, .f32⟩
  | 101 => ⟨S1x32x128x4x128, .f32⟩
  | 102 => ⟨S_, .f32⟩
  | 103 => ⟨S4x128x128, .f32⟩
  | 104 => ⟨S4x128x128, .f32⟩
  | 105 => ⟨S1x4096x512, .f32⟩
  | 106 => ⟨S1x4096x512, .f32⟩
  | 107 => ⟨S_, .f32⟩
  | 108 => ⟨S1x512, .f32⟩
  | 109 => ⟨S1x1x512, .f32⟩
  | 110 => ⟨S1x4096x512, .f32⟩
  | 111 => ⟨S1x4096x512, .f32⟩
  | 112 => ⟨S_, .f32⟩
  | 113 => ⟨S512, .f32⟩
  | 114 => ⟨S1x4096x512, .f32⟩
  | 115 => ⟨S_, .f32⟩
  | 116 => ⟨S1x4096, .f32⟩
  | 117 => ⟨S1x4096x1, .f32⟩
  | 118 => ⟨S1x4096x512, .f32⟩
  | 119 => ⟨S1x4096x512, .f32⟩
  | 120 => ⟨S1x4096x1, .f32⟩
  | 121 => ⟨S_, .f32⟩
  | 122 => ⟨S1x4096x1, .f32⟩
  | 123 => ⟨S1x4096x1, .f32⟩
  | 124 => ⟨S_, .f32⟩
  | 125 => ⟨S4096, .f32⟩
  | 126 => ⟨S1x4096, .f32⟩
  | 127 => ⟨S1x4096x512, .f32⟩
  | _ => ⟨S4096x1024, .f32⟩

abbrev hbmTy0_1 (i : Nat) : BufTy := match i % 128 with
  | 0 => ⟨S1x4096x512, .f32⟩
  | 1 => ⟨S1x4096x512, .f32⟩
  | 2 => ⟨S1x4096x512, .f32⟩
  | 3 => ⟨S1x4096x512, .f32⟩
  | 4 => ⟨S1x4x128, .f32⟩
  | 5 => ⟨S1x4x128x128, .f32⟩
  | 6 => ⟨S1x512, .f32⟩
  | 7 => ⟨S1x4096x512, .f32⟩
  | 8 => ⟨S1x4096x512, .f32⟩
  | 9 => ⟨S_, .f32⟩
  | 10 => ⟨S1x4096x512, .f32⟩
  | 11 => ⟨S1x4096x512, .f32⟩
  | 12 => ⟨S1x4096x512, .f32⟩
  | 13 => ⟨S1x4096x512, .f32⟩
  | 14 => ⟨S1x4096x512, .f32⟩
  | 15 => ⟨S1x4096x512, .f32⟩
  | 16 => ⟨S_, .f32⟩
  | 17 => ⟨S1x4096x512, .f32⟩
  | 18 => ⟨S1x4096x512, .f32⟩
  | 19 => ⟨S1x4096x512, .f32⟩
  | 20 => ⟨S1x4096x512, .f32⟩
  | 21 => ⟨S1x4096x512, .f32⟩
  | 22 => ⟨S_, .f32⟩
  | 23 => ⟨S1x4096x512, .f32⟩
  | 24 => ⟨S1x4096x512, .f32⟩
  | 25 => ⟨S1x4096x512, .f32⟩
  | 26 => ⟨S1x4096x512, .f32⟩
  | 27 => ⟨S1x4096x512, .f32⟩
  | 28 => ⟨S1x4096x512, .f32⟩
  | 29 => ⟨S_, .f32⟩
  | 30 => ⟨S1x4096x512, .f32⟩
  | 31 => ⟨S1x4096x512, .f32⟩
  | 32 => ⟨S1x4096x512, .f32⟩
  | 33 => ⟨S1x4096x1024, .f32⟩
  | 34 => ⟨S_, .f32⟩
  | 35 => ⟨S4096x1024, .f32⟩
  | 36 => ⟨S4096x1024, .bf16⟩
  | 37 => ⟨S4x128x128, .f32⟩
  | 38 => ⟨S4x128, .f32⟩
  | 39 => ⟨S128x4, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c : Ref sig .tc := ⟨.hbm, 63, rfl⟩
abbrev main_v50 : Ref sig .tc := ⟨.hbm, 64, rfl⟩
abbrev main_call0_v0 : Ref sig .tc := ⟨.hbm, 65, rfl⟩
abbrev main_call0_c : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_c_0 : Ref sig .tc := ⟨.hbm, 71, rfl⟩
abbrev main_call0_v5 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54_1 : Ref sig .tc := ⟨.hbm, 77, rfl⟩
abbrev main_v54_0 : Ref sig .tc := ⟨.hbm, 78, rfl⟩
abbrev main_call1_cst : Ref sig .tc := ⟨.hbm, 79, rfl⟩
abbrev main_v54_2 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_8 : Ref sig .tc := ⟨.hbm, 92, rfl⟩
abbrev main_v66 : Ref sig .tc := ⟨.hbm, 93, rfl⟩
abbrev main_v67 : Ref sig .tc := ⟨.hbm, 94, rfl⟩
abbrev main_cst_9 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_call2_cst : Ref sig .tc := ⟨.hbm, 102, rfl⟩
abbrev main_call2_v0 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_10 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_11 : Ref sig .tc := ⟨.hbm, 112, rfl⟩
abbrev main_v81 : Ref sig .tc := ⟨.hbm, 113, rfl⟩
abbrev main_v82 : Ref sig .tc := ⟨.hbm, 114, rfl⟩
abbrev main_cst_12 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_13 : Ref sig .tc := ⟨.hbm, 121, rfl⟩
abbrev main_v88 : Ref sig .tc := ⟨.hbm, 122, rfl⟩
abbrev main_v89 : Ref sig .tc := ⟨.hbm, 123, rfl⟩
abbrev main_cst_14 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_15 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_16 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_17 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_18 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_19 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S1024x4x1408 : Shape := ⟨3, ![1024, 4, 1408]⟩
abbrev S4x1024x1408 : Shape := ⟨3, ![4, 1024, 1408]⟩
abbrev S2816x1024 : Shape := ⟨2, ![2816, 1024]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S1408x1024 : Shape := ⟨2, ![1408, 1024]⟩
abbrev S256x1408 : Shape := ⟨2, ![256, 1408]⟩
abbrev S1x1024x1408 : Shape := ⟨3, ![1, 1024, 1408]⟩
abbrev S1024x1408 : Shape := ⟨2, ![1024, 1408]⟩

abbrev nBuf : Space → Nat
  | .hbm => 37
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S1024x5632, .f32⟩
  | .hbm, ⟨23, _⟩ => ⟨S4096x5632, .f32⟩
  | .hbm, ⟨24, _⟩ => ⟨S4096x5632, .bf16⟩
  | .hbm, ⟨25, _⟩ => ⟨S1024x5632, .f32⟩
  | .hbm, ⟨26, _⟩ => ⟨S1024x5632, .bf16⟩
  | .hbm, ⟨27, _⟩ => ⟨S1024x4x1408, .bf16⟩
  | .hbm, ⟨28, _⟩ => ⟨S4x1024x1408, .bf16⟩
  | .hbm, ⟨29, _⟩ => ⟨S2816x1024, .f32⟩
  | .hbm, ⟨30, _⟩ => ⟨S2816x1024, .bf16⟩
  | .hbm, ⟨31, _⟩ => ⟨S4096x1024, .f32⟩
  | .hbm, ⟨32, _⟩ => ⟨S4096x5632, .bf16⟩
  | .hbm, ⟨33, _⟩ => ⟨S4096x1024, .bf16⟩
  | .hbm, ⟨34, _⟩ => ⟨S4096x2816, .bf16⟩
  | .hbm, ⟨35, _⟩ => ⟨S4096x1024, .bf16⟩
  | .hbm, ⟨36, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x5632, .bf16⟩
  | .local _ .vmem, ⟨6, _⟩ => ⟨S256x5632, .bf16⟩
  | .local _ .vmem, ⟨7, _⟩ => ⟨S4x1024x1408, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S256x5632, .bf16⟩
  | .local _ .vmem, ⟨12, _⟩ => ⟨S256x5632, .bf16⟩
  | .local _ .vmem, ⟨13, _⟩ => ⟨S256x1024, .bf16⟩
  | .local _ .vmem, ⟨14, _⟩ => ⟨S256x1024, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev main_v23_3 : Ref sig .tc := ⟨.hbm, 34, rfl⟩
abbrev main_v23_4 : Ref sig .tc := ⟨.hbm, 35, rfl⟩
abbrev main_v23_5 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S4096x1024 : Shape := ⟨2, ![4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩

abbrev nBuf : Space → Nat
  | .hbm => 160
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1x1024x5632, .f32⟩
  | 4 => ⟨S1x2816x1024, .f32⟩
  | 5 => ⟨S1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S1024x5632, .f32⟩
  | 27 => ⟨S2816x1024, .f32⟩
  | 28 => ⟨S4096x5632, .f32⟩
  | 29 => ⟨S4096x2816, .f32⟩
  | 30 => ⟨S4096x2816, .f32⟩
  | 31 => ⟨S4096x2816, .f32⟩
  | 32 => ⟨S4096x2816, .f32⟩
  | 33 => ⟨S_, .f32⟩
  | 34 => ⟨S4096x2816, .f32⟩
  | 35 => ⟨S4096x2816, .f32⟩
  | 36 => ⟨S_, .f32⟩
  | 37 => ⟨S4096x2816, .f32⟩
  | 38 => ⟨S4096x2816, .f32⟩
  | 39 => ⟨S_, .f32⟩
  | 40 => ⟨S4096x2816, .f32⟩
  | 41 => ⟨S4096x2816, .f32⟩
  | 42 => ⟨S4096x2816, .f32⟩
  | 43 => ⟨S4096x2816, .f32⟩
  | 44 => ⟨S4096x2816, .f32⟩
  | 45 => ⟨S4096x1024, .f32⟩
  | 46 => ⟨S_, .f32⟩
  | 47 => ⟨S4096x1024, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S4096x2816, .f32⟩
  | 55 => ⟨S4096x2816, .f32⟩
  | 56 => ⟨S4096x2816, .f32⟩
  | 57 => ⟨S4096x2816, .f32⟩
  | 58 => ⟨S4096x2816, .f32⟩
  | 59 => ⟨S4096x2816, .f32⟩
  | 60 => ⟨S4096x2816, .f32⟩
  | 61 => ⟨S4096x5632, .f32⟩
  | 62 => ⟨S4096x1024, .f32⟩
  | 63 => ⟨S4096x1024, .f32⟩
  | 64 => ⟨S_, .f32⟩
  | 65 => ⟨S1024, .f32⟩
  | 66 => ⟨S1x1024, .f32⟩
  | 67 => ⟨S4096x1024, .f32⟩
  | 68 => ⟨S4096x1024, .f32⟩
  | 69 => ⟨S_, .f32⟩
  | 70 => ⟨S1024, .f32⟩
  | 71 => ⟨S4096x1024, .f32⟩
  | 72 => ⟨S_, .f32⟩
  | 73 => ⟨S4096, .f32⟩
  | 74 => ⟨S4096x1, .f32⟩
  | 75 => ⟨S4096x1024, .f32⟩
  | 76 => ⟨S4096x1024, .f32⟩
  | 77 => ⟨S4096x1024, .f32⟩
  | 78 => ⟨S4096x1, .f32⟩
  | 79 => ⟨S_, .f32⟩
  | 80 => ⟨S4096x1, .f32⟩
  | 81 => ⟨S4096x1, .f32⟩
  | 82 => ⟨S_, .f32⟩
  | 83 => ⟨S4096, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S1x1024, .f32⟩
  | 90 => ⟨S1024, .f32⟩
  | 91 => ⟨S4096x1024, .f32⟩
  | 92 => ⟨S_, .f32⟩
  | 93 => ⟨S4096, .f32⟩
  | 94 => ⟨S4096x1, .f32⟩
  | 95 => ⟨S_, .f32⟩
  | 96 => ⟨S4096x1, .f32⟩
  | 97 => ⟨S4096x1, .f32⟩
  | 98 => ⟨S_, .f32⟩
  | 99 => ⟨S4096x1, .f32⟩
  | 100 => ⟨S4096x1, .f32⟩
  | 101 => ⟨S4096x1, .f32⟩
  | 102 => ⟨S4096x1024, .f32⟩
  | 103 => ⟨S4096x1024, .f32⟩
  | 104 => ⟨S1x1024, .f32⟩
  | 105 => ⟨S4096x1024, .f32⟩
  | 106 => ⟨S4096x1024, .f32⟩
  | 107 => ⟨S1024x5632, .f32⟩
  | 108 => ⟨S4096x5632, .f32⟩
  | 109 => ⟨S4096x2816, .f32⟩
  | 110 => ⟨S4096x2816, .f32⟩
  | 111 => ⟨S4096x2816, .f32⟩
  | 112 => ⟨S4096x2816, .f32⟩
  | 113 => ⟨S_, .f32⟩
  | 114 => ⟨S4096x2816, .f32⟩
  | 115 => ⟨S4096x2816, .f32⟩
  | 116 => ⟨S_, .f32⟩
  | 117 => ⟨S4096x2816, .f32⟩
  | 118 => ⟨S4096x2816, .f32⟩
  | 119 => ⟨S_, .f32⟩
  | 120 => ⟨S4096x2816, .f32⟩
  | 121 => ⟨S4096x2816, .f32⟩
  | 122 => ⟨S4096x2816, .f32⟩
  | 123 => ⟨S4096x2816, .f32⟩
  | 124 => ⟨S4096x2816, .f32⟩
  | 125 => ⟨S2816x1024, .f32⟩
  | 126 => ⟨S4096x1024, .f32⟩
  | 127 => ⟨S_, .f32⟩
  | _ => ⟨S4096x1024, .f32⟩

abbrev hbmTy0_1 (i : Nat) : BufTy := match i % 128 with
  | 0 => ⟨S4096x1024, .f32⟩
  | 1 => ⟨S4096x1024, .f32⟩
  | 2 => ⟨S_, .f32⟩
  | 3 => ⟨S4096x1024, .f32⟩
  | 4 => ⟨S4096x1024, .f32⟩
  | 5 => ⟨S4096x2816, .f32⟩
  | 6 => ⟨S4096x2816, .f32⟩
  | 7 => ⟨S4096x2816, .f32⟩
  | 8 => ⟨S4096x2816, .f32⟩
  | 9 => ⟨S4096x2816, .f32⟩
  | 10 => ⟨S4096x2816, .f32⟩
  | 11 => ⟨S4096x2816, .f32⟩
  | 12 => ⟨S4096x5632, .f32⟩
  | 13 => ⟨S4096x5632, .bf16⟩
  | 14 => ⟨S4096x1024, .bf16⟩
  | 15 => ⟨S4096x2816, .f32⟩
  | 16 => ⟨S4096x2816, .f32⟩
  | 17 => ⟨S4096x2816, .f32⟩
  | 18 => ⟨S4096x2816, .f32⟩
  | 19 => ⟨S_, .f32⟩
  | 20 => ⟨S4096x2816, .f32⟩
  | 21 => ⟨S4096x2816, .f32⟩
  | 22 => ⟨S_, .f32⟩
  | 23 => ⟨S4096x2816, .f32⟩
  | 24 => ⟨S4096x2816, .f32⟩
  | 25 => ⟨S4096x2816, .f32⟩
  | 26 => ⟨S4096x2816, .f32⟩
  | 27 => ⟨S4096x2816, .bf16⟩
  | 28 => ⟨S_, .f32⟩
  | 29 => ⟨S4096x1024, .f32⟩
  | 30 => ⟨S4096x1024, .f32⟩
  | 31 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v22_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v22_1 : Ref sig .tc := ⟨.hbm, 42, rfl⟩
abbrev main_v22_0 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_8 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_v64 : Ref sig .tc := ⟨.hbm, 97, rfl⟩
abbrev main_cst_12 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_call2_v0 : Ref sig .tc := ⟨.hbm, 111, rfl⟩
abbrev main_call2_v1 : Ref sig .tc := ⟨.hbm, 112, rfl⟩
abbrev main_call2_cst : Ref sig .tc := ⟨.hbm, 113, rfl⟩
abbrev main_call2_v2 : Ref sig .tc := ⟨.hbm, 114, rfl⟩
abbrev main_call2_v3 : Ref sig .tc := ⟨.hbm, 115, rfl⟩
abbrev main_call2_cst_0 : Ref sig .tc := ⟨.hbm, 116, rfl⟩
abbrev main_call2_v4 : Ref sig .tc := ⟨.hbm, 117, rfl⟩
abbrev main_v77_2 : Ref sig .tc := ⟨.hbm, 118, rfl⟩
abbrev main_call2_cst_1 : Ref sig .tc := ⟨.hbm, 119, rfl⟩
abbrev main_call2_v6 : Ref sig .tc := ⟨.hbm, 120, rfl⟩
abbrev main_call2_v7 : Ref sig .tc := ⟨.hbm, 121, rfl⟩
abbrev main_v77_1 : Ref sig .tc := ⟨.hbm, 122, rfl⟩
abbrev main_v77_0 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_13 : Ref sig .tc := ⟨.hbm, 127, rfl⟩
abbrev main_v81 : Ref sig .tc := ⟨.hbm, 128, rfl⟩
abbrev main_v82 : Ref sig .tc := ⟨.hbm, 129, rfl⟩
abbrev main_cst_14 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_call4_v0 : Ref sig .tc := ⟨.hbm, 145, rfl⟩
abbrev main_call4_v1 : Ref sig .tc := ⟨.hbm, 146, rfl⟩
abbrev main_call4_cst : Ref sig .tc := ⟨.hbm, 147, rfl⟩
abbrev main_call4_v2 : Ref sig .tc := ⟨.hbm, 148, rfl⟩
abbrev main_call4_v3 : Ref sig .tc := ⟨.hbm, 149, rfl⟩
abbrev main_call4_cst_0 : Ref sig .tc := ⟨.hbm, 150, rfl⟩
abbrev main_call4_v4 : Ref sig .tc := ⟨.hbm, 151, rfl⟩
abbrev main_call4_v5 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_cst_15 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .f32⟩
  | .hbm, ⟨3, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1x1024x1408, .bf16⟩
  | .local _ .vmem, ⟨7, _⟩ => ⟨S1x1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== Reference3Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2816x1024 : Shape := ⟨2, ![2816, 1024]⟩
abbrev S4096x5632 : Shape := ⟨2, ![4096, 5632]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 12
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024x5632, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S2816x1024, .f32⟩
  | .hbm, ⟨9, _⟩ => ⟨S2816x1024, .bf16⟩
  | .hbm, ⟨10, _⟩ => ⟨S4096x1024, .f32⟩
  | .hbm, ⟨11, _⟩ => ⟨S4096x5632, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1408, .bf16⟩
  | .local _ .vmem, ⟨4, _⟩ => ⟨S2816x1024, .bf16⟩
  | .local _ .vmem, ⟨5, _⟩ => ⟨S256x1024, .f32⟩
  | .local _ .vmem, ⟨6, _⟩ => ⟨S256x1024, .f32⟩
  | .local _ .vmem, ⟨7, _⟩ => ⟨S256x5632, .bf16⟩
  | .local _ .vmem, ⟨8, _⟩ => ⟨S256x5632, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4096x1024 : Shape := ⟨2, ![4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x5632, .f32⟩
  | .hbm, ⟨22, _⟩ => ⟨S2816x1024, .f32⟩
  | .hbm, ⟨23, _⟩ => ⟨S4096x5632, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S1024x5632, .f32⟩
  | .hbm, ⟨59, _⟩ => ⟨S4096x5632, .f32⟩
  | .hbm, ⟨60, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Kernel6.lean ====
abbrev S4096x1024 : Shape := ⟨2, ![4096, 1024]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024x1024, .f32⟩
  | .hbm, ⟨3, _⟩ => ⟨S1024x1024, .f32⟩
  | .hbm, ⟨4, _⟩ => ⟨S1024x1024, .bf16⟩
  | .hbm, ⟨5, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x1024 : Shape := ⟨2, ![4096, 1024]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .f32⟩
  | .hbm, ⟨2, _⟩ => ⟨S1024x1024, .f32⟩
  | .hbm, ⟨3, _⟩ => ⟨S1024x1024, .bf16⟩
  | .hbm, ⟨4, _⟩ => ⟨S4096x1024, .bf16⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4096x1024 : Shape := ⟨2, ![4096, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .f32⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .hbm, ⟨3, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference8Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S1x1024x2560 : Shape := ⟨3, ![1, 1024, 2560]⟩
abbrev S1024x2560 : Shape := ⟨2, ![1024, 2560]⟩
abbrev S1024x4x640 : Shape := ⟨3, ![1024, 4, 640]⟩
abbrev S4x1024x640 : Shape := ⟨3, ![4, 1024, 640]⟩
abbrev S4096x1536 : Shape := ⟨2, ![4096, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩
abbrev S1x1024x640 : Shape := ⟨3, ![1, 1024, 640]⟩
abbrev S1024x640 : Shape := ⟨2, ![1024, 640]⟩
abbrev S512x640 : Shape := ⟨2, ![512, 640]⟩
abbrev S512x384 : Shape := ⟨2, ![512, 384]⟩
abbrev S512x256 : Shape := ⟨2, ![512, 256]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2560, .f32⟩
  | .hbm, ⟨3, _⟩ => ⟨S1024x2560, .f32⟩
  | .hbm, ⟨4, _⟩ => ⟨S1024x2560, .bf16⟩
  | .hbm, ⟨5, _⟩ => ⟨S1024x4x640, .bf16⟩
  | .hbm, ⟨6, _⟩ => ⟨S4x1024x640, .bf16⟩
  | .hbm, ⟨7, _⟩ => ⟨S4096x1024, .f32⟩
  | .hbm, ⟨8, _⟩ => ⟨S4096x1536, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x640, .bf16⟩
  | .local _ .vmem, ⟨4, _⟩ => ⟨S512x1024, .f32⟩
  | .local _ .vmem, ⟨5, _⟩ => ⟨S512x1024, .f32⟩
  | .local _ .vmem, ⟨6, _⟩ => ⟨S512x1536, .bf16⟩
  | .local _ .vmem, ⟨7, _⟩ => ⟨S512x1536, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S4096x1024 : Shape := ⟨2, ![4096, 1024]⟩
abbrev S1x1024 : Shape := ⟨2, ![1, 1024]⟩
abbrev S1x1024x2560 : Shape := ⟨3, ![1, 1024, 2560]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2560 : Shape := ⟨2, ![1024, 2560]⟩
abbrev S4096x2560 : Shape := ⟨2, ![4096, 2560]⟩
abbrev S4096x512 : Shape := ⟨2, ![4096, 512]⟩
abbrev S4096x1536 : Shape := ⟨2, ![4096, 1536]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2560, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x2560, .f32⟩
  | .hbm, ⟨21, _⟩ => ⟨S4096x2560, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x1024, .f32⟩
  | .hbm, ⟨28, _⟩ => ⟨S4096x1536, .f32⟩
  | .hbm, ⟨29, _⟩ => ⟨S4096x1536, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel10.lean ====
abbrev S4096x1024 : Shape := ⟨2, ![4096, 1024]⟩
abbrev S4096x2560 : Shape := ⟨2, ![4096, 2560]⟩
abbrev S4x1024x640 : Shape := ⟨3, ![4, 1024, 640]⟩
abbrev S4096x640 : Shape := ⟨2, ![4096, 640]⟩
abbrev S1x1024x640 : Shape := ⟨3, ![1, 1024, 640]⟩
abbrev S1024x640 : Shape := ⟨2, ![1024, 640]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S4x1024x640, .f32⟩
  | .hbm, ⟨3, _⟩ => ⟨S4x1024x640, .bf16⟩
  | .local _ .vmem, ⟨0, _⟩ => ⟨S4096x1024, .bf16⟩
  | .local _ .vmem, ⟨1, _⟩ => ⟨S4096x640, .bf16⟩
  | .local _ .vmem, ⟨2, _⟩ => ⟨S4096x640, .bf16⟩
  | .local _ .vmem, ⟨3, _⟩ => ⟨S1x1024x640, .f32⟩
  | .local _ .vmem, ⟨4, _⟩ => ⟨S1x1024x640, .f32⟩
  | .local _ .vmem, ⟨5, _⟩ => ⟨S1x1024x640, .bf16⟩
  | .local _ .vmem, ⟨6, _⟩ => ⟨S1x1024x640, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== Reference10Ideal.lean ====
abbrev S4096x1024 : Shape := ⟨2, ![4096, 1024]⟩
abbrev S4096x2560 : Shape := ⟨2, ![4096, 2560]⟩
abbrev S_ : Shape := ⟨0, ![]⟩
abbrev S1024x2560 : Shape := ⟨2, ![1024, 2560]⟩
abbrev S2560x1024 : Shape := ⟨2, ![2560, 1024]⟩
abbrev S1024x4x640 : Shape := ⟨3, ![1024, 4, 640]⟩
abbrev S4x1024x640 : Shape := ⟨3, ![4, 1024, 640]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S_, .f32⟩
  | .hbm, ⟨3, _⟩ => ⟨S1024x2560, .f32⟩
  | .hbm, ⟨4, _⟩ => ⟨S4096x1024, .f32⟩
  | .hbm, ⟨5, _⟩ => ⟨S4096x2560, .f32⟩
  | .hbm, ⟨6, _⟩ => ⟨S4096x2560, .f32⟩
  | .hbm, ⟨7, _⟩ => ⟨S2560x1024, .f32⟩
  | .hbm, ⟨8, _⟩ => ⟨S1024x2560, .f32⟩
  | .hbm, ⟨9, _⟩ => ⟨S1024x4x640, .f32⟩
  | .hbm, ⟨10, _⟩ => ⟨S4x1024x640, .f32⟩
  | .hbm, ⟨11, _⟩ => ⟨S4x1024x640, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S4096x1024 : Shape := ⟨2, ![4096, 1024]⟩
abbrev S4096x2560 : Shape := ⟨2, ![4096, 2560]⟩
abbrev S1x1024x2560 : Shape := ⟨3, ![1, 1024, 2560]⟩
abbrev S1x1024 : Shape := ⟨2, ![1, 1024]⟩
abbrev S1024x2560 : Shape := ⟨2, ![1024, 2560]⟩
abbrev S1024x4x640 : Shape := ⟨3, ![1024, 4, 640]⟩
abbrev S4x1024x640 : Shape := ⟨3, ![4, 1024, 640]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩
abbrev S512x640 : Shape := ⟨2, ![512, 640]⟩
abbrev S1x1024x640 : Shape := ⟨3, ![1, 1024, 640]⟩
abbrev S1024x640 : Shape := ⟨2, ![1024, 640]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x2560, .bf16⟩
  | .hbm, ⟨2, _⟩ => ⟨S1x1024x2560, .f32⟩
  | .hbm, ⟨3, _⟩ => ⟨S4096x1024, .f32⟩
  | .hbm, ⟨4, _⟩ => ⟨S1x1024, .f32⟩
  | .hbm, ⟨5, _⟩ => ⟨S1024x2560, .f32⟩
  | .hbm, ⟨6, _⟩ => ⟨S1024x2560, .bf16⟩
  | .hbm, ⟨7, _⟩ => ⟨S1024x4x640, .bf16⟩
  | .hbm, ⟨8, _⟩ => ⟨S4x1024x640, .bf16⟩
  | .hbm, ⟨9, _⟩ => ⟨S4096x1024, .f32⟩
  | .hbm, ⟨10, _⟩ => ⟨S4096x1024, .bf16⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2560, .bf16⟩
  | .local _ .vmem, ⟨3, _⟩ => ⟨S512x2560, .bf16⟩
  | .local _ .vmem, ⟨4, _⟩ => ⟨S4x1024x640, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S4096x1024 : Shape := ⟨2, ![4096, 1024]⟩
abbrev S4096x2560 : Shape := ⟨2, ![4096, 2560]⟩
abbrev S1x1024x2560 : Shape := ⟨3, ![1, 1024, 2560]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2560 : Shape := ⟨2, ![1024, 2560]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2560, .bf16⟩
  | .hbm, ⟨2, _⟩ => ⟨S1x1024x2560, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x2560, .f32⟩
  | .hbm, ⟨27, _⟩ => ⟨S4096x2560, .f32⟩
  | .hbm, ⟨28, _⟩ => ⟨S4096x2560, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Kernel12.lean ====
abbrev S1x1024x1408 : Shape := ⟨3, ![1, 1024, 1408]⟩
abbrev S1024x1408 : Shape := ⟨2, ![1024, 1408]⟩
abbrev S128x1408 : Shape := ⟨2, ![128, 1408]⟩

abbrev nBuf : Space → Nat
  | .hbm => 10
  | .vmem => 14
  | .smem => 0
  | _ => 0

abbrev bufTy : (tb : Table) → Fin (tcTables nBuf tb) → BufTy
  | .hbm, ⟨0, _⟩ => ⟨S1x1024x1408, .f32⟩
  | .hbm, ⟨1, _⟩ => ⟨S1024x1408, .f32⟩
  | .hbm, ⟨2, _⟩ => ⟨S1x1024x1408, .f32⟩
  | .hbm, ⟨3, _⟩ => ⟨S1x1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .hbm, ⟨9, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S1x1024x1408 : Shape := ⟨3, ![1, 1024, 1408]⟩
abbrev S1024x1408 : Shape := ⟨2, ![1024, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S1024x1408, .f32⟩
  | .hbm, ⟨2, _⟩ => ⟨S1x1024x1408, .f32⟩
  | .hbm, ⟨3, _⟩ => ⟨S1x1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S_, .f32⟩
  | .hbm, ⟨11, _⟩ => ⟨S1024x1408, .f32⟩
  | .hbm, ⟨12, _⟩ => ⟨S1024x1408, .f32⟩
  | .hbm, ⟨13, _⟩ => ⟨S1024x1408, .f32⟩
  | .hbm, ⟨14, _⟩ => ⟨S_, .f32⟩
  | .hbm, ⟨15, _⟩ => ⟨S1024x1408, .f32⟩
  | .hbm, ⟨16, _⟩ => ⟨S1024x1408, .f32⟩
  | .hbm, ⟨17, _⟩ => ⟨S1024x1408, .f32⟩
  | .hbm, ⟨18, _⟩ => ⟨S_, .f32⟩
  | .hbm, ⟨19, _⟩ => ⟨S1024x1408, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S_, .f32⟩
  | .hbm, ⟨26, _⟩ => ⟨S1024x1408, .f32⟩
  | .hbm, ⟨27, _⟩ => ⟨S1024x1408, .f32⟩
  | .hbm, ⟨28, _⟩ => ⟨S1024x1408, .f32⟩
  | .hbm, ⟨29, _⟩ => ⟨S_, .f32⟩
  | .hbm, ⟨30, _⟩ => ⟨S1024x1408, .f32⟩
  | .hbm, ⟨31, _⟩ => ⟨S1024x1408, .f32⟩
  | .hbm, ⟨32, _⟩ => ⟨S1024x1408, .f32⟩
  | .hbm, ⟨33, _⟩ => ⟨S_, .f32⟩
  | .hbm, ⟨34, _⟩ => ⟨S1024x1408, .f32⟩
  | .hbm, ⟨35, _⟩ => ⟨S1024x1408, .f32⟩
  | .hbm, ⟨36, _⟩ => ⟨S1024x1408, .f32⟩
  | .hbm, ⟨37, _⟩ => ⟨S_, .f32⟩
  | .hbm, ⟨38, _⟩ => ⟨S1024x1408, .f32⟩
  | .hbm, ⟨39, _⟩ => ⟨S1024x1408, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel13.lean ====
abbrev S4096x1024 : Shape := ⟨2, ![4096, 1024]⟩
abbrev S4096x256 : Shape := ⟨2, ![4096, 256]⟩
abbrev S1x1024 : Shape := ⟨2, ![1, 1024]⟩
abbrev S1024 : Shape := ⟨1, ![1024]⟩
abbrev S1x1024x1024 : Shape := ⟨3, ![1, 1024, 1024]⟩
abbrev S1x256x1024 : Shape := ⟨3, ![1, 256, 1024]⟩
abbrev S1024x1024 : Shape := ⟨2, ![1024, 1024]⟩
abbrev S256x1024 : Shape := ⟨2, ![256, 1024]⟩
abbrev S256x4x256 : Shape := ⟨3, ![256, 4, 256]⟩
abbrev S4x256x256 : Shape := ⟨3, ![4, 256, 256]⟩
abbrev S1x128 : Shape := ⟨2, ![1, 128]⟩
abbrev S256x256 : Shape := ⟨2, ![256, 256]⟩
abbrev S256 : Shape := ⟨1, ![256]⟩
abbrev S256x1 : Shape := ⟨2, ![256, 1]⟩
abbrev S1x256x256 : Shape := ⟨3, ![1, 256, 256]⟩
abbrev S1 : Shape := ⟨1, ![1]⟩
abbrev S1x1x1 : Shape := ⟨3, ![1, 1, 1]⟩

abbrev nBuf : Space → Nat
  | .hbm => 22
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S1x1024, .f32⟩
  | .hbm, ⟨4, _⟩ => ⟨S1024, .f32⟩
  | .hbm, ⟨5, _⟩ => ⟨S1x1024x1024, .f32⟩
  | .hbm, ⟨6, _⟩ => ⟨S1x256x1024, .f32⟩
  | .hbm, ⟨7, _⟩ => ⟨S1x1024, .f32⟩
  | .hbm, ⟨8, _⟩ => ⟨S1024x1024, .f32⟩
  | .hbm, ⟨9, _⟩ => ⟨S1024x1024, .bf16⟩
  | .hbm, ⟨10, _⟩ => ⟨S256x1024, .f32⟩
  | .hbm, ⟨11, _⟩ => ⟨S256x1024, .bf16⟩
  | .hbm, ⟨12, _⟩ => ⟨S256x4x256, .bf16⟩
  | .hbm, ⟨13, _⟩ => ⟨S4x256x256, .bf16⟩
  | .hbm, ⟨14, _⟩ => ⟨S1x128, .f32⟩
  | .hbm, ⟨15, _⟩ => ⟨S1x1024, .f32⟩
  | .hbm, ⟨16, _⟩ => ⟨S1x1024, .f32⟩
  | .hbm, ⟨17, _⟩ => ⟨S4096x1024, .f32⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S4096x256, .bf16⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S4x256x256, .bf16⟩
  | .local _ .vmem, ⟨10, _⟩ => ⟨S1x128, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x256, .bf16⟩
  | .local _ .vmem, ⟨22, _⟩ => ⟨S256x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_v7_6 : Ref sig .tc := ⟨.hbm, 20, rfl⟩
abbrev main_v7_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference13Ideal.lean ====
abbrev S4096x1024 : Shape := ⟨2, ![4096, 1024]⟩
abbrev S4096x256 : Shape := ⟨2, ![4096, 256]⟩
abbrev S1x1024 : Shape := ⟨2, ![1, 1024]⟩
abbrev S1024 : Shape := ⟨1, ![1024]⟩
abbrev S1x1024x1024 : Shape := ⟨3, ![1, 1024, 1024]⟩
abbrev S1x256x1024 : Shape := ⟨3, ![1, 256, 1024]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S256x1024 : Shape := ⟨2, ![256, 1024]⟩
abbrev S1x128 : Shape := ⟨2, ![1, 128]⟩

abbrev nBuf : Space → Nat
  | .hbm => 250
  | .vmem => 0
  | .smem => 0
  | _ => 0

abbrev hbmTy0_0 (i : Nat) : BufTy := match i % 128 with
  | 0 => ⟨S4096x1024, .f32⟩
  | 1 => ⟨S4096x256, .f32⟩
  | 2 => ⟨S4096x1024, .f32⟩
  | 3 => ⟨S1x1024, .f32⟩
  | 4 => ⟨S1024, .f32⟩
  | 5 => ⟨S1x1024x1024, .f32⟩
  | 6 => ⟨S1x256x1024, .f32⟩
  | 7 => ⟨S1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S1x1024, .f32⟩
  | 26 => ⟨S4096x1024, .f32⟩
  | 27 => ⟨S4096x1024, .f32⟩
  | 28 => ⟨S1024x1024, .f32⟩
  | 29 => ⟨S4096x1024, .f32⟩
  | 30 => ⟨S4096x1024, .f32⟩
  | 31 => ⟨S4096x1024, .f32⟩
  | 32 => ⟨S_, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S_, .f32⟩
  | 39 => ⟨S4096x1024, .f32⟩
  | 40 => ⟨S4096x1024, .f32⟩
  | 41 => ⟨S4096x1024, .f32⟩
  | 42 => ⟨S256x1024, .f32⟩
  | 43 => ⟨S4096x1024, .f32⟩
  | 44 => ⟨S4096x1024, .f32⟩
  | 45 => ⟨S4096x1024, .f32⟩
  | 46 => ⟨S4096x1024, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x1024, .f32⟩
  | 62 => ⟨S4096x1024, .f32⟩
  | 63 => ⟨S1x1024, .f32⟩
  | 64 => ⟨S4096x1024, .f32⟩
  | 65 => ⟨S4096x1024, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S_, .f32⟩
  | 72 => ⟨S4096, .f32⟩
  | 73 => ⟨S_, .f32⟩
  | 74 => ⟨S4096, .f32⟩
  | 75 => ⟨S4096, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S4096, .f32⟩
  | 84 => ⟨S_, .f32⟩
  | 85 => ⟨S4096, .f32⟩
  | 86 => ⟨S4096, .f32⟩
  | 87 => ⟨S4096x1024, .f32⟩
  | 88 => ⟨S4096x1024, .f32⟩
  | 89 => ⟨S4096x1024, .f32⟩
  | 90 => ⟨S_, .f32⟩
  | 91 => ⟨S1024, .f32⟩
  | 92 => ⟨S1x1024, .f32⟩
  | 93 => ⟨S4096x1024, .f32⟩
  | 94 => ⟨S4096x1024, .f32⟩
  | 95 => ⟨S_, .f32⟩
  | 96 => ⟨S1024, .f32⟩
  | 97 => ⟨S4096x1024, .f32⟩
  | 98 => ⟨S_, .f32⟩
  | 99 => ⟨S4096, .f32⟩
  | 100 => ⟨S4096x1, .f32⟩
  | 101 => ⟨S4096x1024, .f32⟩
  | 102 => ⟨S4096x1024, .f32⟩
  | 103 => ⟨S4096x1, .f32⟩
  | 104 => ⟨S_, .f32⟩
  | 105 => ⟨S4096x1, .f32⟩
  | 106 => ⟨S4096x1, .f32⟩
  | 107 => ⟨S_, .f32⟩
  | 108 => ⟨S4096, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S_, .f32⟩
  | 119 => ⟨S1024, .f32⟩
  | 120 => ⟨S1x1024, .f32⟩
  | 121 => ⟨S4096x1024, .f32⟩
  | 122 => ⟨S4096x1024, .f32⟩
  | 123 => ⟨S_, .f32⟩
  | 124 => ⟨S1024, .f32⟩
  | 125 => ⟨S4096x1024, .f32⟩
  | 126 => ⟨S_, .f32⟩
  | 127 => ⟨S4096, .f32⟩
  | _ => ⟨S4096x1024, .f32⟩

abbrev hbmTy0_1 (i : Nat) : BufTy := match i % 128 with
  | 0 => ⟨S4096x1, .f32⟩
  | 1 => ⟨S4096x1024, .f32⟩
  | 2 => ⟨S4096x1024, .f32⟩
  | 3 => ⟨S4096x1024, .f32⟩
  | 4 => ⟨S4096x1, .f32⟩
  | 5 => ⟨S_, .f32⟩
  | 6 => ⟨S4096x1, .f32⟩
  | 7 => ⟨S4096x1, .f32⟩
  | 8 => ⟨S_, .f32⟩
  | 9 => ⟨S4096, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S1x1024, .f32⟩
  | 16 => ⟨S1024, .f32⟩
  | 17 => ⟨S4096x1024, .f32⟩
  | 18 => ⟨S_, .f32⟩
  | 19 => ⟨S4096, .f32⟩
  | 20 => ⟨S4096x1, .f32⟩
  | 21 => ⟨S_, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1, .f32⟩
  | 28 => ⟨S4096x1024, .f32⟩
  | 29 => ⟨S4096x1024, .f32⟩
  | 30 => ⟨S1x1024, .f32⟩
  | 31 => ⟨S4096x1024, .f32⟩
  | 32 => ⟨S4096x1024, .f32⟩
  | 33 => ⟨S1024x1024, .f32⟩
  | 34 => ⟨S4096x1024, .f32⟩
  | 35 => ⟨S256x1024, .f32⟩
  | 36 => ⟨S4096x1024, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S_, .f32⟩
  | 43 => ⟨S4096x1024, .f32⟩
  | 44 => ⟨S4096x1024, .f32⟩
  | 45 => ⟨S_, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S_, .f32⟩
  | 53 => ⟨S4096, .f32⟩
  | 54 => ⟨S4096x1, .f32⟩
  | 55 => ⟨S_, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x1024, .f32⟩
  | 67 => ⟨S4096x1024, .f32⟩
  | 68 => ⟨S1x1024, .f32⟩
  | 69 => ⟨S4096x1024, .f32⟩
  | 70 => ⟨S4096x1024, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S_, .f32⟩
  | 77 => ⟨S4096, .f32⟩
  | 78 => ⟨S_, .f32⟩
  | 79 => ⟨S4096, .f32⟩
  | 80 => ⟨S4096, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S4096, .f32⟩
  | 89 => ⟨S_, .f32⟩
  | 90 => ⟨S4096, .f32⟩
  | 91 => ⟨S4096, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S_, .f32⟩
  | 98 => ⟨S4096, .f32⟩
  | 99 => ⟨S4096x1, .f32⟩
  | 100 => ⟨S4096x1024, .f32⟩
  | 101 => ⟨S4096x1024, .f32⟩
  | 102 => ⟨S4096x1, .f32⟩
  | 103 => ⟨S_, .f32⟩
  | 104 => ⟨S4096x1, .f32⟩
  | 105 => ⟨S4096x1, .f32⟩
  | 106 => ⟨S_, .f32⟩
  | 107 => ⟨S4096, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S1x128, .f32⟩
  | 117 => ⟨S1x1024, .f32⟩
  | 118 => ⟨S4096x1024, .bf16⟩
  | 119 => ⟨S4096x1024, .bf16⟩
  | 120 => ⟨S4096x1024, .bf16⟩
  | 121 => ⟨S4096x256, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_cst_15 : Ref sig .tc := ⟨.hbm, 80, rfl⟩
abbrev main_cst_16 : Ref sig .tc := ⟨.hbm, 81, rfl⟩
abbrev main_v57 : Ref sig .tc := ⟨.hbm, 82, rfl⟩
abbrev main_v58 : Ref sig .tc := ⟨.hbm, 83, rfl⟩
abbrev main_cst_17 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_18 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_19 : Ref sig .tc := ⟨.hbm, 95, rfl⟩
abbrev main_v68 : Ref sig .tc := ⟨.hbm, 96, rfl⟩
abbrev main_v69 : Ref sig .tc := ⟨.hbm, 97, rfl⟩
abbrev main_cst_20 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_21 : Ref sig .tc := ⟨.hbm, 104, rfl⟩
abbrev main_v75 : Ref sig .tc := ⟨.hbm, 105, rfl⟩
abbrev main_v76 : Ref sig .tc := ⟨.hbm, 106, rfl⟩
abbrev main_cst_22 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_23 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_24 : Ref sig .tc := ⟨.hbm, 123, rfl⟩
abbrev main_v91 : Ref sig .tc := ⟨.hbm, 124, rfl⟩
abbrev main_v92 : Ref sig .tc := ⟨.hbm, 125, rfl⟩
abbrev main_cst_25 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_26 : Ref sig .tc := ⟨.hbm, 133, rfl⟩
abbrev main_v99 : Ref sig .tc := ⟨.hbm, 134, rfl⟩
abbrev main_v100 : Ref sig .tc := ⟨.hbm, 135, rfl⟩
abbrev main_cst_27 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_28 : Ref sig .tc := ⟨.hbm, 146, rfl⟩
abbrev main_v110 : Ref sig .tc := ⟨.hbm, 147, rfl⟩
abbrev main_v111 : Ref sig .tc := ⟨.hbm, 148, rfl⟩
abbrev main_cst_29 : Ref sig .tc := ⟨.hbm, 149, rfl⟩
abbrev main_v112 : Ref sig .tc := ⟨.hbm, 150, rfl⟩
abbrev main_v113 : Ref sig .tc := ⟨.hbm, 151, rfl⟩
abbrev main_cst_30 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_31 : Ref sig .tc := ⟨.hbm, 167, rfl⟩
abbrev main_v128 : Ref sig .tc := ⟨.hbm, 168, rfl⟩
abbrev main_v129 : Ref sig .tc := ⟨.hbm, 169, rfl⟩
abbrev main_cst_32 : Ref sig .tc := ⟨.hbm, 170, rfl⟩
abbrev main_v130 : Ref sig .tc := ⟨.hbm, 171, rfl⟩
abbrev main_v131 : Ref sig .tc := ⟨.hbm, 172, rfl⟩
abbrev main_cst_33 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_cst_34 : Ref sig .tc := ⟨.hbm, 180, rfl⟩
abbrev main_v138 : Ref sig .tc := ⟨.hbm, 181, rfl⟩
abbrev main_v139 : Ref sig .tc := ⟨.hbm, 182, rfl⟩
abbrev main_cst_35 : Ref sig .tc := ⟨.hbm, 183, rfl⟩
abbrev main_v140 : Ref sig .tc := ⟨.hbm, 184, rfl⟩
abbrev main_v141 : Ref sig .tc := ⟨.hbm, 185, rfl⟩
abbrev main_cst_36 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_cst_37 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_cst_38 : Ref sig .tc := ⟨.hbm, 201, rfl⟩
abbrev main_v155 : Ref sig .tc := ⟨.hbm, 202, rfl⟩
abbrev main_v156 : Ref sig .tc := ⟨.hbm, 203, rfl⟩
abbrev main_cst_39 : Ref sig .tc := ⟨.hbm, 204, rfl⟩
abbrev main_v157 : Ref sig .tc := ⟨.hbm, 205, rfl⟩
abbrev main_cst_40 : Ref sig .tc := ⟨.hbm, 206, rfl⟩
abbrev main_v158 : Ref sig .tc := ⟨.hbm, 207, rfl⟩
abbrev main_v159 : Ref sig .tc := ⟨.hbm, 208, rfl⟩
abbrev main_cst_41 : Ref sig .tc := ⟨.hbm, 209, rfl⟩
abbrev main_v160 : Ref sig .tc := ⟨.hbm, 210, rfl⟩
abbrev main_cst_42 : Ref sig .tc := ⟨.hbm, 211, rfl⟩
abbrev main_v161 : Ref sig .tc := ⟨.hbm, 212, rfl⟩
abbrev main_cst_43 : Ref sig .tc := ⟨.hbm, 213, rfl⟩
abbrev main_cst_44 : Ref sig .tc := ⟨.hbm, 214, rfl⟩
abbrev main_v162 : Ref sig .tc := ⟨.hbm, 215, rfl⟩
abbrev main_v163 : Ref sig .tc := ⟨.hbm, 216, rfl⟩
abbrev main_cst_45 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_cst_46 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_cst_47 : Ref sig .tc := ⟨.hbm, 231, rfl⟩
abbrev main_v176 : Ref sig .tc := ⟨.hbm, 232, rfl⟩
abbrev main_v177 : Ref sig .tc := ⟨.hbm, 233, rfl⟩
abbrev main_cst_48 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩
abbrev S4096x256 : Shape := ⟨2, ![4096, 256]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .hbm, ⟨3, _⟩ => ⟨S1024x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference14Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S4096x256 : Shape := ⟨2, ![4096, 256]⟩
abbrev S4096x1024 : Shape := ⟨2, ![4096, 1024]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S4x256x256, .f32⟩
  | .hbm, ⟨3, _⟩ => ⟨S4x256x256, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S1x256x256, .f32⟩
  | .local _ .vmem, ⟨4, _⟩ => ⟨S1x256x256, .f32⟩
  | .local _ .vmem, ⟨5, _⟩ => ⟨S1x256x256, .bf16⟩
  | .local _ .vmem, ⟨6, _⟩ => ⟨S1x256x256, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== Reference15Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x4x256, .f32⟩
  | .hbm, ⟨10, _⟩ => ⟨S4x256x256, .f32⟩
  | .hbm, ⟨11, _⟩ => ⟨S4x256x256, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel16.lean ====
abbrev S4096x1024 : Shape := ⟨2, ![4096, 1024]⟩
abbrev S1x512 : Shape := ⟨2, ![1, 512]⟩
abbrev S1x4x128x128 : Shape := ⟨4, ![1, 4, 128, 128]⟩
abbrev S1x4x128 : Shape := ⟨3, ![1, 4, 128]⟩
abbrev S4x128x128 : Shape := ⟨3, ![4, 128, 128]⟩
abbrev S4x128 : Shape := ⟨2, ![4, 128]⟩
abbrev S128x4 : Shape := ⟨2, ![128, 4]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S4096x512 : Shape := ⟨2, ![4096, 512]⟩

abbrev nBuf : Space → Nat
  | .hbm => 9
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x512, .f32⟩
  | .hbm, ⟨2, _⟩ => ⟨S1x4x128x128, .f32⟩
  | .hbm, ⟨3, _⟩ => ⟨S1x4x128, .f32⟩
  | .hbm, ⟨4, _⟩ => ⟨S4x128x128, .f32⟩
  | .hbm, ⟨5, _⟩ => ⟨S4x128, .f32⟩
  | .hbm, ⟨6, _⟩ => ⟨S128x4, .f32⟩
  | .hbm, ⟨7, _⟩ => ⟨S4096x1024, .bf16⟩
  | .hbm, ⟨8, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S1x512, .f32⟩
  | .local _ .vmem, ⟨3, _⟩ => ⟨S4x128x128, .f32⟩
  | .local _ .vmem, ⟨4, _⟩ => ⟨S128x4, .f32⟩
  | .local _ .vmem, ⟨5, _⟩ => ⟨S512x512, .bf16⟩
  | .local _ .vmem, ⟨6, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel16Ideal.lean ====
variable {F : FTy → Type} [FloatOps F] [Named F]
def κ : String → Option EReal := fun
  | "inv_sqrt_two" => some (((Real.sqrt 2)⁻¹ : ℝ) : EReal)
  | _ => none
-- ==== Reference16Ideal.lean ====
abbrev S4096x1024 : Shape := ⟨2, ![4096, 1024]⟩
abbrev S1x512 : Shape := ⟨2, ![1, 512]⟩
abbrev S1x4x128x128 : Shape := ⟨4, ![1, 4, 128, 128]⟩
abbrev S1x4x128 : Shape := ⟨3, ![1, 4, 128]⟩
abbrev S1x4096x1024 : Shape := ⟨3, ![1, 4096, 1024]⟩
abbrev S1x4096x512 : Shape := ⟨3, ![1, 4096, 512]⟩
abbrev S_ : Shape := ⟨0, ![]⟩
abbrev S512 : Shape := ⟨1, ![512]⟩
abbrev S4x128x128 : Shape := ⟨3, ![4, 128, 128]⟩
abbrev S4x128 : Shape := ⟨2, ![4, 128]⟩
abbrev S1x4096 : Shape := ⟨2, ![1, 4096]⟩
abbrev S1x4096x1 : Shape := ⟨3, ![1, 4096, 1]⟩
abbrev S1x1x512 : Shape := ⟨3, ![1, 1, 512]⟩
abbrev S1x32x128x4x128 : Shape := ⟨5, ![1, 32, 128, 4, 128]⟩
abbrev S128x128 : Shape := ⟨2, ![128, 128]⟩
abbrev S1x128x128 : Shape := ⟨3, ![1, 128, 128]⟩
abbrev S4x1x32x128x128 : Shape := ⟨5, ![4, 1, 32, 128, 128]⟩
abbrev S128x4 : Shape := ⟨2, ![128, 4]⟩
abbrev S1x1x128x4x1 : Shape := ⟨5, ![1, 1, 128, 4, 1]⟩
abbrev S4096x512 : Shape := ⟨2, ![4096, 512]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x512, .f32⟩
  | .hbm, ⟨2, _⟩ => ⟨S1x4x128x128, .f32⟩
  | .hbm, ⟨3, _⟩ => ⟨S1x4x128, .f32⟩
  | .hbm, ⟨4, _⟩ => ⟨S1x4096x1024, .f32⟩
  | .hbm, ⟨5, _⟩ => ⟨S1x4096x512, .f32⟩
  | .hbm, ⟨6, _⟩ => ⟨S1x4096x512, .f32⟩
  | .hbm, ⟨7, _⟩ => ⟨S_, .f32⟩
  | .hbm, ⟨8, _⟩ => ⟨S1x4096x512, .f32⟩
  | .hbm, ⟨9, _⟩ => ⟨S1x4096x512, .f32⟩
  | .hbm, ⟨10, _⟩ => ⟨S1x4096x512, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x4096x512, .f32⟩
  | .hbm, ⟨15, _⟩ => ⟨S1x4096x512, .f32⟩
  | .hbm, ⟨16, _⟩ => ⟨S1x4096x512, .f32⟩
  | .hbm, ⟨17, _⟩ => ⟨S1x4096x512, .f32⟩
  | .hbm, ⟨18, _⟩ => ⟨S_, .f32⟩
  | .hbm, ⟨19, _⟩ => ⟨S1x4096x512, .f32⟩
  | .hbm, ⟨20, _⟩ => ⟨S1x4096x512, .f32⟩
  | .hbm, ⟨21, _⟩ => ⟨S1x4096x512, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x4096x512, .f32⟩
  | .hbm, ⟨26, _⟩ => ⟨S1x4096x512, .f32⟩
  | .hbm, ⟨27, _⟩ => ⟨S1x4096x512, .f32⟩
  | .hbm, ⟨28, _⟩ => ⟨S1x4096x512, .f32⟩
  | .hbm, ⟨29, _⟩ => ⟨S512, .f32⟩
  | .hbm, ⟨30, _⟩ => ⟨S4x128x128, .f32⟩
  | .hbm, ⟨31, _⟩ => ⟨S4x128, .f32⟩
  | .hbm, ⟨32, _⟩ => ⟨S1x4096x512, .f32⟩
  | .hbm, ⟨33, _⟩ => ⟨S_, .f32⟩
  | .hbm, ⟨34, _⟩ => ⟨S1x4096, .f32⟩
  | .hbm, ⟨35, _⟩ => ⟨S1x4096x1, .f32⟩
  | .hbm, ⟨36, _⟩ => ⟨S_, .f32⟩
  | .hbm, ⟨37, _⟩ => ⟨S1x4096x1, .f32⟩
  | .hbm, ⟨38, _⟩ => ⟨S1x4096x1, .f32⟩
  | .hbm, ⟨39, _⟩ => ⟨S_, .f32⟩
  | .hbm, ⟨40, _⟩ => ⟨S1x4096x1, .f32⟩
  | .hbm, ⟨41, _⟩ => ⟨S1x4096x1, .f32⟩
  | .hbm, ⟨42, _⟩ => ⟨S1x4096x1, .f32⟩
  | .hbm, ⟨43, _⟩ => ⟨S1x4096x512, .f32⟩
  | .hbm, ⟨44, _⟩ => ⟨S1x4096x512, .f32⟩
  | .hbm, ⟨45, _⟩ => ⟨S1x1x512, .f32⟩
  | .hbm, ⟨46, _⟩ => ⟨S1x4096x512, .f32⟩
  | .hbm, ⟨47, _⟩ => ⟨S1x4096x512, .f32⟩
  | .hbm, ⟨48, _⟩ => ⟨S1x32x128x4x128, .f32⟩
  | .hbm, ⟨49, _⟩ => ⟨S_, .i1⟩
  | .hbm, ⟨50, _⟩ => ⟨S128x128, .i1⟩
  | .hbm, ⟨51, _⟩ => ⟨S128x128, .i32⟩
  | .hbm, ⟨52, _⟩ => ⟨S_, .i32⟩
  | .hbm, ⟨53, _⟩ => ⟨S128x128, .i32⟩
  | .hbm, ⟨54, _⟩ => ⟨S128x128, .i32⟩
  | .hbm, ⟨55, _⟩ => ⟨S128x128, .i32⟩
  | .hbm, ⟨56, _⟩ => ⟨S128x128, .i1⟩
  | .hbm, ⟨57, _⟩ => ⟨S_, .i1⟩
  | .hbm, ⟨58, _⟩ => ⟨S128x128, .i1⟩
  | .hbm, ⟨59, _⟩ => ⟨S128x128, .i1⟩
  | .hbm, ⟨60, _⟩ => ⟨S1x128x128, .i1⟩
  | .hbm, ⟨61, _⟩ => ⟨S_, .f32⟩
  | .hbm, ⟨62, _⟩ => ⟨S4x128x128, .f32⟩
  | .hbm, ⟨63, _⟩ => ⟨S4x128x128, .i1⟩
  | .hbm, ⟨64, _⟩ => ⟨S4x128x128, .f32⟩
  | .hbm, ⟨65, _⟩ => ⟨S4x1x32x128x128, .f32⟩
  | .hbm, ⟨66, _⟩ => ⟨S1x32x128x4x128, .f32⟩
  | .hbm, ⟨67, _⟩ => ⟨S128x4, .f32⟩
  | .hbm, ⟨68, _⟩ => ⟨S1x1x128x4x1, .f32⟩
  | .hbm, ⟨69, _⟩ => ⟨S1x32x128x4x128, .f32⟩
  | .hbm, ⟨70, _⟩ => ⟨S1x32x128x4x128, .f32⟩
  | .hbm, ⟨71, _⟩ => ⟨S1x4096x512, .f32⟩
  | .hbm, ⟨72, _⟩ => ⟨S1x4096x512, .f32⟩
  | .hbm, ⟨73, _⟩ => ⟨S4096x512, .f32⟩
  | .hbm, ⟨74, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c : Ref sig .tc := ⟨.hbm, 49, rfl⟩
abbrev main_v38 : Ref sig .tc := ⟨.hbm, 50, rfl⟩
abbrev main_call0_v0 : Ref sig .tc := ⟨.hbm, 51, rfl⟩
abbrev main_call0_c : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_c_0 : Ref sig .tc := ⟨.hbm, 57, rfl⟩
abbrev main_call0_v5 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_call1_v0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Proof.Spec.lean ====
module

public import Idealize.ShloMosaic.Lib.Pointwise
public import Idealize.ShloMosaic.Lib.Pipeline.ValueKit

/-! # The gradient of the chunked gMLP as formulas

What the kernel and the reference are both shown to compute, entry by entry, over the extended reals: `z` holds the
rows of the two halves before gelu, `ct` the cotangent, `g` the gain of the norm, `w` and `b` the weights and biases
of the four heads. -/

@[expose] public section

noncomputable section
open Idealize.ShloMosaic

namespace Cert.Gmlp

/-- The arguments: rows before gelu, cotangent, gain, weights and biases of the heads. -/
structure Args where
  z : Fin 4096 → Fin 1024 → EReal
  ct : Fin 4096 → Fin 512 → EReal
  g : Fin 512 → EReal
  w : Fin 4 → Fin 128 → Fin 128 → EReal
  b : Fin 4 → Fin 128 → EReal

/-- A column of the first half. -/
abbrev lo (j : Fin 512) : Fin 1024 := ⟨j.val, by omega⟩
/-- A column of the second half. -/
abbrev hi (j : Fin 512) : Fin 1024 := ⟨512 + j.val, by omega⟩
/-- The head a column belongs to. -/
abbrev head (j : Fin 512) : Fin 4 := ⟨j.val / 128, by omega⟩
/-- Column `d` of head `h`. -/
abbrev col (h : Fin 4) (d : Fin 128) : Fin 512 := ⟨128 * h.val + d.val, by omega⟩
/-- Row `s` of the chunk that row `i` lies in. -/
abbrev peer (i : Fin 4096) (s : Fin 128) : Fin 4096 := ⟨128 * (i.val / 128) + s.val, by omega⟩
/-- The place of row `i` in its chunk. -/
abbrev place (i : Fin 4096) : Fin 128 := ⟨i.val % 128, by omega⟩
/-- Row `s` of chunk `q`. -/
abbrev chunkRow (q : Fin 32) (s : Fin 128) : Fin 4096 := ⟨128 * q.val + s.val, by omega⟩

/-- The real number `1/√2`. -/
def invSqrtTwo : EReal := (((Real.sqrt 2)⁻¹ : ℝ) : EReal)
/-- The constant of gelu's derivative. -/
def geluSlope : EReal := ((((9465531 / 16777216 : ℝ)) * (Real.sqrt 2)⁻¹ : ℝ) : EReal)

/-- The mean's divisor, the width of the norm. -/
abbrev width : EReal := Ideal.ofBits .f32 0x44000000#32
/-- The term that keeps the norm's root away from zero. -/
abbrev eps : EReal := Ideal.ofBits .f32 0x358637BD#32
/-- One half. -/
abbrev half : EReal := Ideal.ofBits .f32 0x3F000000#32
/-- Minus one half. -/
abbrev negHalf : EReal := Ideal.ofBits .f32 0xBF000000#32

/-- gelu. -/
def gelu (x : EReal) : EReal := half * x * (1 + Ideal.erf (x * invSqrtTwo))
/-- gelu's derivative. -/
def geluGrad (x : EReal) : EReal :=
  half * (1 + Ideal.erf (x * invSqrtTwo)) + x * Ideal.exp (negHalf * x * x) * geluSlope

namespace Args
variable (A : Args)

/-- The first half after gelu. -/
def u (i : Fin 4096) (j : Fin 512) : EReal := gelu (A.z i (lo j))
/-- The second half after gelu. -/
def v (i : Fin 4096) (j : Fin 512) : EReal := gelu (A.z i (hi j))
/-- The mean square of a row, with `eps` added. -/
def ms (i : Fin 4096) : EReal := Ideal.div (∑ k, A.v i k * A.v i k) width + eps
/-- One over the root of it. -/
def r (i : Fin 4096) : EReal := Ideal.rsqrt (A.ms i)
/-- The normalized second half. -/
def vn (i : Fin 4096) (j : Fin 512) : EReal := A.v i j * A.r i * A.g j
/-- The cotangent of the mixed second half. -/
def dsv (i : Fin 4096) (j : Fin 512) : EReal := A.ct i j * A.u i j
/-- The causal weights. -/
def wm (h : Fin 4) (t s : Fin 128) : EReal := if s.val ≤ t.val then A.w h t s else 0
/-- The mixed second half. -/
def sv (i : Fin 4096) (j : Fin 512) : EReal :=
  (∑ s, A.wm (head j) (place i) s * A.vn (peer i s) j) + A.b (head j) (place i)
/-- The cotangent of the normalized second half. -/
def dvn (i : Fin 4096) (j : Fin 512) : EReal := ∑ t, A.wm (head j) t (place i) * A.dsv (peer i t) j
/-- The cotangent of the first half after gelu. -/
def du (i : Fin 4096) (j : Fin 512) : EReal := A.ct i j * A.sv i j
/-- The cotangent of the second half after gelu, back through the norm. -/
def dv (i : Fin 4096) (j : Fin 512) : EReal :=
  A.r i * (A.dvn i j * A.g j)
    - A.v i j * (A.r i * A.r i * A.r i) * Ideal.div (∑ k, A.dvn i k * A.g k * A.v i k) width
/-- The gradient of the rows before gelu, first half. -/
def dzu (i : Fin 4096) (j : Fin 512) : EReal := A.du i j * geluGrad (A.z i (lo j))
/-- The gradient of the rows before gelu, second half. -/
def dzv (i : Fin 4096) (j : Fin 512) : EReal := A.dv i j * geluGrad (A.z i (hi j))
/-- The gradient of the rows before gelu. -/
def dz (i : Fin 4096) (j : Fin 1024) : EReal :=
  if h : j.val < 512 then A.dzu i ⟨j.val, h⟩ else A.dzv i ⟨j.val - 512, by omega⟩
/-- What chunk `q` adds to the gradient of the weights. -/
def dwAt (q : Fin 32) (h : Fin 4) (t s : Fin 128) : EReal :=
  ∑ d, A.dsv (chunkRow q t) (col h d) * A.vn (chunkRow q s) (col h d)
/-- The gradient of the weights. -/
def dw (h : Fin 4) (t s : Fin 128) : EReal := if s.val ≤ t.val then ∑ q, A.dwAt q h t s else 0
/-- The gradient of the biases. -/
def db (t : Fin 128) (h : Fin 4) : EReal := ∑ q, ∑ d, A.dsv (chunkRow q t) (col h d)
/-- The gradient of the gain. -/
def dg (j : Fin 512) : EReal := ∑ i, A.dvn i j * A.v i j * A.r i

end Args
end Cert.Gmlp
end
-- ==== Proof.Block.lean ====
module

public import proofs.«01_k».proof.Proof.Gen.KernelIdeal.Skeleton
public import proofs.«01_k».proof.Proof.Spec
public import Idealize.ShloMosaic.Lib.WordCmp

/-! # What one block of 512 rows computes

The kernel's payloads, entry by entry, over the rows of block `t`. -/

@[expose] public section

set_option maxRecDepth 16384

noncomputable section
open Idealize.ShloMosaic Idealize.ShloMosaic.TcCoe Idealize.SL.Sem Cert.Gmlp
namespace Cert.KernelIdeal.Val
open Cert.KernelIdeal Cert.KernelIdeal.Gen

/-- Row `i` of block `t`. -/
abbrev row (t : Fin 8) (i : Fin 512) : Fin 4096 := ⟨512 * t.val + i.val, by omega⟩

theorem named_geluSlope : Named.named (F := Ideal) κ "inv_sqrt_two_pi" (φ := .f32) 0x3ECC422A#32 = geluSlope := by
  simp only [Named.named, κ, geluSlope, Option.getD_some]

section
variable (A : Args) (t : Fin 8) (zu zv : Vec Ideal S512x512 .f32) (dgm : Vec Ideal S512x512 .bf16) (gv : Vec Ideal S1x512 .f32)

theorem pay4_at (i j : Fin 512) : k0_pay4 zv (ix2 i j) = gelu (zv (ix2 i j)) := by
  pointwise [k0_pay4]
  rfl

theorem pay4_row (hz : ∀ i j, zv (ix2 i j) = A.z (row t i) (hi j)) (i j : Fin 512) :
    k0_pay4 zv (ix2 i j) = A.v (row t i) j := by
  rw [pay4_at, hz]; rfl

theorem pay5_row (hz : ∀ i j, zv (ix2 i j) = A.z (row t i) (hi j)) (i : Fin 512) :
    k0_pay5 zv (ix2 i 0) = A.r (row t i) := by
  pointwise [k0_pay5]
  simp only [pay4_row A t zv hz]
  rfl

theorem pay6_row (hz : ∀ i j, zv (ix2 i j) = A.z (row t i) (hi j)) (hg : ∀ j, gv (ix2 0 j) = A.g j) (i j : Fin 512) :
    k0_pay6 zv gv (ix2 i j) = A.vn (row t i) j := by
  have e4 := pay4_row A t zv hz i j
  have e5 := pay5_row A t zv hz i
  unfold k0_pay6
  generalize k0_pay4 zv = a at *
  generalize k0_pay5 zv = b at *
  pointwise
  rw [e4, e5, hg]; rfl

theorem pay8_row (hz : ∀ i j, zu (ix2 i j) = A.z (row t i) (lo j)) (hc : ∀ i j, dgm (ix2 i j) = A.ct (row t i) j)
    (i j : Fin 512) : k0_pay8 zu dgm (ix2 i j) = A.dsv (row t i) j := by
  pointwise [k0_pay8, k0_pay7]
  rw [hc, hz]; rfl

theorem gelu_tail_u (X : FVec Ideal S512x512 .f32) (i j : Fin 512) :
    k0_pay82 zu X k0_pay81 (ix2 i j) = X (ix2 i j) * geluGrad (zu (ix2 i j)) := by
  pointwise [k0_pay82, k0_pay81]
  rw [named_geluSlope]
  rfl

theorem gelu_tail_v (X : FVec Ideal S512x512 .f32) (i j : Fin 512) :
    k0_pay83 zv X (ix2 i j) = X (ix2 i j) * geluGrad (zv (ix2 i j)) := by
  pointwise [k0_pay83]
  rw [named_geluSlope]
  rfl

end

/-! ## The heads' pieces -/

/-- The causal mask. -/
abbrev causal : IVec S128x128 1 :=
  cmpi CmpIPredicate.sge (iota Kind.tc S128x128 32 [0] iota_S128x128_d0_w32) (iota Kind.tc S128x128 32 [1] iota_S128x128_d1_w32)

/-- A head's weights under the mask. -/
abbrev masked (w : Vec Ideal S1x128x128 .f32) : FVec Ideal S128x128 .bf16 :=
  truncf FTy.bf16 (select causal (shapeCast S128x128 w shapeCasts_S1x128x128_S128x128)
    (broadcast S128x128 (FloatOps.ofBits FTy.f32 0#32))) bitsLt_bf16_f32

section
variable (A : Args) (t : Fin 8) (h : Fin 4) (r cc : ℕ) (hs : S512x512.Slices ![r, cc] S128x128)

/-- The rows `r …` and columns `cc …` of the product with the transposed weights. -/
theorem dvn_piece (w : Vec Ideal S1x128x128 .f32) (X : FVec Ideal S512x512 .bf16) (hw : ∀ a b, w (ix3 0 a b) = A.w h a b)
    (hX : ∀ i j, X (ix2 i j) = A.dsv (row t i) j) (q : Fin 4) (hr : r = 128 * q.val) (hc : cc = 128 * h.val) (a b : Fin 128) :
    matmul dot_S128x128_S128x128_S128x128_0_0_1_1_n_n none (masked w) (extractStridedSlice S128x128 ![r, cc] X hs)
      (constant S128x128 FTy.f32 0#32) (ix2 a b) = A.dvn (row t ⟨r + a.val, by omega⟩) ⟨cc + b.val, by omega⟩ := by
  pointwise
  subst hr hc
  unfold Args.dvn
  refine Finset.sum_congr rfl fun k _ => ?_
  rw [hw, hX, WordCmp.cmpi_sge_ofNat (by omega) (by omega), WordCmp.select_ofBool]
  unfold Args.wm
  have e1 : head ⟨128 * h.val + b.val, by omega⟩ = h := Fin.ext (by simp only; omega)
  have e2 : place (row t ⟨128 * q.val + a.val, by omega⟩) = a := Fin.ext (by simp only; omega)
  have e3 : peer (row t ⟨128 * q.val + a.val, by omega⟩) k = row t ⟨128 * q.val + k.val, by omega⟩ := Fin.ext (by simp only; omega)
  rw [e1, e2, e3]
  by_cases hk : a.val ≤ k.val <;> simp [hk]

/-- The rows `r …` and columns `cc …` of the cotangent times the mixed half. -/
theorem du_piece (w : Vec Ideal S1x128x128 .f32) (V : FVec Ideal S512x512 .bf16) (D : FVec Ideal S512x512 .f32) (bt : Vec Ideal S128x1 .f32)
    (hw : ∀ a b, w (ix3 0 a b) = A.w h a b) (hb : ∀ a, bt (ix2 a 0) = A.b h a)
    (hV : ∀ i j, V (ix2 i j) = A.vn (row t i) j) (hD : ∀ i j, D (ix2 i j) = A.ct (row t i) j)
    (q : Fin 4) (hr : r = 128 * q.val) (hc : cc = 128 * h.val) (a b : Fin 128) :
    mulf (extractStridedSlice S128x128 ![r, cc] D hs)
      (addf (matmul dot_S128x128_S128x128_S128x128_1_0_0_1_n_n none (masked w) (extractStridedSlice S128x128 ![r, cc] V hs)
        (constant S128x128 FTy.f32 0#32)) (broadcastTo S128x128 (shapeCast S128x1 bt shapeCasts_S128x1_S128x1) broadcasts_S128x1_S128x128))
      (ix2 a b) = A.du (row t ⟨r + a.val, by omega⟩) ⟨cc + b.val, by omega⟩ := by
  pointwise
  subst hr hc
  have e1 : head ⟨128 * h.val + b.val, by omega⟩ = h := Fin.ext (by simp only; omega)
  have e2 : place (row t ⟨128 * q.val + a.val, by omega⟩) = a := Fin.ext (by simp only; omega)
  have e3 : ∀ k : Fin 128, peer (row t ⟨128 * q.val + a.val, by omega⟩) k = row t ⟨128 * q.val + k.val, by omega⟩ :=
    fun k => Fin.ext (by simp only; omega)
  unfold Args.du Args.sv
  rw [hD, hb, e1, e2]
  congr 2
  refine Finset.sum_congr rfl fun k _ => ?_
  rw [hw, hV, WordCmp.cmpi_sge_ofNat (by omega) (by omega), WordCmp.select_ofBool, e3]
  unfold Args.wm
  by_cases hk : k.val ≤ a.val <;> simp [hk]

/-- Four blocks of rows under each other. -/
theorem stack_rows (C0 C1 C2 C3 : FVec Ideal S128x128 .f32) (F : Fin 512 → Fin 128 → EReal)
    (h0 : ∀ a b, C0 (ix2 a b) = F ⟨0 + a.val, by omega⟩ b) (h1 : ∀ a b, C1 (ix2 a b) = F ⟨128 + a.val, by omega⟩ b)
    (h2 : ∀ a b, C2 (ix2 a b) = F ⟨256 + a.val, by omega⟩ b) (h3 : ∀ a b, C3 (ix2 a b) = F ⟨384 + a.val, by omega⟩ b)
    (hc) (i : Fin 512) (b : Fin 128) :
    concatenate S512x128 0 [⟨S128x128, C0⟩, ⟨S128x128, C1⟩, ⟨S128x128, C2⟩, ⟨S128x128, C3⟩] hc (ix2 i b) = F i b := by
  pointwise
  simp only [h0, h1, h2, h3]
  split
  · congr 1; ext; simp
  split
  · congr 1; ext; simp only; omega
  split
  · congr 1; ext; simp only; omega
  · congr 1; ext; simp only; omega

/-- Four blocks of columns beside each other. -/
theorem stack_cols (C0 C1 C2 C3 : FVec Ideal S512x128 .f32) (F : Fin 512 → Fin 512 → EReal)
    (h0 : ∀ i b, C0 (ix2 i b) = F i ⟨0 + b.val, by omega⟩) (h1 : ∀ i b, C1 (ix2 i b) = F i ⟨128 + b.val, by omega⟩)
    (h2 : ∀ i b, C2 (ix2 i b) = F i ⟨256 + b.val, by omega⟩) (h3 : ∀ i b, C3 (ix2 i b) = F i ⟨384 + b.val, by omega⟩)
    (hc) (i j : Fin 512) :
    concatenate S512x512 1 [⟨S512x128, C0⟩, ⟨S512x128, C1⟩, ⟨S512x128, C2⟩, ⟨S512x128, C3⟩] hc (ix2 i j) = F i j := by
  pointwise
  simp only [h0, h1, h2, h3]
  split
  · congr 1; ext; simp
  split
  · congr 1; ext; simp only; omega
  split
  · congr 1; ext; simp only; omega
  · congr 1; ext; simp only; omega

/-- What one chunk adds to the gradient of a head's weights. -/
theorem dw_piece (X V : FVec Ideal S512x512 .bf16) (hX : ∀ i j, X (ix2 i j) = A.dsv (row t i) j)
    (hV : ∀ i j, V (ix2 i j) = A.vn (row t i) j) (q : Fin 4) (hr : r = 128 * q.val) (hc : cc = 128 * h.val) (a b : Fin 128) :
    matmul dot_S128x128_S128x128_S128x128_1_1_0_0_n_n none (extractStridedSlice S128x128 ![r, cc] X hs)
      (extractStridedSlice S128x128 ![r, cc] V hs) (constant S128x128 FTy.f32 0#32) (ix2 a b)
      = A.dwAt ⟨4 * t.val + q.val, by omega⟩ h a b := by
  pointwise
  subst hr hc
  unfold Args.dwAt
  refine Finset.sum_congr rfl fun k _ => ?_
  rw [hX, hV]
  have e : ∀ k : Fin 128, row t ⟨128 * q.val + k.val, by omega⟩ = chunkRow ⟨4 * t.val + q.val, by omega⟩ k :=
    fun k => Fin.ext (by simp only; omega)
  rw [e, e]

/-- What one chunk adds to the gradient of a head's bias. -/
theorem db_piece (X : FVec Ideal S512x512 .bf16) (hX : ∀ i j, X (ix2 i j) = A.dsv (row t i) j)
    (q : Fin 4) (hr : r = 128 * q.val) (hc : cc = 128 * h.val) (a : Fin 128) :
    shapeCast S128x1 (multiReduction .add [1] S128 (extf .f32 (extractStridedSlice S128x128 ![r, cc] X hs) bitsLt_bf16_f32)
      0x00000000#32 reduces_S128x128_S128 (.inl rfl) rfl) shapeCasts_S128_S128x1 (ix2 a 0)
      = ∑ d, A.dsv (chunkRow ⟨4 * t.val + q.val, by omega⟩ a) (col h d) := by
  pointwise
  subst hr hc
  refine Finset.sum_congr rfl fun k _ => ?_
  rw [hX]
  have e : ∀ k : Fin 128, row t ⟨128 * q.val + k.val, by omega⟩ = chunkRow ⟨4 * t.val + q.val, by omega⟩ k :=
    fun k => Fin.ext (by simp only; omega)
  rw [e]

/-- A chunk's product of the mixed half's gradient with the normed half. -/
abbrev dwTile (X V : FVec Ideal S512x512 .bf16) (r cc : ℕ) (hs : S512x512.Slices ![r, cc] S128x128) : FVec Ideal S128x128 .f32 :=
  matmul dot_S128x128_S128x128_S128x128_1_1_0_0_n_n none (extractStridedSlice S128x128 ![r, cc] X hs)
    (extractStridedSlice S128x128 ![r, cc] V hs) (constant S128x128 FTy.f32 0#32)

/-- A chunk's row sums of the mixed half's gradient. -/
abbrev dbTile (X : FVec Ideal S512x512 .bf16) (r cc : ℕ) (hs : S512x512.Slices ![r, cc] S128x128) : FVec Ideal S128x1 .f32 :=
  shapeCast S128x1 (multiReduction .add [1] S128 (extf .f32 (extractStridedSlice S128x128 ![r, cc] X hs) bitsLt_bf16_f32)
    0x00000000#32 reduces_S128x128_S128 (.inl rfl) rfl) shapeCasts_S128_S128x1

/-- Four chunks added up from zero. -/
abbrev four (S : Shape) (D0 D1 D2 D3 : FVec Ideal S .f32) : FVec Ideal S .f32 :=
  addf (addf (addf (addf (broadcast S (FloatOps.ofBits FTy.f32 0#32)) D0) D1) D2) D3

/-- What block `t` adds to the weights' gradient. -/
def dwTerm (h : Fin 4) (a b : Fin 128) : EReal :=
  if b.val ≤ a.val then ∑ q : Fin 4, A.dwAt ⟨4 * t.val + q.val, by omega⟩ h a b else 0

/-- What block `t` adds to the biases' gradient. -/
def dbTerm (h : Fin 4) (a : Fin 128) : EReal :=
  ∑ q : Fin 4, ∑ d, A.dsv (chunkRow ⟨4 * t.val + q.val, by omega⟩ a) (col h d)

/-- The four chunks of a block added up, under the mask, to what a head's gradient held. -/
theorem dw_head (X V : FVec Ideal S512x512 .bf16) (hX : ∀ i j, X (ix2 i j) = A.dsv (row t i) j)
    (hV : ∀ i j, V (ix2 i j) = A.vn (row t i) j) (hc : cc = 128 * h.val) (P : Vec Ideal S1x128x128 .f32)
    (h0 : S512x512.Slices ![0, cc] S128x128) (h1 : S512x512.Slices ![128, cc] S128x128)
    (h2 : S512x512.Slices ![256, cc] S128x128) (h3 : S512x512.Slices ![384, cc] S128x128)
    (y0 : Fin 4) (y1 y2 : Fin 128) (x : S1x128x128.Idx) (e0 : y0 = h) (e1 : y1.val = (x 1).val) (e2 : y2.val = (x 2).val) :
    shapeCast S1x128x128 (addf (shapeCast S128x128 P shapeCasts_S1x128x128_S128x128)
      (select causal (four S128x128 (dwTile X V 0 cc h0) (dwTile X V 128 cc h1) (dwTile X V 256 cc h2) (dwTile X V 384 cc h3))
        (broadcast S128x128 (FloatOps.ofBits FTy.f32 0#32)))) shapeCasts_S128x128_S1x128x128 x
      = P x + dwTerm A t y0 y1 y2 := by
  idx_vars x
  obtain rfl : x0 = 0 := Subsingleton.elim _ _
  obtain rfl := e0
  obtain rfl : y1 = x1 := Fin.ext e1
  obtain rfl : y2 = x2 := Fin.ext e2
  have e0 : dwTile X V 0 cc h0 (ix2 y1 y2) = _ := dw_piece A t y0 _ cc h0 X V hX hV 0 rfl hc y1 y2
  have e1 : dwTile X V 128 cc h1 (ix2 y1 y2) = _ := dw_piece A t y0 _ cc h1 X V hX hV 1 rfl hc y1 y2
  have e2 : dwTile X V 256 cc h2 (ix2 y1 y2) = _ := dw_piece A t y0 _ cc h2 X V hX hV 2 rfl hc y1 y2
  have e3 : dwTile X V 384 cc h3 (ix2 y1 y2) = _ := dw_piece A t y0 _ cc h3 X V hX hV 3 rfl hc y1 y2
  generalize dwTile X V 0 cc h0 = M0 at *
  generalize dwTile X V 128 cc h1 = M1 at *
  generalize dwTile X V 256 cc h2 = M2 at *
  generalize dwTile X V 384 cc h3 = M3 at *
  unfold dwTerm
  pointwise
  rw [WordCmp.cmpi_sge_ofNat (by omega) (by omega), WordCmp.select_ofBool, e0, e1, e2, e3, Fin.sum_univ_four]
  simp only [decide_eq_true_eq]

omit A t h cc in
theorem add_four (P D0 D1 D2 D3 : FVec Ideal S128x1 .f32) (a : Fin 128) :
    addf (shapeCast S128x1 P shapeCasts_S128x1_S128x1) (four S128x1 D0 D1 D2 D3) (ix2 a 0)
      = P (ix2 a 0) + (D0 (ix2 a 0) + D1 (ix2 a 0) + D2 (ix2 a 0) + D3 (ix2 a 0)) := by
  pointwise

/-- The four chunks of a block added up to what a head's bias gradient held. -/
theorem db_head (X : FVec Ideal S512x512 .bf16) (hX : ∀ i j, X (ix2 i j) = A.dsv (row t i) j)
    (hc : cc = 128 * h.val) (P : Vec Ideal S128x1 .f32)
    (h0 : S512x512.Slices ![0, cc] S128x128) (h1 : S512x512.Slices ![128, cc] S128x128)
    (h2 : S512x512.Slices ![256, cc] S128x128) (h3 : S512x512.Slices ![384, cc] S128x128)
    (y0 : Fin 4) (y1 : Fin 128) (x : S128x1.Idx) (e0 : y0 = h) (e1 : y1.val = (x 0).val) :
    addf (shapeCast S128x1 P shapeCasts_S128x1_S128x1)
      (four S128x1 (dbTile X 0 cc h0) (dbTile X 128 cc h1) (dbTile X 256 cc h2) (dbTile X 384 cc h3)) x
      = P x + dbTerm A t y0 y1 := by
  idx_vars x
  obtain rfl : x1 = 0 := Subsingleton.elim _ _
  obtain rfl := e0
  obtain rfl : y1 = x0 := Fin.ext e1
  have e0 : dbTile X 0 cc h0 (ix2 y1 0) = _ := db_piece A t y0 _ cc h0 X hX 0 rfl hc y1
  have e1 : dbTile X 128 cc h1 (ix2 y1 0) = _ := db_piece A t y0 _ cc h1 X hX 1 rfl hc y1
  have e2 : dbTile X 256 cc h2 (ix2 y1 0) = _ := db_piece A t y0 _ cc h2 X hX 2 rfl hc y1
  have e3 : dbTile X 384 cc h3 (ix2 y1 0) = _ := db_piece A t y0 _ cc h3 X hX 3 rfl hc y1
  rw [add_four, e0, e1, e2, e3, dbTerm, Fin.sum_univ_four]

end

/-! ## The two full matrices, from their pieces -/

/-- A tile of the product with a head's transposed weights. -/
abbrev dvnTile (w : Vec Ideal S1x128x128 .f32) (X : FVec Ideal S512x512 .bf16) (r cc : ℕ) (hs : S512x512.Slices ![r, cc] S128x128) :
    FVec Ideal S128x128 .f32 :=
  matmul dot_S128x128_S128x128_S128x128_0_0_1_1_n_n none (masked w) (extractStridedSlice S128x128 ![r, cc] X hs)
    (constant S128x128 FTy.f32 0#32)

/-- A tile of the cotangent times the mixed half. -/
abbrev duTile (w : Vec Ideal S1x128x128 .f32) (bt : Vec Ideal S128x1 .f32) (D : FVec Ideal S512x512 .f32) (V : FVec Ideal S512x512 .bf16)
    (r cc : ℕ) (hs : S512x512.Slices ![r, cc] S128x128) : FVec Ideal S128x128 .f32 :=
  mulf (extractStridedSlice S128x128 ![r, cc] D hs)
    (addf (matmul dot_S128x128_S128x128_S128x128_1_0_0_1_n_n none (masked w) (extractStridedSlice S128x128 ![r, cc] V hs)
      (constant S128x128 FTy.f32 0#32)) (broadcastTo S128x128 (shapeCast S128x1 bt shapeCasts_S128x1_S128x1) broadcasts_S128x1_S128x128))

/-- Four tiles under each other: a head's columns. -/
abbrev under (C0 C1 C2 C3 : FVec Ideal S128x128 .f32) : FVec Ideal S512x128 .f32 :=
  concatenate S512x128 0 [⟨S128x128, C0⟩, ⟨S128x128, C1⟩, ⟨S128x128, C2⟩, ⟨S128x128, C3⟩]
    concatenates_S128x128_S128x128_S128x128_S128x128_S512x128_d0

abbrev dvnCol (w : Vec Ideal S1x128x128 .f32) (X : FVec Ideal S512x512 .bf16) (cc : ℕ)
    (h0 : S512x512.Slices ![0, cc] S128x128 := by decide) (h1 : S512x512.Slices ![128, cc] S128x128 := by decide)
    (h2 : S512x512.Slices ![256, cc] S128x128 := by decide) (h3 : S512x512.Slices ![384, cc] S128x128 := by decide) :
    FVec Ideal S512x128 .f32 :=
  under (dvnTile w X 0 cc h0) (dvnTile w X 128 cc h1) (dvnTile w X 256 cc h2) (dvnTile w X 384 cc h3)

abbrev duCol (w : Vec Ideal S1x128x128 .f32) (bt : Vec Ideal S128x1 .f32) (D : FVec Ideal S512x512 .f32) (V : FVec Ideal S512x512 .bf16) (cc : ℕ)
    (h0 : S512x512.Slices ![0, cc] S128x128 := by decide) (h1 : S512x512.Slices ![128, cc] S128x128 := by decide)
    (h2 : S512x512.Slices ![256, cc] S128x128 := by decide) (h3 : S512x512.Slices ![384, cc] S128x128 := by decide) :
    FVec Ideal S512x128 .f32 :=
  under (duTile w bt D V 0 cc h0) (duTile w bt D V 128 cc h1) (duTile w bt D V 256 cc h2) (duTile w bt D V 384 cc h3)

section
variable (A : Args) (t : Fin 8)

theorem dvn_col (h : Fin 4) (cc : ℕ) (w : Vec Ideal S1x128x128 .f32) (X : FVec Ideal S512x512 .bf16) (hw : ∀ a b, w (ix3 0 a b) = A.w h a b)
    (hX : ∀ i j, X (ix2 i j) = A.dsv (row t i) j) (hc : cc = 128 * h.val) (h0) (h1) (h2) (h3) (i : Fin 512) (b : Fin 128) :
    dvnCol w X cc h0 h1 h2 h3 (ix2 i b) = A.dvn (row t i) ⟨cc + b.val, by omega⟩ :=
  stack_rows _ _ _ _ (fun i b => A.dvn (row t i) ⟨cc + b.val, by omega⟩) (dvn_piece A t h _ _ _ _ _ hw hX 0 rfl hc)
    (dvn_piece A t h _ _ _ _ _ hw hX 1 rfl hc) (dvn_piece A t h _ _ _ _ _ hw hX 2 rfl hc) (dvn_piece A t h _ _ _ _ _ hw hX 3 rfl hc)
    concatenates_S128x128_S128x128_S128x128_S128x128_S512x128_d0 i b

theorem du_col (h : Fin 4) (cc : ℕ) (w : Vec Ideal S1x128x128 .f32) (bt : Vec Ideal S128x1 .f32) (D : FVec Ideal S512x512 .f32)
    (V : FVec Ideal S512x512 .bf16) (hw : ∀ a b, w (ix3 0 a b) = A.w h a b) (hb : ∀ a, bt (ix2 a 0) = A.b h a)
    (hV : ∀ i j, V (ix2 i j) = A.vn (row t i) j) (hD : ∀ i j, D (ix2 i j) = A.ct (row t i) j)
    (hc : cc = 128 * h.val) (h0) (h1) (h2) (h3) (i : Fin 512) (b : Fin 128) :
    duCol w bt D V cc h0 h1 h2 h3 (ix2 i b) = A.du (row t i) ⟨cc + b.val, by omega⟩ :=
  stack_rows _ _ _ _ (fun i b => A.du (row t i) ⟨cc + b.val, by omega⟩) (du_piece A t h _ _ _ _ _ _ _ hw hb hV hD 0 rfl hc)
    (du_piece A t h _ _ _ _ _ _ _ hw hb hV hD 1 rfl hc) (du_piece A t h _ _ _ _ _ _ _ hw hb hV hD 2 rfl hc)
    (du_piece A t h _ _ _ _ _ _ _ hw hb hV hD 3 rfl hc)
    concatenates_S128x128_S128x128_S128x128_S128x128_S512x128_d0 i b

variable (w0 w1 w2 w3 : Vec Ideal S1x128x128 .f32) (b0 b1 b2 b3 : Vec Ideal S128x1 .f32)
  (X X' V V' : FVec Ideal S512x512 .bf16) (D D' : FVec Ideal S512x512 .f32)

theorem dvn_all (hw0 : ∀ a b, w0 (ix3 0 a b) = A.w 0 a b) (hw1 : ∀ a b, w1 (ix3 0 a b) = A.w 1 a b)
    (hw2 : ∀ a b, w2 (ix3 0 a b) = A.w 2 a b) (hw3 : ∀ a b, w3 (ix3 0 a b) = A.w 3 a b)
    (hX : ∀ i j, X (ix2 i j) = A.dsv (row t i) j) (hX' : ∀ i j, X' (ix2 i j) = A.dsv (row t i) j) (i j : Fin 512) :
    k0_pay78 (dvnCol w0 X 0) (dvnCol w1 X 128) (dvnCol w2 X 256) (dvnTile w3 X' 0 384 (by decide))
      (dvnTile w3 X' 128 384 (by decide)) (dvnTile w3 X' 256 384 (by decide)) (dvnTile w3 X' 384 384 (by decide)) (ix2 i j)
      = A.dvn (row t i) j :=
  stack_cols _ _ _ _ (fun i j => A.dvn (row t i) j) (dvn_col A t 0 0 _ _ hw0 hX rfl _ _ _ _) (dvn_col A t 1 128 _ _ hw1 hX rfl _ _ _ _)
    (dvn_col A t 2 256 _ _ hw2 hX rfl _ _ _ _) (dvn_col A t 3 384 _ _ hw3 hX' rfl _ _ _ _)
    concatenates_S512x128_S512x128_S512x128_S512x128_S512x512_d1 i j

theorem du_all (hw0 : ∀ a b, w0 (ix3 0 a b) = A.w 0 a b) (hw1 : ∀ a b, w1 (ix3 0 a b) = A.w 1 a b)
    (hw2 : ∀ a b, w2 (ix3 0 a b) = A.w 2 a b) (hw3 : ∀ a b, w3 (ix3 0 a b) = A.w 3 a b)
    (hb0 : ∀ a, b0 (ix2 a 0) = A.b 0 a) (hb1 : ∀ a, b1 (ix2 a 0) = A.b 1 a) (hb2 : ∀ a, b2 (ix2 a 0) = A.b 2 a)
    (hb3 : ∀ a, b3 (ix2 a 0) = A.b 3 a)
    (hV : ∀ i j, V (ix2 i j) = A.vn (row t i) j) (hV' : ∀ i j, V' (ix2 i j) = A.vn (row t i) j)
    (hD : ∀ i j, D (ix2 i j) = A.ct (row t i) j) (hD' : ∀ i j, D' (ix2 i j) = A.ct (row t i) j) (i j : Fin 512) :
    k0_pay77 (duCol w0 b0 D V 0) (duCol w1 b1 D V 128) (duCol w2 b2 D V 256)
      (duTile w3 b3 D' V' 0 384 (by decide)) (duTile w3 b3 D' V' 128 384 (by decide))
      (duTile w3 b3 D' V' 256 384 (by decide)) (duTile w3 b3 D' V' 384 384 (by decide)) (ix2 i j)
      = A.du (row t i) j :=
  stack_cols _ _ _ _ (fun i j => A.du (row t i) j) (du_col A t 0 0 _ _ _ _ hw0 hb0 hV hD rfl _ _ _ _)
    (du_col A t 1 128 _ _ _ _ hw1 hb1 hV hD rfl _ _ _ _) (du_col A t 2 256 _ _ _ _ hw2 hb2 hV hD rfl _ _ _ _)
    (du_col A t 3 384 _ _ _ _ hw3 hb3 hV' hD' rfl _ _ _ _)
    concatenates_S512x128_S512x128_S512x128_S512x128_S512x512_d1 i j

end

/-! ## The norm's backward pass -/

section
variable (A : Args) (t : Fin 8) (zv : Vec Ideal S512x512 .f32) (gv : Vec Ideal S1x512 .f32)
  (C0 C1 C2 : FVec Ideal S512x128 .f32) (M0 M1 M2 M3 : FVec Ideal S128x128 .f32)

theorem dzv_block (hz : ∀ i j, zv (ix2 i j) = A.z (row t i) (hi j)) (hg : ∀ j, gv (ix2 0 j) = A.g j)
    (hX : ∀ i j, k0_pay78 C0 C1 C2 M0 M1 M2 M3 (ix2 i j) = A.dvn (row t i) j) (i j : Fin 512) :
    k0_pay83 zv (k0_pay79 (k0_pay4 zv) (k0_pay5 zv) gv C0 C1 C2 M0 M1 M2 M3) (ix2 i j) = A.dzv (row t i) j := by
  have e4 := pay4_row A t zv hz
  have e5 := pay5_row A t zv hz
  rw [gelu_tail_v, hz]
  unfold k0_pay79 Args.dzv
  congr 1
  generalize k0_pay78 C0 C1 C2 M0 M1 M2 M3 = X at *
  generalize k0_pay4 zv = a at *
  generalize k0_pay5 zv = b at *
  pointwise
  simp only [e4, e5, hX, hg]
  rfl

theorem dg_block (P : Vec Ideal S1x512 .f32) (hz : ∀ i j, zv (ix2 i j) = A.z (row t i) (hi j))
    (hX : ∀ i j, k0_pay78 C0 C1 C2 M0 M1 M2 M3 (ix2 i j) = A.dvn (row t i) j) (j : Fin 512) :
    k0_pay80 (k0_pay4 zv) (k0_pay5 zv) C0 C1 C2 M0 M1 M2 M3 P (ix2 0 j)
      = P (ix2 0 j) + ∑ i, A.dvn (row t i) j * A.v (row t i) j * A.r (row t i) := by
  have e4 := pay4_row A t zv hz
  have e5 := pay5_row A t zv hz
  unfold k0_pay80
  generalize k0_pay78 C0 C1 C2 M0 M1 M2 M3 = X at *
  generalize k0_pay4 zv = a at *
  generalize k0_pay5 zv = b at *
  pointwise
  simp only [e4, e5, hX]

end
end Cert.KernelIdeal.Val
end
-- ==== Proof.Reads.lean ====
module

public import proofs.«01_k».proof.Proof.Gen.KernelIdeal.Frame
public import proofs.«01_k».proof.Proof.Block

/-! # The blocks of the arguments

What each block of an argument holds at a grid point, by the argument's entries. -/

@[expose] public section

set_option maxRecDepth 16384

noncomputable section
open Idealize.ShloMosaic Idealize.ShloMosaic.TcCoe Idealize.SL.Sem Cert.Gmlp
open Idealize.ShloMosaic.Pipeline (Dat)
namespace Cert.KernelIdeal.Val
open Cert.KernelIdeal Cert.KernelIdeal.Gen

variable (m : (ℓ : Loc nD τ sig) → Buf (Elt Ideal) ℓ) (c : Dev nD)

/-- The kernel's arguments. -/
def args : Args where
  z i j := (m ((c : Thread nD τ).loc main_arg0) : FVec Ideal S4096x1024 .f32) (ix2 i j)
  ct i j := (m ((c : Thread nD τ).loc main_arg1) : FVec Ideal S4096x1024 .bf16) (ix2 i (lo j))
  g j := (m ((c : Thread nD τ).loc main_arg2) : FVec Ideal S1x512 .f32) (ix2 0 j)
  w h a b := (m ((c : Thread nD τ).loc main_arg3) : FVec Ideal S1x4x128x128 .f32) (ix4 0 h a b)
  b h a := (m ((c : Thread nD τ).loc main_arg4) : FVec Ideal S1x4x128 .f32) (ix3 0 h a)

/-- The number of a grid point. -/
abbrev num (t : Fin cfg0.N) : Fin 8 := ⟨t.val, lt_of_lt_of_eq t.isLt N_0⟩

theorem idx : ∀ t : Fin cfg0.N, win0_0.index t = ![t.val, 0] ∧ win0_1.index t = ![t.val, 0] ∧ win0_2.index t = ![0, 0]
    ∧ win0_3.index t = ![0, 0, 0] ∧ win0_4.index t = ![0, 0] ∧ win0_5.index t = ![t.val, 0] ∧ win0_6.index t = ![0, 0, 0]
    ∧ win0_7.index t = ![0, 0] ∧ win0_8.index t = ![0, 0] :=
  (by decide +kernel : ∀ t : Fin grid0.N, _)

variable (t : Fin cfg0.N)

theorem read_zu (h) (i j : Fin 512) : (View.ld (iblk m c 0 t) (Rect.unit ![0, 0] ![512, 512] h) : Vec Ideal S512x512 .f32) (ix2 i j)
    = (args m c).z (row (num t) i) (lo j) := by
  pointwise [args]
  blk_point [iblk, V, idx t]

theorem read_zv (h) (i j : Fin 512) : (View.ld (iblk m c 0 t) (Rect.unit ![0, 512] ![512, 512] h) : Vec Ideal S512x512 .f32) (ix2 i j)
    = (args m c).z (row (num t) i) (hi j) := by
  pointwise [args]
  blk_point [iblk, V, idx t]

theorem read_ct (i j : Fin 512) : (iblk m c 1 t : Vec Ideal S512x512 .bf16) (ix2 i j) = (args m c).ct (row (num t) i) j := by
  pointwise [args]
  blk_point [iblk, V, idx t]

theorem read_g (j : Fin 512) : (iblk m c 2 t : Vec Ideal S1x512 .f32) (ix2 0 j) = (args m c).g j := by
  pointwise [args]
  blk_point [iblk, V, idx t]

theorem read_w (hd : Fin 4) (o : ℕ) (e : o = hd.val) (h) (a b : Fin 128) :
    (View.ld (iblk m c 3 t) (Rect.unit ![o, 0, 0] ![1, 128, 128] h) : Vec Ideal S1x128x128 .f32) (ix3 0 a b) = (args m c).w hd a b := by
  subst e
  pointwise [args]
  blk_simp [iblk, idx t]
  entry_read
  pointwise
  blk_point [iblk, V, idx t]

theorem read_b (hd : Fin 4) (o : ℕ) (e : o = hd.val) (h) (a : Fin 128) :
    (View.ld (iblk m c 4 t) (Rect.unit ![0, o] ![128, 1] h) : Vec Ideal S128x1 .f32) (ix2 a 0) = (args m c).b hd a := by
  subst e
  pointwise [args]
  blk_simp [iblk, idx t]
  entry_read
  pointwise
  blk_point [iblk, V, idx t]

/-! ### Reads through a window's buffer -/

theorem zu_at (Y) (e : Y = iblk m c 0 t) (h) (i j : Fin 512) :
    (View.ld Y (Rect.unit ![0, 0] ![512, 512] h) : Vec Ideal S512x512 .f32) (ix2 i j) = (args m c).z (row (num t) i) (lo j) := by
  subst e; exact read_zu m c t h i j

theorem zv_at (Y) (e : Y = iblk m c 0 t) (h) (i j : Fin 512) :
    (View.ld Y (Rect.unit ![0, 512] ![512, 512] h) : Vec Ideal S512x512 .f32) (ix2 i j) = (args m c).z (row (num t) i) (hi j) := by
  subst e; exact read_zv m c t h i j

theorem ct_at (Y) (e : Y = iblk m c 1 t) (h) (i j : Fin 512) :
    (View.ld Y (Rect.unit ![0, 0] ![512, 512] h) : Vec Ideal S512x512 .bf16) (ix2 i j) = (args m c).ct (row (num t) i) j := by
  subst e
  pointwise [args]
  blk_point [iblk, V, idx t]

theorem g_at (Y) (e : Y = iblk m c 2 t) (h) (j : Fin 512) :
    (View.ld Y (Rect.unit ![0, 0] ![1, 512] h) : Vec Ideal S1x512 .f32) (ix2 0 j) = (args m c).g j := by
  subst e
  pointwise [args]
  blk_point [iblk, V, idx t]

theorem w_at (Y) (e : Y = iblk m c 3 t) (hd : Fin 4) (o : ℕ) (eo : o = hd.val) (h) (a b : Fin 128) :
    (View.ld Y (Rect.unit ![o, 0, 0] ![1, 128, 128] h) : Vec Ideal S1x128x128 .f32) (ix3 0 a b) = (args m c).w hd a b := by
  subst e; exact read_w m c t hd o eo h a b

theorem b_at (Y) (e : Y = iblk m c 4 t) (hd : Fin 4) (o : ℕ) (eo : o = hd.val) (h) (a : Fin 128) :
    (View.ld Y (Rect.unit ![0, o] ![128, 1] h) : Vec Ideal S128x1 .f32) (ix2 a 0) = (args m c).b hd a := by
  subst e; exact read_b m c t hd o eo h a

end Cert.KernelIdeal.Val
end
-- ==== Proof.Outputs.lean ====
module

public import proofs.«01_k».proof.Proof.Reads
public import Idealize.ShloMosaic.Lib.Pipeline.ReadBack

/-! # What a grid point leaves in the outputs' buffers -/

@[expose] public section

set_option maxRecDepth 16384

noncomputable section
open Idealize.ShloMosaic Idealize.ShloMosaic.TcCoe Idealize.SL.Sem Cert.Gmlp
open Idealize.ShloMosaic.Pipeline (Dat)
namespace Cert.KernelIdeal.Val
open Cert.KernelIdeal Cert.KernelIdeal.Gen

/-- Stores that cover an index hide what was stored before. -/
theorem canon_append_of_cover {Val : EltTy → Type} {S : Shape} {e : EltTy} [∀ e, Nonempty (Val e)] (L' : List (View.Piece Val S e)) :
    ∀ (L : List (View.Piece Val S e)) (y : S.Idx), (∃ p ∈ L, y ∈ p.1.set) → View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · obtain ⟨q, hq, hyq⟩ := hy
      rcases List.mem_cons.mp hq with rfl | hq
      · exact absurd hyq hm
      · rw [List.cons_append, View.canon_cons_of_not_mem _ _ hm, View.canon_cons_of_not_mem _ _ hm]
        exact canon_append_of_cover L' L y ⟨q, hq, hyq⟩

variable (m : (ℓ : Loc nD τ sig) → Buf (Elt Ideal) ℓ) (c : Dev nD) (t : Fin cfg0.N)

/-! ### The point's gradients, from its reads -/

theorem vn_at (Y0 Y2) (e0 : Y0 = iblk m c 0 t) (e2 : Y2 = iblk m c 2 t) (h h') (i j : Fin 512) :
    k0_pay6 (View.ld Y0 (Rect.unit ![0, 512] ![512, 512] h) : Vec Ideal S512x512 .f32)
      (View.ld Y2 (Rect.unit ![0, 0] ![1, 512] h') : Vec Ideal S1x512 .f32) (ix2 i j) = (args m c).vn (row (num t) i) j :=
  pay6_row (args m c) (num t) _ _ (zv_at m c t Y0 e0 h) (g_at m c t Y2 e2 h') i j

theorem vn_blk (h) (i j : Fin 512) :
    k0_pay6 (View.ld (iblk m c 0 t) (Rect.unit ![0, 512] ![512, 512] h) : Vec Ideal S512x512 .f32) (iblk m c 2 t) (ix2 i j)
      = (args m c).vn (row (num t) i) j :=
  pay6_row (args m c) (num t) _ _ (read_zv m c t h) (read_g m c t) i j

theorem dsv_at (Y0 Y1) (e0 : Y0 = iblk m c 0 t) (e1 : Y1 = iblk m c 1 t) (h h') (i j : Fin 512) :
    k0_pay8 (View.ld Y0 (Rect.unit ![0, 0] ![512, 512] h) : Vec Ideal S512x512 .f32)
      (View.ld Y1 (Rect.unit ![0, 0] ![512, 512] h') : Vec Ideal S512x512 .bf16) (ix2 i j) = (args m c).dsv (row (num t) i) j :=
  pay8_row (args m c) (num t) _ _ (zu_at m c t Y0 e0 h) (ct_at m c t Y1 e1 h') i j

theorem dsv_blk (h) (i j : Fin 512) :
    k0_pay8 (View.ld (iblk m c 0 t) (Rect.unit ![0, 0] ![512, 512] h) : Vec Ideal S512x512 .f32) (iblk m c 1 t) (ix2 i j)
      = (args m c).dsv (row (num t) i) j :=
  pay8_row (args m c) (num t) _ _ (read_zu m c t h) (read_ct m c t) i j

theorem ct_cast (Y) (e : Y = iblk m c 1 t) (h) (i j : Fin 512) :
    k0_pay7 (View.ld Y (Rect.unit ![0, 0] ![512, 512] h) : Vec Ideal S512x512 .bf16) (ix2 i j) = (args m c).ct (row (num t) i) j :=
  ct_at m c t Y e h i j

theorem ct_blk (i j : Fin 512) :
    k0_pay7 (iblk m c 1 t : Vec Ideal S512x512 .bf16) (ix2 i j) = (args m c).ct (row (num t) i) j :=
  read_ct m c t i j

theorem dz_left (A : Args) (i : Fin 512) (y0 : Fin 512) (y1 : Fin 1024) (x0 x1 : Fin 512) (h0 : y0.val = x0.val) (h1 : y1.val = x1.val) :
    A.dz (row (num t) y0) y1 = A.dzu (row (num t) x0) x1 := by
  obtain rfl := Fin.ext h0
  unfold Args.dz
  rw [dif_pos (by omega)]
  congr 1; exact Fin.ext h1

theorem dz_right (A : Args) (i : Fin 512) (y0 : Fin 512) (y1 : Fin 1024) (x0 x1 : Fin 512) (h0 : y0.val = x0.val) (h1 : y1.val = 512 + x1.val) :
    A.dz (row (num t) y0) y1 = A.dzv (row (num t) x0) x1 := by
  obtain rfl := Fin.ext h0
  unfold Args.dz
  rw [dif_neg (by omega)]
  congr 1; exact Fin.ext (by simp only; omega)

/-! ### The rows' gradients -/

set_option maxHeartbeats 800000 in
theorem out5 (y : S512x1024.Idx) :
    (outsAt0 m c t.val t.isLt).1 y = (args m c).dz (row (num t) (y 0)) (y 1) := by
  have A := outsAt0_A m c t
  have B := outsAt0_B m c t
  by_cases e : t.val % 8 = 0
  on_goal 1 => rw [A e]
  on_goal 2 => rw [B e]
  all_goals
    frame_out
    clear A B e
    canon_tiles x h
    · idx_vars x
      refine (dzv_block (args m c) (num t) _ _ _ _ _ _ _ _ _ (read_zv m c t _) (read_g m c t) (fun i j => ?_) _ _).trans
        (dz_right t (args m c) 0 _ _ _ _ h0 h1).symm
      exact dvn_all (args m c) (num t) _ _ _ _ _ _ (w_at m c t _ (Memref.IsWhole.read_unread _ _) 0 0 rfl _)
        (w_at m c t _ (Memref.IsWhole.read_unread _ _) 1 1 rfl _) (w_at m c t _ (Memref.IsWhole.read_unread _ _) 2 2 rfl _) (w_at m c t _ rfl 3 3 rfl _)
        (dsv_at m c t _ _ (Memref.IsWhole.read_unread _ _) (Memref.IsWhole.read_unread _ _) _ _) (dsv_blk m c t _) i j
    · idx_vars x
      refine (gelu_tail_u _ _ _ _).trans (Eq.trans ?_ (dz_left t (args m c) 0 _ _ _ _ h0 h1).symm)
      unfold Args.dzu
      rw [read_zu m c t]
      refine congrArg (· * geluGrad _) ?_
      refine du_all (args m c) (num t) _ _ _ _ _ _ _ _ _ _ _ _ ?_ ?_ ?_ ?_ ?_ ?_ ?_ ?_ ?_ ?_ ?_ ?_ _ _
      · exact w_at m c t _ (Memref.IsWhole.read_unread _ _) 0 0 rfl _
      · exact w_at m c t _ (Memref.IsWhole.read_unread _ _) 1 1 rfl _
      · exact w_at m c t _ (Memref.IsWhole.read_unread _ _) 2 2 rfl _
      · exact w_at m c t _ rfl 3 3 rfl _
      · exact b_at m c t _ (Memref.IsWhole.read_unread _ _) 0 0 rfl _
      · exact b_at m c t _ (Memref.IsWhole.read_unread _ _) 1 1 rfl _
      · exact b_at m c t _ (Memref.IsWhole.read_unread _ _) 2 2 rfl _
      · exact b_at m c t _ rfl 3 3 rfl _
      · exact vn_at m c t _ _ (Memref.IsWhole.read_unread _ _) (Memref.IsWhole.read_unread _ _) _ _
      · exact vn_blk m c t _
      · exact ct_cast m c t _ (Memref.IsWhole.read_unread _ _) _
      · exact ct_blk m c t

/-! ### The gain's gradient -/

theorem out8_A (e : t.val % 8 = 0) (j : Fin 512) :
    (outsAt0 m c t.val t.isLt).2.2.2 (ix2 0 j)
      = ∑ i, (args m c).dvn (row (num t) i) j * (args m c).v (row (num t) i) j * (args m c).r (row (num t) i) := by
  rw [outsAt0_A m c t e]
  frame_out
  refine (dg_block (args m c) (num t) _ _ _ _ _ _ _ _ _ (read_zv m c t _) (fun i j => ?_) j).trans ?_
  · exact dvn_all (args m c) (num t) _ _ _ _ _ _ (w_at m c t _ (Memref.IsWhole.read_unread _ _) 0 0 rfl _)
        (w_at m c t _ (Memref.IsWhole.read_unread _ _) 1 1 rfl _) (w_at m c t _ (Memref.IsWhole.read_unread _ _) 2 2 rfl _) (w_at m c t _ rfl 3 3 rfl _)
      (dsv_at m c t _ _ (Memref.IsWhole.read_unread _ _) (Memref.IsWhole.read_unread _ _) _ _) (dsv_blk m c t _) i j
  · pointwise [k0_pay3]

theorem out8_B (e : ¬ t.val % 8 = 0) (j : Fin 512) :
    (outsAt0 m c t.val t.isLt).2.2.2 (ix2 0 j) = (outsAt0 m c (t.val - 1) (by omega)).2.2.2 (ix2 0 j)
      + ∑ i, (args m c).dvn (row (num t) i) j * (args m c).v (row (num t) i) j * (args m c).r (row (num t) i) := by
  rw [outsAt0_B m c t e]
  frame_out
  refine (dg_block (args m c) (num t) _ _ _ _ _ _ _ _ _ (read_zv m c t _) (fun i j => ?_) j)
  exact dvn_all (args m c) (num t) _ _ _ _ _ _ (w_at m c t _ (Memref.IsWhole.read_unread _ _) 0 0 rfl _)
        (w_at m c t _ (Memref.IsWhole.read_unread _ _) 1 1 rfl _) (w_at m c t _ (Memref.IsWhole.read_unread _ _) 2 2 rfl _) (w_at m c t _ rfl 3 3 rfl _)
    (dsv_at m c t _ _ (Memref.IsWhole.read_unread _ _) (Memref.IsWhole.read_unread _ _) _ _) (dsv_blk m c t _) i j

end Cert.KernelIdeal.Val
end
-- ==== Proof.Sums.lean ====
module

public import proofs.«01_k».proof.Proof.Outputs
public import Idealize.ShloMosaic.Lib.Pipeline.ReadBack

/-! # What a grid point adds to the weights' and biases' gradients -/

@[expose] public section

set_option maxRecDepth 16384

noncomputable section
open Idealize.ShloMosaic Idealize.ShloMosaic.TcCoe Idealize.SL.Sem Cert.Gmlp
open Idealize.ShloMosaic.Pipeline (Dat)
namespace Cert.KernelIdeal.Val
open Cert.KernelIdeal Cert.KernelIdeal.Gen

variable (m : (ℓ : Loc nD τ sig) → Buf (Elt Ideal) ℓ) (c : Dev nD) (t : Fin cfg0.N)

theorem zero1 (j : S4x128x128.Idx) : (k0_pay1 : FVec Ideal S4x128x128 .f32) j = (0 : EReal) := by pointwise [k0_pay1]

theorem zero2 (j : S128x4.Idx) : (k0_pay2 : FVec Ideal S128x4 .f32) j = (0 : EReal) := by pointwise [k0_pay2]

/-! ### The weights -/

theorem out6_A (e : t.val % 8 = 0) (y : S4x128x128.Idx) :
    (outsAt0 m c t.val t.isLt).2.1 y = dwTerm (args m c) (num t) (y 0) (y 1) (y 2) := by
  rw [outsAt0_A m c t e]
  frame_open
  simp (disch := decide) only [↓ View.readCov_skip, ↓ View.readCov_cons_toLoadRect, ↓ View.readCov_fill]
  frame_out
  refine (canon_append_of_cover [_] [_, _, _, _] y (View.cover_of_tiled_head _ _ _ (by rfl) y)).trans ?_
  canon_tiles x h
  on_goal 1 => refine (dw_head (args m c) (num t) 3 384 _ _ (dsv_blk m c t _) (vn_blk m c t _) rfl _ _ _ _ _ (y 0) (y 1) (y 2) x (Fin.ext ?_) h1 h2).trans ?_
  on_goal 3 => refine (dw_head (args m c) (num t) 2 256 _ _ (dsv_blk m c t _) (vn_blk m c t _) rfl _ _ _ _ _ (y 0) (y 1) (y 2) x (Fin.ext ?_) h1 h2).trans ?_
  on_goal 5 => refine (dw_head (args m c) (num t) 1 128 _ _ (dsv_blk m c t _) (vn_blk m c t _) rfl _ _ _ _ _ (y 0) (y 1) (y 2) x (Fin.ext ?_) h1 h2).trans ?_
  on_goal 7 => refine (dw_head (args m c) (num t) 0 0 _ _ (dsv_blk m c t _) (vn_blk m c t _) rfl _ _ _ _ _ (y 0) (y 1) (y 2) x (Fin.ext ?_) h1 h2).trans ?_
  all_goals first
    | (refine h0.trans ?_; simp only [Fin.isValue, Fin.coe_ofNat_eq_mod, Nat.reduceMod]; omega)
    | exact (congrArg (· + _) (zero1 _)).trans (zero_add _)

theorem out6_B (e : ¬ t.val % 8 = 0) (y : S4x128x128.Idx) :
    (outsAt0 m c t.val t.isLt).2.1 y
      = (outsAt0 m c (t.val - 1) (by omega)).2.1 y + dwTerm (args m c) (num t) (y 0) (y 1) (y 2) := by
  rw [outsAt0_B m c t e]
  frame_out
  canon_tiles x h
  on_goal 1 => refine (dw_head (args m c) (num t) 3 384 _ _ (dsv_blk m c t _) (vn_blk m c t _) rfl _ _ _ _ _ (y 0) (y 1) (y 2) x (Fin.ext ?_) h1 h2).trans ?_
  on_goal 3 => refine (dw_head (args m c) (num t) 2 256 _ _ (dsv_blk m c t _) (vn_blk m c t _) rfl _ _ _ _ _ (y 0) (y 1) (y 2) x (Fin.ext ?_) h1 h2).trans ?_
  on_goal 5 => refine (dw_head (args m c) (num t) 1 128 _ _ (dsv_blk m c t _) (vn_blk m c t _) rfl _ _ _ _ _ (y 0) (y 1) (y 2) x (Fin.ext ?_) h1 h2).trans ?_
  on_goal 7 => refine (dw_head (args m c) (num t) 0 0 _ _ (dsv_blk m c t _) (vn_blk m c t _) rfl _ _ _ _ _ (y 0) (y 1) (y 2) x (Fin.ext ?_) h1 h2).trans ?_
  all_goals first
    | (refine h0.trans ?_; simp only [Fin.isValue, Fin.coe_ofNat_eq_mod, Nat.reduceMod]; omega)
    | (refine congrArg (· + _) (View.ld_unit_apply_of _ _ _ _ _ _ fun a => ?_)
       fin_cases a <;> first | exact h0 | exact h1 | exact h0.trans (Nat.zero_add _).symm | exact h1.trans (Nat.zero_add _).symm | exact h2.trans (Nat.zero_add _).symm)

/-! ### The biases -/

theorem out7_A (e : t.val % 8 = 0) (y : S128x4.Idx) :
    (outsAt0 m c t.val t.isLt).2.2.1 y = dbTerm (args m c) (num t) (y 1) (y 0) := by
  rw [outsAt0_A m c t e]
  frame_open
  simp (disch := decide) only [↓ View.readCov_skip, ↓ View.readCov_cons_toLoadRect, ↓ View.readCov_fill]
  frame_out
  refine (canon_append_of_cover [_] [_, _, _, _] y (View.cover_of_tiled_head _ _ _ (by rfl) y)).trans ?_
  canon_tiles x h
  on_goal 1 => refine (db_head (args m c) (num t) 3 384 _ (dsv_blk m c t _) rfl _ _ _ _ _ (y 1) (y 0) x (Fin.ext ?_) h0).trans ?_
  on_goal 3 => refine (db_head (args m c) (num t) 2 256 _ (dsv_blk m c t _) rfl _ _ _ _ _ (y 1) (y 0) x (Fin.ext ?_) h0).trans ?_
  on_goal 5 => refine (db_head (args m c) (num t) 1 128 _ (dsv_blk m c t _) rfl _ _ _ _ _ (y 1) (y 0) x (Fin.ext ?_) h0).trans ?_
  on_goal 7 => refine (db_head (args m c) (num t) 0 0 _ (dsv_blk m c t _) rfl _ _ _ _ _ (y 1) (y 0) x (Fin.ext ?_) h0).trans ?_
  all_goals first
    | (refine h1.trans ?_; simp only [Fin.isValue, Fin.coe_ofNat_eq_mod, Nat.reduceMod]; omega)
    | exact (congrArg (· + _) (zero2 _)).trans (zero_add _)

theorem out7_B (e : ¬ t.val % 8 = 0) (y : S128x4.Idx) :
    (outsAt0 m c t.val t.isLt).2.2.1 y
      = (outsAt0 m c (t.val - 1) (by omega)).2.2.1 y + dbTerm (args m c) (num t) (y 1) (y 0) := by
  rw [outsAt0_B m c t e]
  frame_out
  canon_tiles x h
  on_goal 1 => refine (db_head (args m c) (num t) 3 384 _ (dsv_blk m c t _) rfl _ _ _ _ _ (y 1) (y 0) x (Fin.ext ?_) h0).trans ?_
  on_goal 3 => refine (db_head (args m c) (num t) 2 256 _ (dsv_blk m c t _) rfl _ _ _ _ _ (y 1) (y 0) x (Fin.ext ?_) h0).trans ?_
  on_goal 5 => refine (db_head (args m c) (num t) 1 128 _ (dsv_blk m c t _) rfl _ _ _ _ _ (y 1) (y 0) x (Fin.ext ?_) h0).trans ?_
  on_goal 7 => refine (db_head (args m c) (num t) 0 0 _ (dsv_blk m c t _) rfl _ _ _ _ _ (y 1) (y 0) x (Fin.ext ?_) h0).trans ?_
  all_goals first
    | (refine h1.trans ?_; simp only [Fin.isValue, Fin.coe_ofNat_eq_mod, Nat.reduceMod]; omega)
    | (refine congrArg (· + _) (View.ld_unit_apply_of _ _ _ _ _ _ fun a => ?_)
       fin_cases a <;> first | exact h0 | exact h1 | exact h0.trans (Nat.zero_add _).symm | exact h1.trans (Nat.zero_add _).symm)

end Cert.KernelIdeal.Val
end
-- ==== Proof.Arrays.lean ====
module

public import proofs.«01_k».proof.Proof.Sums
public import proofs.«01_k».proof.Proof.Gen.KernelIdeal.Value

/-! # The kernel's output arrays -/

@[expose] public section

set_option maxRecDepth 16384

noncomputable section
open Idealize.ShloMosaic Idealize.ShloMosaic.TcCoe Idealize.SL.Sem Cert.Gmlp
open Idealize.ShloMosaic.Pipeline (Dat)
namespace Cert.KernelIdeal.Val
open Cert.KernelIdeal Cert.KernelIdeal.Gen

variable (m : (ℓ : Loc nD τ sig) → Buf (Elt Ideal) ℓ) (c : Dev nD)

theorem N : cfg0.N = 8 := N_0

theorem last : t0_7.val + 1 = cfg0.N := N.symm

/-- The rows' gradients. -/
theorem arr5 : (dats m 0 c).arrAt 5 cfg0.N
    = (fun i => (args m c).dz (i 0) (i 1) : FVec Ideal S4096x1024 .bf16) := by
  refine (dats m 0 c).arrAt_eq_of_covers 5 _ (by decide +kernel) fun t hf y => ?_
  blk_simp
  rw [after0_5]
  refine (out5 m c t _).trans ?_
  refine congrArg₂ (args m c).dz (Fin.ext ?_) (Fin.ext ?_) <;> blk_simp [idx t]
  exact congrArg (· + _) (Nat.mul_comm _ _)

/-- A sum over the blocks and the four chunks of each is the sum over the chunks. -/
theorem sum_chunks (f : Fin 32 → EReal) :
    ∑ t : Fin cfg0.N, ∑ q : Fin 4, f ⟨4 * (num t).val + q.val, by have := (num t).isLt; omega⟩ = ∑ q, f q := by
  refine Fin.sum_mul_add_congr (S := cfg0.N) (fun t k hl => congrArg f (Fin.ext ?_)) (by rw [N])
  simp only; omega

/-- A sum over the blocks and the rows of each is the sum over the rows. -/
theorem sum_rows (f : Fin 4096 → EReal) :
    ∑ t : Fin cfg0.N, ∑ i : Fin 512, f (row (num t) i) = ∑ i, f i := by
  refine Fin.sum_mul_add_congr (S := cfg0.N) (fun t k hl => congrArg f (Fin.ext ?_)) (by rw [N])
  simp only; omega

/-- The gradient of the weights. -/
theorem arr6 : (dats m 0 c).arrAt 6 cfg0.N
    = (fun i => (args m c).dw (i 0) (i 1) (i 2) : FVec Ideal S4x128x128 .f32) := by
  refine (dats m 0 c).arrAt_eq_of_after_last 6 t0_7 (by decide +kernel) _ fun j => ?_
  blk_simp
  rw [after0_6, Pipeline.eq_sum_fin_of_reset_step_apply_last (M := EReal) (fun n h => (outsAt0 m c n h).2.1) 8 (fun _ => 0)
    (fun t y => dwTerm (args m c) (num t) (y 0) (y 1) (y 2)) (fun t h y => (out6_A m c t h y).trans (zero_add _).symm)
    (fun t h y => out6_B m c t h y) (le_of_eq N_0) t0_7 last j]
  rw [zero_add]
  unfold dwTerm Args.dw
  split_ifs
  · exact sum_chunks fun q => (args m c).dwAt q (j 0) (j 1) (j 2)
  · show (∑ _ : Fin cfg0.N, (0 : EReal)) = 0
    exact Finset.sum_const_zero

/-- The gradient of the biases. -/
theorem arr7 : (dats m 0 c).arrAt 7 cfg0.N
    = (fun i => (args m c).db (i 0) (i 1) : FVec Ideal S128x4 .f32) := by
  refine (dats m 0 c).arrAt_eq_of_after_last 7 t0_7 (by decide +kernel) _ fun j => ?_
  blk_simp
  rw [after0_7, Pipeline.eq_sum_fin_of_reset_step_apply_last (M := EReal) (fun n h => (outsAt0 m c n h).2.2.1) 8 (fun _ => 0)
    (fun t y => dbTerm (args m c) (num t) (y 1) (y 0)) (fun t h y => (out7_A m c t h y).trans (zero_add _).symm)
    (fun t h y => out7_B m c t h y) (le_of_eq N_0) t0_7 last j]
  rw [zero_add]
  exact sum_chunks fun q => ∑ d, (args m c).dsv (chunkRow q (j 0)) (col (j 1) d)

/-- The gradient of the gain. -/
theorem arr8 : (dats m 0 c).arrAt 8 cfg0.N
    = (fun i => (args m c).dg (i 1) : FVec Ideal S1x512 .f32) := by
  refine (dats m 0 c).arrAt_eq_of_after_last 8 t0_7 (by decide +kernel) _ fun j => ?_
  blk_simp
  rw [after0_8]
  obtain ⟨k, rfl⟩ : ∃ k : Fin 512, j = ix2 (0 : Fin 1) k := ⟨j 1, by idx_vars j; obtain rfl : j0 = 0 := Subsingleton.elim _ _; rfl⟩
  refine (Pipeline.eq_sum_fin_of_reset_step_apply_last (M := EReal)
    (fun n h k => ((outsAt0 m c n h).2.2.2 : FVec Ideal S1x512 .f32) (ix2 0 k)) 8 (fun _ => 0)
    (fun t j => ∑ i, (args m c).dvn (row (num t) i) j * (args m c).v (row (num t) i) j * (args m c).r (row (num t) i))
    (fun t h y => (out8_A m c t h y).trans (zero_add _).symm)
    (fun t h y => out8_B m c t h y) (le_of_eq N_0) t0_7 last k).trans ?_
  rw [zero_add]
  exact sum_rows fun i => (args m c).dvn i k * (args m c).v i k * (args m c).r i

end Cert.KernelIdeal.Val
end
-- ==== Proof.Stages.lean ====
module

public import proofs.«01_k».proof.Proof.Gen.ReferenceIdeal.Run
public import proofs.«01_k».proof.Proof.Spec

/-! # The reference in stages

The reference's four results, written as a composition of the steps of its forward pass and of its derivative. -/

@[expose] public section

set_option maxRecDepth 16384

noncomputable section
open Idealize.ShloMosaic Idealize.ShloMosaic.TcCoe Idealize.SL.Sem Cert.Gmlp
namespace Cert.ReferenceIdeal.Stage
open Cert.ReferenceIdeal Cert.ReferenceIdeal.Gen

/-- A row array of one batch. -/
abbrev Rows := FVec Ideal S1x4096x512 .f32
/-- A number per row. -/
abbrev Col := FVec Ideal S1x4096x1 .f32
/-- Rows split in chunks and heads. -/
abbrev Tiles := FVec Ideal S1x32x128x4x128 .f32

abbrev fill (bits : BitVec 32) : Rows := broadcastInDim S1x4096x512 ![] bcast_S_S1x4096x512 (constant S_ .f32 bits)
abbrev fillCol (bits : BitVec 32) : Col := broadcastInDim S1x4096x1 ![] bcast_S_S1x4096x1 (constant S_ .f32 bits)
abbrev zeroS : FVec Ideal S_ .f32 := constant S_ .f32 0x00000000#32

/-- The cotangent. -/
def ct (a : FVec Ideal S4096x1024 .bf16) : Rows :=
  extf .f32 (broadcastInDim S1x4096x512 ![1, 2] bcast_S4096x512_S1x4096x512_1_2
    (extractStridedSlice S4096x512 ![0, 0] a slices_S4096x1024_S4096x512_0_0)) bitsLt_bf16_f32
/-- The first half before gelu. -/
def zu (a : FVec Ideal S4096x1024 .f32) : Rows :=
  extractStridedSlice S1x4096x512 ![0, 0, 0] (broadcastInDim S1x4096x1024 ![1, 2] bcast_S4096x1024_S1x4096x1024_1_2 a) slices_S1x4096x1024_S1x4096x512_0_0_0
/-- The second half before gelu. -/
def zv (a : FVec Ideal S4096x1024 .f32) : Rows :=
  extractStridedSlice S1x4096x512 ![0, 0, 512] (broadcastInDim S1x4096x1024 ![1, 2] bcast_S4096x1024_S1x4096x1024_1_2 a) slices_S1x4096x1024_S1x4096x512_0_0_512
/-- The root of one half. -/
def root : Rows := broadcastInDim S1x4096x512 ![] bcast_S_S1x4096x512 (id (Host.sqrt (constant S_ .f32 0x3F000000#32)))
/-- What gelu hands to the error function. -/
def scaled (z : Rows) : Rows := mulf (Host.negf z) root
/-- gelu. -/
def gel (z : Rows) : Rows := mulf (mulf (fill 0x3F000000#32) z) (Host.erfc (scaled z))
/-- gelu's derivative, applied to a cotangent. -/
def gelBwd (z p q : Rows) : Rows :=
  addf (Host.negf (mulf (mulf (mulf (fill 0xBF906EBB#32) p)
    (Host.exp (Host.negf (mulf (scaled z) (scaled z))))) root)) (mulf (fill 0x3F000000#32) q)
/-- The mean square. -/
def meanSq (v : Rows) : Col :=
  addf (Host.divf (broadcastInDim S1x4096x1 ![0, 1] bcast_S1x4096_S1x4096x1_0_1
    (Host.reduceAdd (mulf v v) zeroS reducesTo_S1x4096x512_S1x4096_d2 h_S_)) (fillCol 0x44000000#32)) (fillCol 0x358637BD#32)
/-- One over its root. -/
def rstd (v : Rows) : Col := Host.rsqrt (meanSq v)
/-- The derivative of that. -/
def rstdBwd (v : Rows) : Col := mulf (fillCol 0xBF000000#32) (Host.divf (rstd v) (meanSq v))
/-- A column along the rows. -/
abbrev wide (r : Col) : Rows := broadcastInDim S1x4096x512 ![0, 1, 2] bcast_S1x4096x1_S1x4096x512_0_1_2 r
/-- The normalized rows before the gain. -/
def normed (v : Rows) : Rows := mulf v (wide (rstd v))
/-- The gain on every row. -/
def gain (g : FVec Ideal S1x512 .f32) : Rows :=
  broadcastInDim S1x4096x512 ![0, 1, 2] bcast_S1x1x512_S1x4096x512_0_1_2 (broadcastInDim S1x1x512 ![2] bcast_S512_S1x1x512_2
    (shapeCast S512 g shapeCasts_S1x512_S512))
/-- The normalized rows. -/
def vn (v : Rows) (g : FVec Ideal S1x512 .f32) : Tiles :=
  shapeCast S1x32x128x4x128 (mulf (normed v) (gain g)) shapeCasts_S1x4096x512_S1x32x128x4x128
/-- The causal mask. -/
def mask : IVec S4x128x128 1 :=
  broadcastInDim S4x128x128 ![0, 1, 2] bcast_S1x128x128_S4x128x128_0_1_2 (broadcastInDim S1x128x128 ![1, 2] bcast_S128x128_S1x128x128_1_2
    (select (cmpi .sge (addi (iotaInDim S128x128 32 0) (broadcastInDim S128x128 ![] bcast_S_S128x128 (constantI S_ 32 0#32))) (iotaInDim S128x128 32 1))
      (broadcastInDim S128x128 ![] bcast_S_S128x128 (constantI S_ 1 1#1)) (broadcastInDim S128x128 ![] bcast_S_S128x128 (constantI S_ 1 0#1))))
/-- An array of weights under the mask. -/
def under (w : FVec Ideal S4x128x128 .f32) : FVec Ideal S4x128x128 .f32 :=
  select mask w (broadcastInDim S4x128x128 ![] bcast_S_S4x128x128 (constant S_ .f32 0x00000000#32))
/-- The causal weights. -/
def weights (w : FVec Ideal S1x4x128x128 .f32) : FVec Ideal S4x128x128 .f32 := under (shapeCast S4x128x128 w shapeCasts_S1x4x128x128_S4x128x128)
/-- The biases on every row. -/
def biases (b : FVec Ideal S1x4x128 .f32) : Tiles :=
  broadcastInDim S1x32x128x4x128 ![0, 1, 2, 3, 4] bcast_S1x1x128x4x1_S1x32x128x4x128_0_1_2_3_4
    (broadcastInDim S1x1x128x4x1 ![2, 3] bcast_S128x4_S1x1x128x4x1_2_3 (transpose S128x4 [1, 0] (shapeCast S4x128 b shapeCasts_S1x4x128_S4x128) transposes_S4x128_S128x4_1_0))
/-- The mixed rows. -/
def mixed (n : Tiles) (w : FVec Ideal S4x128x128 .f32) (b : Tiles) : Rows :=
  shapeCast S1x4096x512 (addf (transpose S1x32x128x4x128 [1, 2, 4, 0, 3]
    (Host.dotGeneral dot_S1x32x128x4x128_S4x128x128_S4x1x32x128x128_2_2_014_1_3_0 none n w) transposes_S4x1x32x128x128_S1x32x128x4x128_1_2_4_0_3) b)
    shapeCasts_S1x32x128x4x128_S1x4096x512
/-- The cotangent of the mixed rows, in chunks and heads. -/
def dmixed (u c : Rows) : Tiles := shapeCast S1x32x128x4x128 (mulf u c) shapeCasts_S1x4096x512_S1x32x128x4x128
/-- The same with the head first and the place in the chunk last. -/
def turned (d : Tiles) : FVec Ideal S4x1x32x128x128 .f32 := transpose S4x1x32x128x128 [3, 0, 1, 4, 2] d transposes_S1x32x128x4x128_S4x1x32x128x128_3_0_1_4_2
/-- The gradient of the weights. -/
def dweights (d n : Tiles) : FVec Ideal S4x128x128 .f32 :=
  under (Host.dotGeneral dot_S4x1x32x128x128_S1x32x128x4x128_S4x128x128_123_014_4_2_0_3 none (turned d) n)
/-- The cotangent of the normalized rows. -/
def dvn (d : Tiles) (w : FVec Ideal S4x128x128 .f32) : Rows :=
  shapeCast S1x4096x512 (transpose S1x32x128x4x128 [1, 2, 4, 0, 3]
    (Host.dotGeneral dot_S4x1x32x128x128_S4x128x128_S4x1x32x128x128_4_1_123_2_0_0 none (turned d) w) transposes_S4x1x32x128x128_S1x32x128x4x128_1_2_4_0_3)
    shapeCasts_S1x32x128x4x128_S1x4096x512
/-- The gradient of the biases. -/
def dbiases (d : Tiles) : FVec Ideal S4x128 .f32 :=
  transpose S4x128 [1, 0] (Host.reduceAdd (shapeCast S1x1x128x4x1 (Host.reduceAdd d zeroS reducesTo_S1x32x128x4x128_S1x128x4_d1_4 h_S_) shapeCasts_S1x128x4_S1x1x128x4x1)
    zeroS reducesTo_S1x1x128x4x1_S128x4_d0_1_4 h_S_) transposes_S128x4_S4x128_1_0
/-- The gradient of the gain. -/
def dgain (v dn : Rows) : FVec Ideal S512 .f32 :=
  Host.reduceAdd (shapeCast S1x1x512 (Host.reduceAdd (mulf (normed v) dn) zeroS reducesTo_S1x4096x512_S1x512_d1 h_S_) shapeCasts_S1x512_S1x1x512)
    zeroS reducesTo_S1x1x512_S512_d0_1 h_S_
/-- The cotangent of the mean square, twice over the row. -/
def dmean (v h : Rows) : Rows :=
  broadcastInDim S1x4096x512 ![0, 1] bcast_S1x4096_S1x4096x512_0_1 (broadcastInDim S1x4096 ![1] bcast_S4096_S1x4096_1
    (Host.reduceAdd (Host.divf (mulf (shapeCast S1x4096x1 (Host.reduceAdd (mulf v h) zeroS reducesTo_S1x4096x512_S1x4096_d2 h_S_) shapeCasts_S1x4096_S1x4096x1)
      (rstdBwd v)) (fillCol 0x44000000#32)) zeroS reducesTo_S1x4096x1_S4096_d0_2 h_S_))
/-- The cotangent back through the norm; `h` is the cotangent times the gain. -/
def dnorm (v h : Rows) : Rows :=
  addf (addf (mulf h (wide (rstd v))) (mulf v (dmean v h))) (mulf (dmean v h) v)
/-- The two halves side by side. -/
def joined (x y : Rows) : FVec Ideal S4096x1024 .bf16 :=
  truncf .bf16 (Host.reduceAdd (concatenate S1x4096x1024 2 [⟨S1x4096x512, x⟩, ⟨S1x4096x512, y⟩] concatenates_S1x4096x512_S1x4096x512_S1x4096x1024_d2)
    zeroS reducesTo_S1x4096x1024_S4096x1024_d0 h_S_) bitsLt_bf16_f32

section
variable (a0 : FVec Ideal S4096x1024 .f32) (a1 : FVec Ideal S4096x1024 .bf16) (a2 : FVec Ideal S1x512 .f32)
  (a3 : FVec Ideal S1x4x128x128 .f32) (a4 : FVec Ideal S1x4x128 .f32)

/-- The cotangent of the mixed rows at the arguments. -/
def dsvAll : Tiles := dmixed (gel (zu a0)) (ct a1)
/-- The cotangent of the normalized rows at the arguments. -/
def dvnAll : Rows := dvn (dsvAll a0 a1) (weights a3)
/-- The cotangent of the first half at the arguments. -/
def duAll : Rows := mulf (ct a1) (mixed (vn (gel (zv a0)) a2) (weights a3) (biases a4))
/-- The cotangent of the second half at the arguments. -/
def dvAll : Rows := dnorm (gel (zv a0)) (mulf (dvnAll a0 a1 a3) (gain a2))
/-- The rows' gradient. -/
def dz : FVec Ideal S4096x1024 .bf16 :=
  joined (gelBwd (zu a0) (mulf (mulf (fill 0x3F000000#32) (zu a0)) (duAll a0 a1 a2 a3 a4)) (mulf (duAll a0 a1 a2 a3 a4) (Host.erfc (scaled (zu a0)))))
    (gelBwd (zv a0) (mulf (mulf (fill 0x3F000000#32) (zv a0)) (dvAll a0 a1 a2 a3)) (mulf (dvAll a0 a1 a2 a3) (Host.erfc (scaled (zv a0)))))
/-- The weights' gradient. -/
def dw : FVec Ideal S4x128x128 .f32 :=
  shapeCast S4x128x128 (broadcastInDim S1x4x128x128 ![1, 2, 3] bcast_S4x128x128_S1x4x128x128_1_2_3
    (dweights (dsvAll a0 a1) (vn (gel (zv a0)) a2))) shapeCasts_S1x4x128x128_S4x128x128
/-- The biases' gradient. -/
def db : FVec Ideal S128x4 .f32 :=
  transpose S128x4 [1, 0] (shapeCast S4x128 (broadcastInDim S1x4x128 ![1, 2] bcast_S4x128_S1x4x128_1_2 (dbiases (dsvAll a0 a1))) shapeCasts_S1x4x128_S4x128)
    transposes_S4x128_S128x4_1_0
/-- The gain's gradient. -/
def dg : FVec Ideal S1x512 .f32 := broadcastInDim S1x512 ![1] bcast_S512_S1x512_1 (dgain (gel (zv a0)) (dvnAll a0 a1 a3))
end

section
variable (m : (ℓ : Loc nD τ sig) → Buf (Elt Ideal) ℓ) (c : Dev nD)

theorem out0_eq : Value.res_out0 m c = dz (m ((c : Thread nD τ).loc main_arg0)) (m ((c : Thread nD τ).loc main_arg1))
    (m ((c : Thread nD τ).loc main_arg2)) (m ((c : Thread nD τ).loc main_arg3)) (m ((c : Thread nD τ).loc main_arg4)) := rfl

theorem out1_eq : Value.res_out1 m c = dw (m ((c : Thread nD τ).loc main_arg0)) (m ((c : Thread nD τ).loc main_arg1))
    (m ((c : Thread nD τ).loc main_arg2)) := rfl

theorem out3_eq : Value.res_out3 m c = dg (m ((c : Thread nD τ).loc main_arg0)) (m ((c : Thread nD τ).loc main_arg1))
    (m ((c : Thread nD τ).loc main_arg3)) := rfl
end

end Cert.ReferenceIdeal.Stage
end
-- ==== Proof.Sumlaws.lean ====
module

public import proofs.«01_k».proof.Proof.Stages

/-! # The reference's sums over several axes -/

@[expose] public section

set_option maxRecDepth 16384

noncomputable section
open Idealize.ShloMosaic Idealize.ShloMosaic.TcCoe Idealize.SL.Sem Cert.Gmlp
namespace Cert.ReferenceIdeal.Stage
open Cert.ReferenceIdeal Cert.ReferenceIdeal.Gen

/-- A reduction from zero is the sum over a family that lists the entries reduced to `j`. -/
theorem reduce_eq {s t : Shape} {axes : List (Fin s.rank)} (h : s.ReducesTo axes t) (x : FVec Ideal s .f32) (j : t.Idx) {K : Type} [Fintype K]
    (f : K → s.Idx) (inj : Function.Injective f) (fib : ∀ i, h.drop i = j ↔ ∃ k, f k = i) :
    (Host.reduceAdd x zeroS h h_S_ j : EReal) = ∑ k, x (f k) := by
  refine (congrArg₂ (· + ·) (show _ = (0 : EReal) by pointwise) (Finset.sum_filter_eq_sum_of_fiber _ f inj fib x)).trans (zero_add _)

theorem sum_chunks_lanes (d : Tiles) (t : Fin 128) (h : Fin 4) :
    (Host.reduceAdd d zeroS reducesTo_S1x32x128x4x128_S1x128x4_d1_4 h_S_ (ix3 0 t h) : EReal) = ∑ q : Fin 32, ∑ k : Fin 128, d (ix5 0 q t h k) := by
  refine (reduce_eq _ d _ (fun k : Fin 32 × Fin 128 => ix5 0 k.1 t h k.2) (fun _ _ e => Prod.ext (congrFun e 1) (congrFun e 4)) fun i => ⟨fun e => ⟨(i 1, i 4), ?_⟩, ?_⟩).trans
    (Fintype.sum_prod_type _)
  · funext a
    match a with
    | ⟨0, _⟩ => exact (Subsingleton.elim (α := Fin 1) _ _)
    | ⟨1, _⟩ => rfl
    | ⟨2, _⟩ => exact (Fin.ext (congrArg (fun j : S1x128x4.Idx => (j 1).val) e)).symm
    | ⟨3, _⟩ => exact (Fin.ext (congrArg (fun j : S1x128x4.Idx => (j 2).val) e)).symm
    | ⟨4, _⟩ => rfl
  · rintro ⟨k, rfl⟩
    funext b
    match b with
    | ⟨0, _⟩ => rfl
    | ⟨1, _⟩ => rfl
    | ⟨2, _⟩ => rfl

theorem sum_ones5 (x : FVec Ideal S1x1x128x4x1 .f32) (t : Fin 128) (h : Fin 4) :
    (Host.reduceAdd x zeroS reducesTo_S1x1x128x4x1_S128x4_d0_1_4 h_S_ (ix2 t h) : EReal) = x (ix5 0 0 t h 0) := by
  refine (reduce_eq _ x _ (fun _ : Unit => ix5 0 0 t h 0) (fun _ _ _ => rfl) fun i => ⟨fun e => ⟨(), ?_⟩, ?_⟩).trans (Fintype.sum_unique _)
  · funext a
    match a with
    | ⟨0, _⟩ => exact (Subsingleton.elim (α := Fin 1) _ _)
    | ⟨1, _⟩ => exact (Subsingleton.elim (α := Fin 1) _ _)
    | ⟨2, _⟩ => exact (Fin.ext (congrArg (fun j : S128x4.Idx => (j 0).val) e)).symm
    | ⟨3, _⟩ => exact (Fin.ext (congrArg (fun j : S128x4.Idx => (j 1).val) e)).symm
    | ⟨4, _⟩ => exact (Subsingleton.elim (α := Fin 1) _ _)
  · rintro ⟨k, rfl⟩
    funext b
    match b with
    | ⟨0, _⟩ => rfl
    | ⟨1, _⟩ => rfl

theorem sum_ones3 (x : FVec Ideal S1x1x512 .f32) (j : Fin 512) :
    (Host.reduceAdd x zeroS reducesTo_S1x1x512_S512_d0_1 h_S_ (ix1 j) : EReal) = x (ix3 0 0 j) := by
  refine (reduce_eq _ x _ (fun _ : Unit => ix3 0 0 j) (fun _ _ _ => rfl) fun i => ⟨fun e => ⟨(), ?_⟩, ?_⟩).trans (Fintype.sum_unique _)
  · funext a
    match a with
    | ⟨0, _⟩ => exact (Subsingleton.elim (α := Fin 1) _ _)
    | ⟨1, _⟩ => exact (Subsingleton.elim (α := Fin 1) _ _)
    | ⟨2, _⟩ => exact (Fin.ext (congrArg (fun j : S512.Idx => (j 0).val) e)).symm
  · rintro ⟨k, rfl⟩
    funext b
    match b with
    | ⟨0, _⟩ => rfl

theorem sum_ones_rows (x : Col) (i : Fin 4096) :
    (Host.reduceAdd x zeroS reducesTo_S1x4096x1_S4096_d0_2 h_S_ (ix1 i) : EReal) = x (ix3 0 i 0) := by
  refine (reduce_eq _ x _ (fun _ : Unit => ix3 0 i 0) (fun _ _ _ => rfl) fun i => ⟨fun e => ⟨(), ?_⟩, ?_⟩).trans (Fintype.sum_unique _)
  · funext a
    match a with
    | ⟨0, _⟩ => exact (Subsingleton.elim (α := Fin 1) _ _)
    | ⟨1, _⟩ => exact (Fin.ext (congrArg (fun j : S4096.Idx => (j 0).val) e)).symm
    | ⟨2, _⟩ => exact (Subsingleton.elim (α := Fin 1) _ _)
  · rintro ⟨k, rfl⟩
    funext b
    match b with
    | ⟨0, _⟩ => rfl

abbrev dotW := dot_S4x1x32x128x128_S1x32x128x4x128_S4x128x128_123_014_4_2_0_3

/-- The contracted entries of the weights' gradient: one batch, a chunk, a lane. -/
def contrW : Fin 32 × Fin 128 ≃ dotW.contr.Idx where
  toFun k := fun
    | ⟨0, _⟩ => (0 : Fin 1)
    | ⟨1, _⟩ => k.1
    | ⟨2, _⟩ => k.2
  invFun kk := (kk ⟨1, by decide⟩, kk ⟨2, by decide⟩)
  left_inv _ := rfl
  right_inv kk := by
    funext p
    match p with
    | ⟨0, _⟩ => exact Subsingleton.elim (α := Fin 1) _ _
    | ⟨1, _⟩ => rfl
    | ⟨2, _⟩ => rfl

theorem dotW_at (d : FVec Ideal S4x1x32x128x128 .f32) (n : Tiles) (h : Fin 4) (t s : Fin 128) :
    (Host.dotGeneral dotW none d n (ix3 h t s) : EReal) = ∑ q : Fin 32, ∑ k : Fin 128, d (ix5 h 0 q k t) * n (ix5 0 q s h k) := by
  refine (congrArg₂ (· + ·) (show _ = (0 : EReal) by pointwise) (Fintype.sum_equiv contrW
    (fun k => (d (ix5 h 0 k.1 k.2 t) : EReal) * n (ix5 0 k.1 s h k.2)) _ fun k => ?_).symm).trans ((zero_add _).trans (Fintype.sum_prod_type _))
  refine congrArg₂ (· * ·) (congrArg d ?_) (congrArg n ?_) <;> funext a
  all_goals match a with
    | ⟨0, _⟩ => rfl
    | ⟨1, _⟩ => rfl
    | ⟨2, _⟩ => rfl
    | ⟨3, _⟩ => rfl
    | ⟨4, _⟩ => rfl

end Cert.ReferenceIdeal.Stage
end
-- ==== Proof.Entries.lean ====
module

public import proofs.«01_k».proof.Proof.Sumlaws
public import Idealize.ShloMosaic.Lib.WordCmp

/-! # The entries of the reference's stages -/

@[expose] public section

set_option maxRecDepth 16384

noncomputable section
open Idealize.ShloMosaic Idealize.ShloMosaic.TcCoe Idealize.SL.Sem Cert.Gmlp
namespace Cert.ReferenceIdeal.Stage
open Cert.ReferenceIdeal Cert.ReferenceIdeal.Gen

variable (i : Fin 4096) (j : Fin 512)

theorem ct_at (a) : ct a (ix3 0 i j) = (a (ix2 i (lo j)) : EReal) := by
  pointwise [ct]

theorem zu_at (a) : zu a (ix3 0 i j) = (a (ix2 i (lo j)) : EReal) := by
  pointwise [zu]

theorem zv_at (a) : zv a (ix3 0 i j) = (a (ix2 i (hi j)) : EReal) := by
  pointwise [zv]

theorem scaled_at (z) : scaled z (ix3 0 i j) = -(z (ix3 0 i j)) * Ideal.sqrt half := by
  pointwise [scaled, root, id]

theorem gel_at (z) : gel z (ix3 0 i j) = half * z (ix3 0 i j) * Ideal.erfc (-(z (ix3 0 i j)) * Ideal.sqrt half) := by
  pointwise [gel, scaled_at]

theorem meanSq_at (v) : meanSq v (ix3 0 i 0) = Ideal.div (∑ k : Fin 512, v (ix3 0 i k) * v (ix3 0 i k)) width + eps := by
  pointwise [meanSq]

theorem gain_at (g) : gain g (ix3 0 i j) = (g (ix2 0 j) : EReal) := by
  pointwise [gain]

theorem chunk_eq (q : Fin 32) (s : Fin 128) (h) : (⟨q.val * 128 + s.val, h⟩ : Fin 4096) = chunkRow q s := Fin.ext (by simp only; omega)
theorem col_eq (h : Fin 4) (d : Fin 128) (e) : (⟨h.val * 128 + d.val, e⟩ : Fin 512) = col h d := Fin.ext (by simp only; omega)

theorem vn_at (v g) (q : Fin 32) (s : Fin 128) (h : Fin 4) (d : Fin 128) :
    vn v g (ix5 0 q s h d) = v (ix3 0 (chunkRow q s) (col h d)) * Ideal.rsqrt (meanSq v (ix3 0 (chunkRow q s) 0)) * g (ix2 0 (col h d)) := by
  pointwise [vn, normed, rstd, gain_at, chunk_eq, col_eq]

theorem mask_at (h : Fin 4) (t s : Fin 128) : mask (ix3 h t s) = BitVec.ofBool (decide (s.val ≤ t.val)) := by
  pointwise [mask]
  rw [show IntOp.addi (BitVec.ofNat 32 t.val) 0#32 = BitVec.ofNat 32 t.val from BitVec.add_zero _,
    WordCmp.cmpi_sge_ofNat (by omega) (by omega), WordCmp.select_ofBool]
  simp only [decide_eq_true_eq]
  split <;> rename_i e <;> simp only [e, decide_true, decide_false] <;> rfl

theorem under_at (w) (h : Fin 4) (t s : Fin 128) : under w (ix3 h t s) = if s.val ≤ t.val then w (ix3 h t s) else 0 := by
  pointwise [under]
  rw [mask_at, WordCmp.select_ofBool]
  simp only [decide_eq_true_eq]

theorem weights_at (w) (h : Fin 4) (t s : Fin 128) : weights w (ix3 h t s) = if s.val ≤ t.val then w (ix4 0 h t s) else 0 := by
  unfold weights
  rw [under_at]
  pointwise

theorem biases_at (b) (q : Fin 32) (s : Fin 128) (h : Fin 4) (d : Fin 128) : biases b (ix5 0 q s h d) = (b (ix3 0 h s) : EReal) := by
  pointwise [biases]

theorem mixed_at (n w b) : mixed n w b (ix3 0 i j)
    = (∑ s : Fin 128, n (ix5 0 ⟨i.val / 128, by omega⟩ s (head j) ⟨j.val % 128, by omega⟩) * w (ix3 (head j) (place i) s))
      + b (ix5 0 ⟨i.val / 128, by omega⟩ (place i) (head j) ⟨j.val % 128, by omega⟩) := by
  pointwise [mixed]

theorem dmixed_at (u c) (q : Fin 32) (s : Fin 128) (h : Fin 4) (d : Fin 128) :
    dmixed u c (ix5 0 q s h d) = u (ix3 0 (chunkRow q s) (col h d)) * c (ix3 0 (chunkRow q s) (col h d)) := by
  pointwise [dmixed, chunk_eq, col_eq]

theorem dweights_at (d n) (h : Fin 4) (t s : Fin 128) : dweights d n (ix3 h t s)
    = if s.val ≤ t.val then ∑ q : Fin 32, ∑ k : Fin 128, d (ix5 0 q t h k) * n (ix5 0 q s h k) else 0 := by
  unfold dweights
  rw [under_at]
  refine if_congr Iff.rfl ((dotW_at _ _ h t s).trans ?_) rfl
  refine Finset.sum_congr rfl fun q _ => Finset.sum_congr rfl fun k _ => congrArg (· * _) ?_
  pointwise [turned]

theorem dvn_at (d w) : dvn d w (ix3 0 i j)
    = ∑ t : Fin 128, d (ix5 0 ⟨i.val / 128, by omega⟩ t (head j) ⟨j.val % 128, by omega⟩) * w (ix3 (head j) t (place i)) := by
  pointwise [dvn, turned]

theorem dbiases_at (d) (t : Fin 128) (h : Fin 4) : dbiases d (ix2 h t) = ∑ q : Fin 32, ∑ k : Fin 128, d (ix5 0 q t h k) := by
  unfold dbiases
  refine Eq.trans (b := (Host.reduceAdd (shapeCast S1x1x128x4x1 (Host.reduceAdd d zeroS reducesTo_S1x32x128x4x128_S1x128x4_d1_4 h_S_) shapeCasts_S1x128x4_S1x1x128x4x1)
    zeroS reducesTo_S1x1x128x4x1_S128x4_d0_1_4 h_S_ (ix2 t h) : EReal)) ?_ ?_
  · generalize (Host.reduceAdd (F := Ideal) (φ := .f32) _ zeroS reducesTo_S1x1x128x4x1_S128x4_d0_1_4 h_S_) = X
    pointwise
  · refine (sum_ones5 _ t h).trans (Eq.trans ?_ (sum_chunks_lanes d t h))
    generalize (Host.reduceAdd (F := Ideal) (φ := .f32) d zeroS reducesTo_S1x32x128x4x128_S1x128x4_d1_4 h_S_) = X
    pointwise

theorem dgain_at (v dn) : dgain v dn (ix1 j) = ∑ i : Fin 4096, v (ix3 0 i j) * Ideal.rsqrt (meanSq v (ix3 0 i 0)) * dn (ix3 0 i j) := by
  unfold dgain
  refine (sum_ones3 _ j).trans ?_
  pointwise [normed, rstd]

theorem dmean_at (v h) : dmean v h (ix3 0 i j)
    = Ideal.div ((∑ k : Fin 512, v (ix3 0 i k) * h (ix3 0 i k)) *
      (negHalf * Ideal.div (Ideal.rsqrt (meanSq v (ix3 0 i 0))) (meanSq v (ix3 0 i 0)))) width := by
  unfold dmean
  refine Eq.trans (b := (Host.reduceAdd (Host.divf (mulf (shapeCast S1x4096x1 (Host.reduceAdd (mulf v h) zeroS reducesTo_S1x4096x512_S1x4096_d2 h_S_) shapeCasts_S1x4096_S1x4096x1)
      (rstdBwd v)) (fillCol 0x44000000#32)) zeroS reducesTo_S1x4096x1_S4096_d0_2 h_S_ (ix1 i) : EReal)) ?_ ((sum_ones_rows _ i).trans ?_)
  · generalize (Host.reduceAdd (F := Ideal) (φ := .f32) _ zeroS reducesTo_S1x4096x1_S4096_d0_2 h_S_) = X
    pointwise
  · pointwise [rstdBwd, rstd]

theorem dnorm_at (v h) : dnorm v h (ix3 0 i j)
    = h (ix3 0 i j) * Ideal.rsqrt (meanSq v (ix3 0 i 0)) + v (ix3 0 i j) * dmean v h (ix3 0 i j) + dmean v h (ix3 0 i j) * v (ix3 0 i j) := by
  pointwise [dnorm, rstd]

theorem gelBwd_at (z p q) : gelBwd z p q (ix3 0 i j)
    = -(Ideal.ofBits .f32 0xBF906EBB#32 * p (ix3 0 i j) * Ideal.exp (-(scaled z (ix3 0 i j) * scaled z (ix3 0 i j))) * Ideal.sqrt half)
      + half * q (ix3 0 i j) := by
  pointwise [gelBwd, root, id]

theorem joined_at (x y) (j : Fin 1024) : joined x y (ix2 i j)
    = if h : j.val < 512 then x (ix3 0 i ⟨j.val, h⟩) else y (ix3 0 i ⟨j.val - 512, by omega⟩) := by
  pointwise [joined]
  exact Fintype.sum_unique _

end Cert.ReferenceIdeal.Stage
end
-- ==== Proof.Numbers.lean ====
module

public import proofs.«01_k».proof.Proof.Spec

/-! # The constants, and arithmetic on entries that are real numbers -/

@[expose] public section

noncomputable section
open Idealize.ShloMosaic

namespace Cert.Gmlp

/-! ### The constants' values -/

theorem half_val : half = ((1 / 2 : ℝ) : EReal) := by
  simp [Ideal.ofBits, Ideal.ieee, -EReal.coe_mul]; norm_num
theorem negHalf_val : negHalf = ((-(1 / 2) : ℝ) : EReal) := by
  simp [Ideal.ofBits, Ideal.ieee, -EReal.coe_mul]; norm_num
theorem width_val : width = ((512 : ℝ) : EReal) := by
  simp [Ideal.ofBits, Ideal.ieee, -EReal.coe_mul]; norm_num
theorem eps_val : ∃ e : ℝ, 0 < e ∧ eps = (e : EReal) := by
  refine ⟨8796093 * (2 : ℝ) ^ (-43 : ℤ), by positivity, ?_⟩
  simp [Ideal.ofBits, Ideal.ieee, -EReal.coe_mul]
/-- The reference's constant of erfc's derivative. -/
theorem slope_val : Ideal.ofBits .f32 0xBF906EBB#32 = ((-(9465531 / 8388608) : ℝ) : EReal) := by
  simp [Ideal.ofBits, Ideal.ieee, -EReal.coe_mul]; norm_num

theorem sqrt_half : Ideal.sqrt half = invSqrtTwo := by
  rw [half_val, Ideal.sqrt_coe, if_neg (by norm_num), invSqrtTwo, one_div, Real.sqrt_inv]

theorem inv_sqrt_two_sq : (Real.sqrt 2)⁻¹ * (Real.sqrt 2)⁻¹ = (1 / 2 : ℝ) := by
  rw [← mul_inv, Real.mul_self_sqrt (by norm_num)]; norm_num

/-! ### Real entries -/

/-- An entry that is a real number. -/
def IsReal (x : EReal) : Prop := ∃ r : ℝ, x = (r : EReal)

namespace IsReal
variable {x y : EReal}
theorem coe (r : ℝ) : IsReal (r : EReal) := ⟨r, rfl⟩
theorem zero : IsReal 0 := ⟨0, rfl⟩
theorem mul (hx : IsReal x) (hy : IsReal y) : IsReal (x * y) := by
  obtain ⟨a, rfl⟩ := hx; obtain ⟨b, rfl⟩ := hy; exact ⟨a * b, (EReal.coe_mul a b).symm⟩
theorem add (hx : IsReal x) (hy : IsReal y) : IsReal (x + y) := by
  obtain ⟨a, rfl⟩ := hx; obtain ⟨b, rfl⟩ := hy; exact ⟨a + b, (EReal.coe_add a b).symm⟩
theorem sub (hx : IsReal x) (hy : IsReal y) : IsReal (x - y) := by
  obtain ⟨a, rfl⟩ := hx; obtain ⟨b, rfl⟩ := hy; exact ⟨a - b, (EReal.coe_sub a b).symm⟩
theorem sum {ι : Type} (s : Finset ι) {f : ι → EReal} (h : ∀ i, IsReal (f i)) : IsReal (∑ i ∈ s, f i) := by
  choose g hg using h
  refine ⟨∑ i ∈ s, g i, ?_⟩
  rw [Finset.sum_congr rfl fun i _ => hg i]
  exact (map_sum (⟨⟨Real.toEReal, rfl⟩, EReal.coe_add⟩ : ℝ →+ EReal) g s).symm
theorem ite {p : Prop} [Decidable p] (hx : IsReal x) : IsReal (if p then x else 0) := by
  split
  · exact hx
  · exact zero
theorem of_abs_lt_top (h : max x (-x) < ⊤) : IsReal x := by
  induction x with
  | bot => simp at h
  | top => simp at h
  | coe r => exact coe r
end IsReal

theorem gelu_real {x : EReal} (hx : IsReal x) : IsReal (gelu x) := by
  obtain ⟨a, rfl⟩ := hx
  unfold gelu
  rw [half_val, invSqrtTwo, ← EReal.coe_mul a, Ideal.erf_coe]
  exact (IsReal.mul (.coe _) (.coe a)).mul (IsReal.add ⟨1, rfl⟩ (.coe _))

/-- gelu as the reference writes it. -/
theorem gelu_eq (x : EReal) : half * x * Ideal.erfc (-x * Ideal.sqrt half) = gelu x := by
  rw [sqrt_half, EReal.neg_mul, Ideal.erfc_neg]; rfl

/-- gelu's derivative as the reference writes it. -/
theorem geluGrad_eq {x d : EReal} (hx : IsReal x) (hd : IsReal d) :
    -(Ideal.ofBits .f32 0xBF906EBB#32 * (half * x * d) * Ideal.exp (-(-x * Ideal.sqrt half * (-x * Ideal.sqrt half))) * Ideal.sqrt half)
      + half * (d * Ideal.erfc (-x * Ideal.sqrt half)) = d * geluGrad x := by
  rw [sqrt_half, EReal.neg_mul, Ideal.erfc_neg]
  obtain ⟨a, rfl⟩ := hx
  obtain ⟨b, rfl⟩ := hd
  unfold geluGrad
  rw [half_val, negHalf_val, slope_val, invSqrtTwo, geluSlope, ← EReal.coe_mul a, Ideal.erf_coe]
  generalize (2 / Real.sqrt Real.pi * ∫ t in (0 : ℝ)..(a * (Real.sqrt 2)⁻¹), Real.exp (-(t ^ 2))) = e
  have hs := inv_sqrt_two_sq
  generalize (Real.sqrt 2)⁻¹ = s at hs ⊢
  rw [show (1 : EReal) = ((1 : ℝ) : EReal) from rfl]
  simp only [← EReal.coe_mul, ← EReal.coe_neg, ← EReal.coe_add, Ideal.exp_coe]
  refine congrArg _ ?_
  rw [show -(-(a * s) * -(a * s)) = -(1 / 2) * a * a by linear_combination -(a * a) * hs]
  ring

/-- The derivative through the norm as the reference writes it. -/
theorem dnorm_eq {v h S W : EReal} {M w : ℝ} (hv : IsReal v) (hh : IsReal h) (hS : IsReal S) (hM : 0 < M) (hW : W = (w : EReal)) (hw : w ≠ 0) :
    let r := Ideal.rsqrt (M : EReal)
    let D := Ideal.div (S * (negHalf * Ideal.div r M)) W
    h * r + v * D + D * v = r * h - v * (r * r * r) * Ideal.div S W := by
  intro r D
  have er : r = (((Real.sqrt M)⁻¹ : ℝ) : EReal) := by
    show Ideal.rsqrt (M : EReal) = _
    rw [Ideal.rsqrt_coe, if_neg (by linarith), if_neg hM.ne']
  obtain ⟨a, rfl⟩ := hv
  obtain ⟨b, rfl⟩ := hh
  obtain ⟨c, rfl⟩ := hS
  have ed : D = ((c * (-(1 / 2) * ((Real.sqrt M)⁻¹ * (1 / M))) * (1 / w) : ℝ) : EReal) := by
    show Ideal.div (_ * (negHalf * Ideal.div r M)) W = _
    rw [er, Ideal.div_coe hM.ne', negHalf_val, hW]
    simp only [← EReal.coe_mul]
    rw [Ideal.div_coe hw, ← EReal.coe_mul]
  rw [ed, er, hW, Ideal.div_coe hw]
  simp only [← EReal.coe_mul, ← EReal.coe_add, ← EReal.coe_sub]
  refine congrArg _ ?_
  have hq : (Real.sqrt M)⁻¹ * (Real.sqrt M)⁻¹ = 1 / M := by
    rw [← mul_inv, Real.mul_self_sqrt hM.le, one_div]
  generalize (Real.sqrt M)⁻¹ = q at hq ⊢
  rw [← hq]; ring

theorem rsqrt_real {M : ℝ} (hM : 0 < M) : IsReal (Ideal.rsqrt (M : EReal)) := by
  rw [Ideal.rsqrt_coe, if_neg (by linarith), if_neg hM.ne']; exact .coe _

/-- A row's mean square with `eps` added is a positive real. -/
theorem meanSq_real {n : ℕ} {v : Fin n → EReal} {W : EReal} {w : ℝ} (h : ∀ k, IsReal (v k)) (hW : W = (w : EReal)) (hw : 0 < w) :
    ∃ M : ℝ, 0 < M ∧ Ideal.div (∑ k, v k * v k) W + eps = (M : EReal) := by
  choose g hg using h
  obtain ⟨e, he, hE⟩ := eps_val
  refine ⟨(∑ k, g k * g k) * (1 / w) + e, ?_, ?_⟩
  · have : 0 ≤ ∑ k, g k * g k := Finset.sum_nonneg fun k _ => mul_self_nonneg _
    positivity
  · have : ∑ k, v k * v k = ((∑ k, g k * g k : ℝ) : EReal) := by
      rw [Finset.sum_congr rfl fun k _ => (by rw [hg k, ← EReal.coe_mul] : v k * v k = ((g k * g k : ℝ) : EReal))]
      exact (map_sum (⟨⟨Real.toEReal, rfl⟩, EReal.coe_add⟩ : ℝ →+ EReal) _ _).symm
    rw [this, hW, Ideal.div_coe hw.ne', hE, EReal.coe_add, EReal.coe_mul]

/-! ### The gradient's entries are real when the arguments' are -/

/-- Arguments whose entries are real numbers. -/
structure Args.Real (A : Args) : Prop where
  z : ∀ i j, IsReal (A.z i j)
  ct : ∀ i j, IsReal (A.ct i j)
  g : ∀ j, IsReal (A.g j)
  w : ∀ h a b, IsReal (A.w h a b)
  b : ∀ h a, IsReal (A.b h a)

namespace Args.Real
variable {A : Args} (H : A.Real)
include H

theorem u (i j) : IsReal (A.u i j) := gelu_real (H.z _ _)
theorem v (i j) : IsReal (A.v i j) := gelu_real (H.z _ _)
theorem ms (i) : ∃ M : ℝ, 0 < M ∧ A.ms i = (M : EReal) := meanSq_real (H.v i) width_val (by norm_num)
theorem r (i) : IsReal (A.r i) := by
  obtain ⟨M, hM, e⟩ := H.ms i
  unfold Args.r; rw [e]; exact rsqrt_real hM
theorem vn (i j) : IsReal (A.vn i j) := ((H.v i j).mul (H.r i)).mul (H.g j)
theorem dsv (i j) : IsReal (A.dsv i j) := (H.ct i j).mul (H.u i j)
theorem wm (h a b) : IsReal (A.wm h a b) := (H.w h a b).ite
theorem sv (i j) : IsReal (A.sv i j) := (IsReal.sum _ fun s => (H.wm _ _ s).mul (H.vn _ j)).add (H.b _ _)
theorem dvn (i j) : IsReal (A.dvn i j) := IsReal.sum _ fun t => (H.wm _ t _).mul (H.dsv _ j)
theorem du (i j) : IsReal (A.du i j) := (H.ct i j).mul (H.sv i j)
theorem gained (i j) : IsReal (A.dvn i j * A.g j) := (H.dvn i j).mul (H.g j)
theorem dot (i) : IsReal (∑ k, A.dvn i k * A.g k * A.v i k) := IsReal.sum _ fun k => (H.gained i k).mul (H.v i k)
/-- The cotangent back through the norm, as the reference writes it. -/
theorem dv_eq (i j) :
    let D := Ideal.div ((∑ k, A.v i k * (A.dvn i k * A.g k)) * (negHalf * Ideal.div (A.r i) (A.ms i))) width
    A.dvn i j * A.g j * A.r i + A.v i j * D + D * A.v i j = A.dv i j := by
  obtain ⟨M, hM, e⟩ := H.ms i
  have := dnorm_eq (H.v i j) (H.gained i j) (H.dot i) hM width_val (by norm_num)
  rw [← e] at this
  intro D
  refine Eq.trans ?_ this
  have : D = Ideal.div ((∑ k, A.dvn i k * A.g k * A.v i k) * (negHalf * Ideal.div (A.r i) (A.ms i))) width := by
    refine congrArg (fun s => Ideal.div (s * _) _) (Finset.sum_congr rfl fun k _ => mul_comm _ _)
  rw [this]; rfl
theorem dv (i j) : IsReal (A.dv i j) := by
  refine ((H.r i).mul (H.gained i j)).sub (((H.v i j).mul (((H.r i).mul (H.r i)).mul (H.r i))).mul ?_)
  rw [width_val, Ideal.div_coe (by norm_num)]
  exact (H.dot i).mul (.coe _)

end Args.Real
end Cert.Gmlp
end
-- ==== Proof.RefValue.lean ====
module

public import proofs.«01_k».proof.Proof.Entries
public import proofs.«01_k».proof.Proof.Numbers

/-! # The reference's results are the formulas -/

@[expose] public section

set_option maxRecDepth 16384

noncomputable section
open Idealize.ShloMosaic Idealize.ShloMosaic.TcCoe Idealize.SL.Sem Cert.Gmlp
namespace Cert.ReferenceIdeal.Stage
open Cert.ReferenceIdeal Cert.ReferenceIdeal.Gen

variable (a0 : FVec Ideal S4096x1024 .f32) (a1 : FVec Ideal S4096x1024 .bf16) (a2 : FVec Ideal S1x512 .f32)
  (a3 : FVec Ideal S1x4x128x128 .f32) (a4 : FVec Ideal S1x4x128 .f32)

/-- The reference's arguments. -/
def args : Args where
  z i j := a0 (ix2 i j)
  ct i j := a1 (ix2 i (lo j))
  g j := a2 (ix2 0 j)
  w h a b := a3 (ix4 0 h a b)
  b h a := a4 (ix3 0 h a)

/-! ### Indices of a row and a column -/

theorem chunkRow_peer (i : Fin 4096) (s : Fin 128) (h) : chunkRow ⟨i.val / 128, h⟩ s = peer i s := rfl
theorem peer_chunkRow (q : Fin 32) (s t : Fin 128) : peer (chunkRow q s) t = chunkRow q t := Fin.ext (by simp only; omega)
theorem chunkRow_place (i : Fin 4096) (h) : chunkRow ⟨i.val / 128, h⟩ (place i) = i := Fin.ext (by simp only; omega)
theorem col_head (j : Fin 512) (h) : col (head j) ⟨j.val % 128, h⟩ = j := Fin.ext (by simp only; omega)

/-! ### The stages at the arguments -/

variable (i : Fin 4096) (j : Fin 512)

theorem u_eq : gel (zu a0) (ix3 0 i j) = (args a0 a1 a2 a3 a4).u i j := by
  rw [gel_at, zu_at]; exact gelu_eq _
theorem v_eq : gel (zv a0) (ix3 0 i j) = (args a0 a1 a2 a3 a4).v i j := by
  rw [gel_at, zv_at]; exact gelu_eq _
theorem ms_eq : meanSq (gel (zv a0)) (ix3 0 i 0) = (args a0 a1 a2 a3 a4).ms i := by
  rw [meanSq_at]
  exact congrArg (fun s => Ideal.div s width + eps) (Finset.sum_congr rfl fun k _ => by rw [v_eq a0 a1 a2 a3 a4])
theorem vn_eq (q : Fin 32) (s : Fin 128) (h : Fin 4) (d : Fin 128) : vn (gel (zv a0)) a2 (ix5 0 q s h d) = (args a0 a1 a2 a3 a4).vn (chunkRow q s) (col h d) := by
  rw [vn_at, v_eq a0 a1 a2 a3 a4, ms_eq a0 a1 a2 a3 a4]; rfl
theorem wm_eq (h : Fin 4) (t s : Fin 128) : weights a3 (ix3 h t s) = (args a0 a1 a2 a3 a4).wm h t s := weights_at a3 h t s
theorem dsv_eq (q : Fin 32) (s : Fin 128) (h : Fin 4) (d : Fin 128) : dsvAll a0 a1 (ix5 0 q s h d) = (args a0 a1 a2 a3 a4).dsv (chunkRow q s) (col h d) := by
  unfold dsvAll
  rw [dmixed_at, u_eq a0 a1 a2 a3 a4, ct_at]; exact mul_comm _ _
theorem dvn_eq : dvnAll a0 a1 a3 (ix3 0 i j) = (args a0 a1 a2 a3 a4).dvn i j := by
  unfold dvnAll
  rw [dvn_at]
  refine Finset.sum_congr rfl fun t _ => ?_
  rw [dsv_eq a0 a1 a2 a3 a4, wm_eq a0 a1 a2 a3 a4, chunkRow_peer, col_head]; exact mul_comm _ _
theorem du_eq : duAll a0 a1 a2 a3 a4 (ix3 0 i j) = (args a0 a1 a2 a3 a4).du i j := by
  unfold duAll
  show ct a1 (ix3 0 i j) * mixed (vn (gel (zv a0)) a2) (weights a3) (biases a4) (ix3 0 i j) = _
  rw [ct_at, mixed_at, biases_at]
  refine congrArg (_ * ·) (congrArg (· + _) (Finset.sum_congr rfl fun s _ => ?_))
  rw [vn_eq a0 a1 a2 a3 a4, wm_eq a0 a1 a2 a3 a4, chunkRow_peer, col_head]; exact mul_comm _ _
theorem gained_eq : mulf (dvnAll a0 a1 a3) (gain a2) (ix3 0 i j) = (args a0 a1 a2 a3 a4).dvn i j * (args a0 a1 a2 a3 a4).g j := by
  show dvnAll a0 a1 a3 (ix3 0 i j) * gain a2 (ix3 0 i j) = _
  rw [dvn_eq a0 a1 a2 a3 a4, gain_at]; rfl
theorem dv_eq (H : (args a0 a1 a2 a3 a4).Real) : dvAll a0 a1 a2 a3 (ix3 0 i j) = (args a0 a1 a2 a3 a4).dv i j := by
  unfold dvAll
  rw [dnorm_at, dmean_at, gained_eq a0 a1 a2 a3 a4, v_eq a0 a1 a2 a3 a4, ms_eq a0 a1 a2 a3 a4,
    Finset.sum_congr rfl fun k _ => (by rw [gained_eq a0 a1 a2 a3 a4, v_eq a0 a1 a2 a3 a4])]
  exact H.dv_eq i j

/-! ### The results -/

theorem dw_eq (h : Fin 4) (t s : Fin 128) : dw a0 a1 a2 (ix3 h t s) = (args a0 a1 a2 a3 a4).dw h t s := by
  refine Eq.trans (b := dweights (dsvAll a0 a1) (vn (gel (zv a0)) a2) (ix3 h t s)) ?_ ?_
  · unfold dw
    generalize dweights (dsvAll a0 a1) (vn (gel (zv a0)) a2) = X
    pointwise
  · rw [dweights_at]
    refine if_congr Iff.rfl (Finset.sum_congr rfl fun q _ => Finset.sum_congr rfl fun k _ => ?_) rfl
    rw [dsv_eq a0 a1 a2 a3 a4, vn_eq a0 a1 a2 a3 a4]

theorem db_eq (t : Fin 128) (h : Fin 4) : db a0 a1 (ix2 t h) = (args a0 a1 a2 a3 a4).db t h := by
  refine Eq.trans (b := dbiases (dsvAll a0 a1) (ix2 h t)) ?_ ?_
  · unfold db
    generalize dbiases (dsvAll a0 a1) = X
    pointwise
  · rw [dbiases_at]
    exact Finset.sum_congr rfl fun q _ => Finset.sum_congr rfl fun k _ => dsv_eq a0 a1 a2 a3 a4 q t h k

theorem dg_eq : dg a0 a1 a3 (ix2 0 j) = (args a0 a1 a2 a3 a4).dg j := by
  refine Eq.trans (b := dgain (gel (zv a0)) (dvnAll a0 a1 a3) (ix1 j)) ?_ ?_
  · unfold dg
    generalize dgain (gel (zv a0)) (dvnAll a0 a1 a3) = X
    pointwise
  · rw [dgain_at]
    refine Finset.sum_congr rfl fun i _ => ?_
    rw [v_eq a0 a1 a2 a3 a4, ms_eq a0 a1 a2 a3 a4, dvn_eq a0 a1 a2 a3 a4, mul_comm, ← mul_assoc]; rfl

/-- gelu's derivative at one half. -/
theorem half_eq (z x : Rows) (hz : IsReal (z (ix3 0 i j))) (hx : IsReal (x (ix3 0 i j))) :
    gelBwd z (mulf (mulf (fill 0x3F000000#32) z) x) (mulf x (Host.erfc (scaled z))) (ix3 0 i j) = x (ix3 0 i j) * geluGrad (z (ix3 0 i j)) := by
  rw [gelBwd_at]
  show -(Ideal.ofBits .f32 0xBF906EBB#32 * (half * z (ix3 0 i j) * x (ix3 0 i j)) * _ * _) + half * (x (ix3 0 i j) * Ideal.erfc (scaled z (ix3 0 i j))) = _
  rw [scaled_at]
  exact geluGrad_eq hz hx

theorem dz_eq (H : (args a0 a1 a2 a3 a4).Real) (j : Fin 1024) : dz a0 a1 a2 a3 a4 (ix2 i j) = (args a0 a1 a2 a3 a4).dz i j := by
  unfold dz
  rw [joined_at]
  unfold Args.dz
  split
  · rename_i h
    rw [half_eq, du_eq, zu_at]
    · rfl
    · rw [zu_at]; exact H.z i _
    · rw [du_eq]; exact H.du i _
  · rw [half_eq, dv_eq a0 a1 a2 a3 a4 _ _ H, zv_at]
    · rfl
    · rw [zv_at]; exact H.z i _
    · rw [dv_eq a0 a1 a2 a3 a4 _ _ H]; exact H.dv i _

/-! ### The results as arrays -/

theorem dz_array (H : (args a0 a1 a2 a3 a4).Real) : dz a0 a1 a2 a3 a4 = fun i => (args a0 a1 a2 a3 a4).dz (i 0) (i 1) := by
  funext i; idx_vars i; exact dz_eq a0 a1 a2 a3 a4 i0 H i1
theorem dw_array : dw a0 a1 a2 = fun i => (args a0 a1 a2 a3 a4).dw (i 0) (i 1) (i 2) := by
  funext i; idx_vars i; exact dw_eq a0 a1 a2 a3 a4 i0 i1 i2
theorem db_array : db a0 a1 = fun i => (args a0 a1 a2 a3 a4).db (i 0) (i 1) := by
  funext i; idx_vars i; exact db_eq a0 a1 a2 a3 a4 i0 i1
theorem dg_array : dg a0 a1 a3 = fun i => (args a0 a1 a2 a3 a4).dg (i 1) := by
  funext i; idx_vars i; obtain rfl : i0 = 0 := Subsingleton.elim _ _; exact dg_eq a0 a1 a2 a3 a4 i1

end Cert.ReferenceIdeal.Stage
end
-- ==== Proof.Finite.lean ====
module

public import proofs.«01_k».proof.Pre_finite
public import proofs.«01_k».proof.Proof.Numbers
public import Idealize.ShloMosaic.Lib.ReduceAll

/-! # What the precondition says: every entry of the arguments is a real number -/

@[expose] public section

noncomputable section
open Idealize.ShloMosaic
namespace Cert.Pre_finite
open Cert.Gmlp Facts

/-- The shape relations the precondition's operations take. -/
theorem facts : Facts where
  bcast_S_S4096x1024 := by decide
  reducesTo_S4096x1024_S_d0_1 := by decide
  h_S_ := by decide
  bitsLt_bf16_f32 := by decide
  bcast_S_S1x512 := by decide
  reducesTo_S1x512_S_d0_1 := by decide
  bcast_S_S1x4x128x128 := by decide
  reducesTo_S1x4x128x128_S_d0_1_2_3 := by decide
  bcast_S_S1x4x128 := by decide
  reducesTo_S1x4x128_S_d0_1_2 := by decide

/-- There is one index of a scalar. -/
instance : Subsingleton S_.Idx := ⟨fun a b => funext fun k => k.elim0⟩

/-- An entry below infinity in absolute value is real. -/
theorem real_of_cmp {x y : EReal} (hy : y = Ideal.ofBits .f32 0x7F800000#32) (h : Ideal.cmp .olt (max x (-x)) y = 1#1) : IsReal x := by
  have top : Ideal.ofBits .f32 0x7F800000#32 = (⊤ : EReal) := by simp [Ideal.ofBits, Ideal.ieee]
  rw [hy, top] at h
  refine IsReal.of_abs_lt_top ?_
  by_contra hn
  simp [Ideal.cmp, hn] at h

/-- A reduction by `and` of such comparisons. -/
theorem real_of_all {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant S_ .f32 0x7F800000#32))) (constantI S_ 1 1#1) hr hu (fun k => k.elim0) = 1#1)
    (i : s.Idx) : IsReal (x i) :=
  real_of_cmp rfl (Host.reduce_andi_all _ _ _ _ _ e i)

variable [Facts] {x0 : FVec Ideal S4096x1024 .f32} {x1 : FVec Ideal S4096x1024 .bf16} {x2 : FVec Ideal S1x512 .f32}
    {x3 : FVec Ideal S1x4x128x128 .f32} {x4 : FVec Ideal S1x4x128 .f32}

theorem real (h : fn x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  obtain ⟨h, e4⟩ := IntOp.andi_eq_one.1 (congrFun h fun k => k.elim0)
  obtain ⟨h, e3⟩ := IntOp.andi_eq_one.1 h
  obtain ⟨h, e2⟩ := IntOp.andi_eq_one.1 h
  obtain ⟨e0, e1⟩ := IntOp.andi_eq_one.1 h
  exact ⟨real_of_all x0 _ _ _ e0, real_of_all (extf .f32 x1 bitsLt_bf16_f32) _ _ _ e1, real_of_all x2 _ _ _ e2, real_of_all x3 _ _ _ e3, real_of_all x4 _ _ _ e4⟩

end Cert.Pre_finite
end
-- ==== Proof.GradIn.lean ====
module

public import proofs.«01_k».proof.Proof.Gen.Kernel3Ideal.Value
public import Idealize.ShloMosaic.Lib.Pointwise
public import Idealize.ShloMosaic.Lib.Pipeline.ValueKit
public import Idealize.ShloMosaic.Lib.Pipeline.ReadBack

/-! # The gradient of the feed-forward input matrix: the kernel's arrays

Two grid points per quarter of the columns of the matrix, each quarter a block of the result: the first multiplies the
upper half of the tokens, the second adds the lower half to it and rounds the sum. -/

@[expose] public section

set_option maxRecDepth 16384

noncomputable section
open Idealize.ShloMosaic Idealize.ShloMosaic.TcCoe Idealize.SL.Sem
open Idealize.ShloMosaic.Pipeline (Dat)
namespace Cert.Kernel3Ideal.Val
open Cert.Kernel3Ideal Cert.Kernel3Ideal.Gen

/-! ### One point -/

theorem product_at (x : Vec Ideal S2048x1024 .bf16) (y : Vec Ideal S2048x1408 .bf16) (a : Fin 1024) (b : Fin 1408) :
    k0_pay1 x y (ix3 0 a b) = ∑ p : Fin 2048, x (ix2 p a) * y (ix2 p b) := by
  pointwise [k0_pay1]

variable (m : (ℓ : Loc nD τ sig) → Buf (Elt Ideal) ℓ) (c : Dev nD) (t : Fin cfg0.N)

/-- What enters the product on the left, with a row per token. -/
def left (i : Fin 4096) (a : Fin 1024) : EReal := (m ((c : Thread nD τ).loc main_arg0) : FVec Ideal S4096x1024 .bf16) (ix2 i a)
/-- What enters it on the right. -/
def right (i : Fin 4096) (b : Fin 5632) : EReal := (m ((c : Thread nD τ).loc main_arg1) : FVec Ideal S4096x5632 .bf16) (ix2 i b)
/-- The product over the tokens. -/
def grad (a : Fin 1024) (b : Fin 5632) : EReal := ∑ i, left m c i a * right m c i b

theorem lt_eight : t.val < 8 := lt_of_lt_of_eq t.isLt N_0

/-- A token of the half that the point reads. -/
abbrev token (s : ℕ) (p : Fin 2048) : Fin 4096 := ⟨(s % 2) * 2048 + p.val, by omega⟩
/-- A column of a quarter. -/
abbrev column (q : Fin 4) (b : Fin 1408) : Fin 5632 := ⟨q.val * 1408 + b.val, by omega⟩
/-- The quarter that the point writes. -/
abbrev quarter : Fin 4 := ⟨t.val / 2, by have := lt_eight t; omega⟩

theorem idx : ∀ t : Fin cfg0.N, win0_0.index t = ![t.val % 2, 0] ∧ win0_1.index t = ![t.val % 2, t.val / 2]
    ∧ win0_2.index t = ![t.val / 2, 0, 0] ∧ win0_3.index t = ![t.val / 2, 0, 0] :=
  (by decide +kernel : ∀ t : Fin grid0.N, _)

theorem left_at (p : Fin 2048) (a : Fin 1024) : (iblk m c 0 t : Vec Ideal S2048x1024 .bf16) (ix2 p a) = left m c (token t.val p) a := by
  pointwise [left]
  blk_point [iblk, V, idx t]

theorem right_at (p : Fin 2048) (b : Fin 1408) : (iblk m c 1 t : Vec Ideal S2048x1408 .bf16) (ix2 p b) = right m c (token t.val p) (column (quarter t) b) := by
  pointwise [right]
  blk_point [iblk, V, idx t]

/-- The part of the product that the point computes. -/
theorem part (a : Fin 1024) (b : Fin 1408) : k0_pay1 (iblk m c 0 t : Vec Ideal S2048x1024 .bf16) (iblk m c 1 t : Vec Ideal S2048x1408 .bf16) (ix3 0 a b)
    = ∑ p, left m c (token t.val p) a * right m c (token t.val p) (column (quarter t) b) :=
  (product_at _ _ a b).trans (Finset.sum_congr rfl fun p _ => congrArg₂ (· * ·) (left_at m c t p a) (right_at m c t p b))

theorem first (e : t.val % 2 = 0) : (outsAt0 m c t.val t.isLt).1 = k0_pay1 (iblk m c 0 t : Vec Ideal S2048x1024 .bf16) (iblk m c 1 t : Vec Ideal S2048x1408 .bf16) := by
  rw [outsAt0_A m c t e (by omega) (by omega)]
  frame_out

theorem second (e : t.val % 2 = 1) : (outsAt0 m c t.val t.isLt).1
    = k0_pay2 (iblk m c 0 t : Vec Ideal S2048x1024 .bf16) (iblk m c 1 t : Vec Ideal S2048x1408 .bf16) (outsAt0 m c (t.val - 1) (by omega)).1 := by
  rw [outsAt0_B m c t (by omega) e e]
  frame_out

theorem second_rounded (e : t.val % 2 = 1) : (outsAt0 m c t.val t.isLt).2 = k0_pay3 (outsAt0 m c t.val t.isLt).1 := by
  rw [outsAt0_B m c t (by omega) e e]
  frame_out

/-- Both halves of the tokens. -/
theorem halves (f : Fin 4096 → EReal) : (∑ p, f (token 0 p)) + ∑ p, f (token 1 p) = ∑ i, f i := by
  refine (Fin.sum_univ_two fun s : Fin 2 => ∑ p, f (token s.val p)).symm.trans
    (Fin.sum_mul_add_congr (S := 2) (n := 2048) fun s k hl => congrArg f (Fin.ext ?_))
  fin_cases s <;> simp [token]

theorem whole (e : t.val % 2 = 1) (a : Fin 1024) (b : Fin 1408) : (outsAt0 m c t.val t.isLt).1 (ix3 0 a b) = grad m c a (column (quarter t) b) := by
  have q := first m c ⟨t.val - 1, by omega⟩ (by simp only; omega)
  have h := congrFun (second m c t e) (ix3 0 a b)
  refine h.trans ?_
  have q' := congrFun q (ix3 0 a b)
  rw [part] at q'
  have p' : quarter ⟨t.val - 1, by omega⟩ = quarter t := Fin.ext (by simp only; omega)
  rw [p'] at q'
  unfold k0_pay2
  have w := part m c t a b
  generalize k0_pay1 (iblk m c 0 t : Vec Ideal S2048x1024 .bf16) (iblk m c 1 t : Vec Ideal S2048x1408 .bf16) = X at *
  generalize (outsAt0 m c (t.val - 1) _).1 = Y at *
  pointwise
  rw [q', w]
  have z : ∀ p, token (t.val - 1) p = token 0 p := fun p => Fin.ext (by simp only; omega)
  have o : ∀ p, token t.val p = token 1 p := fun p => Fin.ext (by simp only; omega)
  simp only [z, o]
  exact halves fun i => left m c i a * right m c i (column (quarter t) b)

/-! ### The arrays -/

/-- The gradient. -/
theorem arr2 : (dats m 0 c).arrAt 2 cfg0.N = (fun i => grad m c (i 1) (column (i 0) (i 2)) : FVec Ideal S4x1024x1408 .f32) := by
  refine (dats m 0 c).arrAt_eq_of_covers 2 _ (by decide +kernel) fun t hf y => ?_
  blk_simp
  rw [after0_2]
  idx_vars y
  obtain rfl : y0 = 0 := Subsingleton.elim _ _
  refine (whole m c t ((flush0_2 t).mp hf) y1 y2).trans ?_
  refine congrArg₂ (grad m c) (Fin.ext ?_) (congrArg₂ column (Fin.ext ?_) (Fin.ext ?_)) <;> blk_simp [idx t] <;> rfl

/-- The gradient, rounded. -/
theorem arr3 : (dats m 0 c).arrAt 3 cfg0.N = (fun i => grad m c (i 1) (column (i 0) (i 2)) : FVec Ideal S4x1024x1408 .bf16) := by
  refine (dats m 0 c).arrAt_eq_of_covers 3 _ (by decide +kernel) fun t hf y => ?_
  blk_simp
  rw [after0_3, second_rounded m c t ((flush0_3 t).mp hf)]
  idx_vars y
  obtain rfl : y0 = 0 := Subsingleton.elim _ _
  refine Eq.trans ?_ ((whole m c t ((flush0_3 t).mp hf) y1 y2).trans ?_)
  · generalize (outsAt0 m c t.val t.isLt).1 = X
    pointwise [k0_pay3]
  · refine congrArg₂ (grad m c) (Fin.ext ?_) (congrArg₂ column (Fin.ext ?_) (Fin.ext ?_)) <;> blk_simp [idx t] <;> rfl

end Cert.Kernel3Ideal.Val
end
-- ==== Proof.GradInRef.lean ====
module

public import proofs.«01_k».proof.Proof.Gen.Reference3Ideal.Run
public import Idealize.ShloMosaic.Lib.Pointwise
public import Idealize.ShloMosaic.Lib.Pipeline.ValueKit

/-! # The gradient of the feed-forward input matrix: the reference's results -/

@[expose] public section

set_option maxRecDepth 16384

noncomputable section
open Idealize.ShloMosaic Idealize.ShloMosaic.TcCoe Idealize.SL.Sem
namespace Cert.Reference3Ideal.Stage
open Cert.Reference3Ideal Cert.Reference3Ideal.Gen

variable (a0 : FVec Ideal S4096x1024 .bf16) (a1 : FVec Ideal S4096x5632 .bf16)

/-- The derivative of the product in its right factor, at the cotangent. -/
def grad : FVec Ideal S1024x5632 .f32 :=
  transpose S1024x5632 [1, 0] (Host.dotGeneral dot_S4096x5632_S4096x1024_S5632x1024_0_0_1_1_n_n none
    (extf .f32 a1 bitsLt_bf16_f32) (extf .f32 a0 bitsLt_bf16_f32)) transposes_S5632x1024_S1024x5632_1_0

/-- Its columns in four blocks. -/
def blocks : FVec Ideal S4x1024x1408 .f32 :=
  transpose S4x1024x1408 [1, 0, 2] (shapeCast S1024x4x1408 (grad a0 a1) shapeCasts_S1024x5632_S1024x4x1408) transposes_S1024x4x1408_S4x1024x1408_1_0_2

/-- The same, rounded. -/
def rounded : FVec Ideal S4x1024x1408 .bf16 := truncf .bf16 (blocks a0 a1) bitsLt_bf16_f32

/-- A column of a block. -/
abbrev column (q : Fin 4) (b : Fin 1408) : Fin 5632 := ⟨q.val * 1408 + b.val, by omega⟩

theorem grad_at (a : Fin 1024) (b : Fin 5632) : grad a0 a1 (ix2 a b) = ∑ i : Fin 4096, a0 (ix2 i a) * a1 (ix2 i b) := by
  pointwise [grad]
  exact Finset.sum_congr rfl fun _ _ => mul_comm _ _

theorem blocks_at (q : Fin 4) (a : Fin 1024) (b : Fin 1408) : blocks a0 a1 (ix3 q a b) = grad a0 a1 (ix2 a (column q b)) := by
  unfold blocks
  generalize grad a0 a1 = X
  pointwise

theorem rounded_at (q : Fin 4) (a : Fin 1024) (b : Fin 1408) : rounded a0 a1 (ix3 q a b) = blocks a0 a1 (ix3 q a b) := rfl

theorem blocks_array : blocks a0 a1 = fun i => ∑ k : Fin 4096, (a0 (ix2 k (i 1)) : EReal) * a1 (ix2 k (column (i 0) (i 2))) := by
  funext i; idx_vars i; exact (blocks_at a0 a1 i0 i1 i2).trans (grad_at a0 a1 i1 (column i0 i2))

theorem rounded_array : rounded a0 a1 = fun i => ∑ k : Fin 4096, (a0 (ix2 k (i 1)) : EReal) * a1 (ix2 k (column (i 0) (i 2))) := by
  funext i; idx_vars i; exact (rounded_at a0 a1 i0 i1 i2).trans ((blocks_at a0 a1 i0 i1 i2).trans (grad_at a0 a1 i1 (column i0 i2)))

end Cert.Reference3Ideal.Stage
end
-- ==== Proof.GradOut.lean ====
module

public import proofs.«01_k».proof.Proof.Gen.Kernel4Ideal.Value
public import Idealize.ShloMosaic.Lib.Pointwise
public import Idealize.ShloMosaic.Lib.Pipeline.ValueKit
public import Idealize.ShloMosaic.Lib.Pipeline.ReadBack

/-! # The gradient of the feed-forward output matrix: the kernel's arrays

Two grid points per half of the rows of the matrix: the first multiplies the upper half of the tokens, the second adds
the lower half to it and rounds the sum. -/

@[expose] public section

set_option maxRecDepth 16384

noncomputable section
open Idealize.ShloMosaic Idealize.ShloMosaic.TcCoe Idealize.SL.Sem
open Idealize.ShloMosaic.Pipeline (Dat)
namespace Cert.Kernel4Ideal.Val
open Cert.Kernel4Ideal Cert.Kernel4Ideal.Gen

/-! ### One point -/

theorem product_at (x : Vec Ideal S2048x1408 .bf16) (y : Vec Ideal S2048x1024 .bf16) (a : Fin 1408) (b : Fin 1024) :
    k0_pay1 x y (ix2 a b) = ∑ p : Fin 2048, x (ix2 p a) * y (ix2 p b) := by
  pointwise [k0_pay1]

variable (m : (ℓ : Loc nD τ sig) → Buf (Elt Ideal) ℓ) (c : Dev nD) (t : Fin cfg0.N)

/-- What enters the product on the left, with a row per token. -/
def left (i : Fin 4096) (a : Fin 2816) : EReal := (m ((c : Thread nD τ).loc main_arg0) : FVec Ideal S4096x2816 .bf16) (ix2 i a)
/-- What enters it on the right. -/
def right (i : Fin 4096) (b : Fin 1024) : EReal := (m ((c : Thread nD τ).loc main_arg1) : FVec Ideal S4096x1024 .bf16) (ix2 i b)
/-- The product over the tokens. -/
def grad (a : Fin 2816) (b : Fin 1024) : EReal := ∑ i, left m c i a * right m c i b

theorem lt_four : t.val < 4 := lt_of_lt_of_eq t.isLt N_0

/-- A token of the half that the point reads. -/
abbrev token (s : ℕ) (p : Fin 2048) : Fin 4096 := ⟨(s % 2) * 2048 + p.val, by omega⟩
/-- A row of the half that the point writes. -/
abbrev place (a : Fin 1408) : Fin 2816 := ⟨(t.val / 2) * 1408 + a.val, by have := lt_four t; omega⟩

theorem idx : ∀ t : Fin cfg0.N, win0_0.index t = ![t.val % 2, t.val / 2] ∧ win0_1.index t = ![t.val % 2, 0]
    ∧ win0_2.index t = ![t.val / 2, 0] ∧ win0_3.index t = ![t.val / 2, 0] :=
  (by decide +kernel : ∀ t : Fin grid0.N, _)

theorem left_at (p : Fin 2048) (a : Fin 1408) : (iblk m c 0 t : Vec Ideal S2048x1408 .bf16) (ix2 p a) = left m c (token t.val p) (place t a) := by
  pointwise [left]
  blk_point [iblk, V, idx t]

theorem right_at (p : Fin 2048) (b : Fin 1024) : (iblk m c 1 t : Vec Ideal S2048x1024 .bf16) (ix2 p b) = right m c (token t.val p) b := by
  pointwise [right]
  blk_point [iblk, V, idx t]

/-- The part of the product that the point computes. -/
theorem part (a : Fin 1408) (b : Fin 1024) : k0_pay1 (iblk m c 0 t : Vec Ideal S2048x1408 .bf16) (iblk m c 1 t : Vec Ideal S2048x1024 .bf16) (ix2 a b)
    = ∑ p, left m c (token t.val p) (place t a) * right m c (token t.val p) b :=
  (product_at _ _ a b).trans (Finset.sum_congr rfl fun p _ => congrArg₂ (· * ·) (left_at m c t p a) (right_at m c t p b))

theorem first (e : t.val % 2 = 0) : (outsAt0 m c t.val t.isLt).1 = k0_pay1 (iblk m c 0 t : Vec Ideal S2048x1408 .bf16) (iblk m c 1 t : Vec Ideal S2048x1024 .bf16) := by
  rw [outsAt0_A m c t e (by omega) (by omega)]
  frame_out

theorem second (e : t.val % 2 = 1) : (outsAt0 m c t.val t.isLt).1
    = k0_pay2 (iblk m c 0 t : Vec Ideal S2048x1408 .bf16) (iblk m c 1 t : Vec Ideal S2048x1024 .bf16) (outsAt0 m c (t.val - 1) (by omega)).1 := by
  rw [outsAt0_B m c t (by omega) e e]
  frame_out

theorem second_rounded (e : t.val % 2 = 1) : (outsAt0 m c t.val t.isLt).2 = k0_pay3 (outsAt0 m c t.val t.isLt).1 := by
  rw [outsAt0_B m c t (by omega) e e]
  frame_out

/-- Both halves of the tokens. -/
theorem halves (f : Fin 4096 → EReal) : (∑ p, f (token 0 p)) + ∑ p, f (token 1 p) = ∑ i, f i := by
  refine (Fin.sum_univ_two fun s : Fin 2 => ∑ p, f (token s.val p)).symm.trans
    (Fin.sum_mul_add_congr (S := 2) (n := 2048) fun s k hl => congrArg f (Fin.ext ?_))
  fin_cases s <;> simp [token]

theorem whole (e : t.val % 2 = 1) (a : Fin 1408) (b : Fin 1024) : (outsAt0 m c t.val t.isLt).1 (ix2 a b) = grad m c (place t a) b := by
  have q := first m c ⟨t.val - 1, by omega⟩ (by simp only; omega)
  have h := congrFun (second m c t e) (ix2 a b)
  refine h.trans ?_
  have q' := congrFun q (ix2 a b)
  rw [part] at q'
  have p' : place ⟨t.val - 1, by omega⟩ a = place t a := Fin.ext (by simp only; omega)
  rw [p'] at q'
  unfold k0_pay2
  have w := part m c t a b
  generalize k0_pay1 (iblk m c 0 t : Vec Ideal S2048x1408 .bf16) (iblk m c 1 t : Vec Ideal S2048x1024 .bf16) = X at *
  generalize (outsAt0 m c (t.val - 1) _).1 = Y at *
  pointwise
  rw [q', w]
  have z : ∀ p, token (t.val - 1) p = token 0 p := fun p => Fin.ext (by simp only; omega)
  have o : ∀ p, token t.val p = token 1 p := fun p => Fin.ext (by simp only; omega)
  simp only [z, o]
  exact halves fun i => left m c i (place t a) * right m c i b

/-! ### The arrays -/

/-- The gradient. -/
theorem arr2 : (dats m 0 c).arrAt 2 cfg0.N = (fun i => grad m c (i 0) (i 1) : FVec Ideal S2816x1024 .f32) := by
  refine (dats m 0 c).arrAt_eq_of_covers 2 _ (by decide +kernel) fun t hf y => ?_
  blk_simp
  rw [after0_2]
  idx_vars y
  refine (whole m c t ((flush0_2 t).mp hf) y0 y1).trans ?_
  refine congrArg₂ (grad m c) (Fin.ext ?_) (Fin.ext ?_) <;> blk_simp [idx t]

/-- The gradient, rounded. -/
theorem arr3 : (dats m 0 c).arrAt 3 cfg0.N = (fun i => grad m c (i 0) (i 1) : FVec Ideal S2816x1024 .bf16) := by
  refine (dats m 0 c).arrAt_eq_of_covers 3 _ (by decide +kernel) fun t hf y => ?_
  blk_simp
  rw [after0_3, second_rounded m c t ((flush0_3 t).mp hf)]
  idx_vars y
  refine Eq.trans ?_ ((whole m c t ((flush0_3 t).mp hf) y0 y1).trans ?_)
  · generalize (outsAt0 m c t.val t.isLt).1 = X
    pointwise [k0_pay3]
  · refine congrArg₂ (grad m c) (Fin.ext ?_) (Fin.ext ?_) <;> blk_simp [idx t]

end Cert.Kernel4Ideal.Val
end
-- ==== Proof.GradOutRef.lean ====
module

public import proofs.«01_k».proof.Proof.Gen.Reference4Ideal.Run
public import Idealize.ShloMosaic.Lib.Pointwise
public import Idealize.ShloMosaic.Lib.Pipeline.ValueKit

/-! # The gradient of the feed-forward output matrix: the reference's results -/

@[expose] public section

set_option maxRecDepth 16384

noncomputable section
open Idealize.ShloMosaic Idealize.ShloMosaic.TcCoe Idealize.SL.Sem
namespace Cert.Reference4Ideal.Stage
open Cert.Reference4Ideal Cert.Reference4Ideal.Gen

variable (a0 : FVec Ideal S4096x2816 .bf16) (a1 : FVec Ideal S4096x1024 .bf16)

/-- The derivative of the product in its right factor, at the cotangent. -/
def grad : FVec Ideal S2816x1024 .f32 :=
  transpose S2816x1024 [1, 0] (Host.dotGeneral dot_S4096x1024_S4096x2816_S1024x2816_0_0_1_1_n_n none
    (extf .f32 a1 bitsLt_bf16_f32) (extf .f32 a0 bitsLt_bf16_f32)) transposes_S1024x2816_S2816x1024_1_0

/-- The same, rounded. -/
def rounded : FVec Ideal S2816x1024 .bf16 := truncf .bf16 (grad a0 a1) bitsLt_bf16_f32

theorem grad_at (a : Fin 2816) (b : Fin 1024) : grad a0 a1 (ix2 a b) = ∑ i : Fin 4096, a0 (ix2 i a) * a1 (ix2 i b) := by
  pointwise [grad]
  exact Finset.sum_congr rfl fun _ _ => mul_comm _ _

theorem rounded_at (a : Fin 2816) (b : Fin 1024) : rounded a0 a1 (ix2 a b) = grad a0 a1 (ix2 a b) := rfl

theorem grad_array : grad a0 a1 = fun i => ∑ k : Fin 4096, (a0 (ix2 k (i 0)) : EReal) * a1 (ix2 k (i 1)) := by
  funext i; idx_vars i; exact grad_at a0 a1 i0 i1

theorem rounded_array : rounded a0 a1 = fun i => ∑ k : Fin 4096, (a0 (ix2 k (i 0)) : EReal) * a1 (ix2 k (i 1)) := by
  funext i; idx_vars i; exact (rounded_at a0 a1 i0 i1).trans (grad_at a0 a1 i0 i1)

end Cert.Reference4Ideal.Stage
end
-- ==== Proof.Products.lean ====
module

public import proofs.«01_k».proof.Defs
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.GradIn
public import proofs.«01_k».proof.Proof.GradInRef
public import proofs.«01_k».proof.Proof.GradOut
public import proofs.«01_k».proof.Proof.GradOutRef
public import Idealize.ShloMosaic.Adequacy
public import Idealize.ShloMosaic.Init

/-! # The weight gradients' products agree with the reference's -/

@[expose] public section

set_option maxRecDepth 16384

noncomputable section
namespace Cert.Products

open Idealize.ShloMosaic Idealize.SL.Sem

instance : Cert.Kernel3.Facts := Cert.Kernel3.Gen.facts
instance : Cert.Kernel3Ideal.Facts := Cert.Kernel3Ideal.Gen.facts
instance : Cert.Reference3Ideal.Facts := Cert.Reference3Ideal.Gen.facts
instance : Cert.Kernel4.Facts := Cert.Kernel4.Gen.facts
instance : Cert.Kernel4Ideal.Facts := Cert.Kernel4Ideal.Gen.facts
instance : Cert.Reference4Ideal.Facts := Cert.Reference4Ideal.Gen.facts

/-- The reference runs, keeps its arguments and ends with every semaphore at zero. -/
theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The reference runs, keeps its arguments and ends with every semaphore at zero. -/
theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The gradient of the matrix in. -/
theorem algebraic3 : Cert.algebraic_Kernel3Ideal_Reference3Ideal := by
  pair_intro
  · run_from Cert.Kernel3Ideal.Value.run_blocks m g
  · run_from Cert.Reference3Ideal.Value.run m' g'
    · exact Eq.trans (Cert.Reference3Ideal.Stage.blocks_array _ _) (Cert.Kernel3Ideal.Val.arr2 m c).symm
    · exact Eq.trans (Cert.Reference3Ideal.Stage.rounded_array _ _) (Cert.Kernel3Ideal.Val.arr3 m c).symm

/-- The gradient of the matrix out. -/
theorem algebraic4 : Cert.algebraic_Kernel4Ideal_Reference4Ideal := by
  pair_intro
  · run_from Cert.Kernel4Ideal.Value.run_blocks m g
  · run_from Cert.Reference4Ideal.Value.run m' g'
    · exact Eq.trans (Cert.Reference4Ideal.Stage.grad_array _ _) (Cert.Kernel4Ideal.Val.arr2 m c).symm
    · exact Eq.trans (Cert.Reference4Ideal.Stage.rounded_array _ _) (Cert.Kernel4Ideal.Val.arr3 m c).symm

end Cert.Products
end
-- ==== Proof.FfnSpec.lean ====
module

public import proofs.«01_k».proof.Proof.Spec

/-! # The feed-forward half-step and its gradient as formulas

What the kernels and the references are both shown to compute, entry by entry, over the extended reals: `h` holds the
rows, `g` the gain of the norm, `wi` the matrix into the gate and the input of the gate, `wo` the matrix out. -/

@[expose] public section

noncomputable section
open Idealize.ShloMosaic

namespace Cert.Ffn

open Cert.Gmlp (half negHalf eps)

/-- The arguments: rows, gain and the two matrices. -/
structure Args where
  h : Fin 4096 → Fin 1024 → EReal
  g : Fin 1024 → EReal
  wi : Fin 1024 → Fin 5632 → EReal
  wo : Fin 2816 → Fin 1024 → EReal

/-- The mean's divisor, the width of the norm. -/
abbrev width : EReal := Ideal.ofBits .f32 0x44800000#32
/-- A column of the gate. -/
abbrev lo (f : Fin 2816) : Fin 5632 := ⟨f.val, by omega⟩
/-- A column of what the gate multiplies. -/
abbrev hi (f : Fin 2816) : Fin 5632 := ⟨2816 + f.val, by omega⟩
/-- Column `f` of a half. -/
abbrev col (q : Fin 2) (f : Fin 1408) : Fin 2816 := ⟨q.val * 1408 + f.val, by omega⟩

/-- The logistic gate. -/
abbrev sig (x : EReal) : EReal := Ideal.logistic x

namespace Args
variable (A : Args)

/-- The mean square of a row, with `eps` added. -/
def ms (i : Fin 4096) : EReal := Ideal.div (∑ k, A.h i k * A.h i k) width + eps
/-- One over the root of it. -/
def r (i : Fin 4096) : EReal := Ideal.rsqrt (A.ms i)
/-- The normalized rows. -/
def n (i : Fin 4096) (k : Fin 1024) : EReal := A.h i k * A.r i * A.g k
/-- The normalized rows through the matrix in. -/
def z (i : Fin 4096) (f : Fin 5632) : EReal := ∑ k, A.n i k * A.wi k f
/-- The gate before its activation. -/
def gate (i : Fin 4096) (f : Fin 2816) : EReal := A.z i (lo f)
/-- What the gate multiplies. -/
def up (i : Fin 4096) (f : Fin 2816) : EReal := A.z i (hi f)
/-- The gated rows. -/
def act (i : Fin 4096) (f : Fin 2816) : EReal := A.gate i f * sig (A.gate i f) * A.up i f
/-- The half-step. -/
def out (i : Fin 4096) (j : Fin 1024) : EReal := A.h i j + half * ∑ f, A.act i f * A.wo f j

variable (d : Fin 4096 → Fin 1024 → EReal)

/-- Half the cotangent. -/
def dhalf (i : Fin 4096) (j : Fin 1024) : EReal := half * d i j
/-- The cotangent of the gated rows. -/
def dact (i : Fin 4096) (f : Fin 2816) : EReal := ∑ j, dhalf d i j * A.wo f j
/-- The cotangent of the gate. -/
def dgate (i : Fin 4096) (f : Fin 2816) : EReal :=
  A.dact d i f * A.up i f * (sig (A.gate i f) * (1 + A.gate i f * (1 - sig (A.gate i f))))
/-- The cotangent of what the gate multiplies. -/
def dup (i : Fin 4096) (f : Fin 2816) : EReal := A.dact d i f * (A.gate i f * sig (A.gate i f))
/-- Both. -/
def dz (i : Fin 4096) (f : Fin 5632) : EReal :=
  if h : f.val < 2816 then A.dgate d i ⟨f.val, h⟩ else A.dup d i ⟨f.val - 2816, by omega⟩
/-- The cotangent of the normalized rows. -/
def dn (i : Fin 4096) (k : Fin 1024) : EReal := ∑ f, A.dz d i f * A.wi k f
/-- The gradient of the rows. -/
def dh (i : Fin 4096) (k : Fin 1024) : EReal :=
  d i k + (A.r i * (A.dn d i k * A.g k)
    - A.h i k * (A.r i * A.r i * A.r i) * Ideal.div (∑ k, A.dn d i k * A.g k * A.h i k) width)
/-- The gradient of the gain. -/
def dg (k : Fin 1024) : EReal := ∑ i, A.dn d i k * A.h i k * A.r i

end Args
end Cert.Ffn
end
-- ==== Proof.FfnBlock.lean ====
module

public import proofs.«01_k».proof.Proof.Gen.Kernel5Ideal.Frame
public import proofs.«01_k».proof.Proof.FfnSpec
public import Idealize.ShloMosaic.Lib.Pipeline.ReadBack

/-! # What one block of 256 rows computes in the forward half-step -/

@[expose] public section

set_option maxRecDepth 16384

noncomputable section
open Idealize.ShloMosaic Idealize.ShloMosaic.TcCoe Idealize.SL.Sem Cert.Ffn
open Idealize.ShloMosaic.Pipeline (Dat)
namespace Cert.Kernel5Ideal.Val
open Cert.Kernel5Ideal Cert.Kernel5Ideal.Gen
open Cert.Gmlp (half eps)

/-- Row `i` of block `t`. -/
abbrev row (t : Fin 16) (i : Fin 256) : Fin 4096 := ⟨256 * t.val + i.val, by omega⟩
/-- Column `f` of quarter `q`. -/
abbrev quart (q : Fin 4) (f : Fin 1408) : Fin 5632 := ⟨q.val * 1408 + f.val, by omega⟩

/-! ### The products of a block -/

theorem in_at (n : FVec Ideal S256x1024 .bf16) (w : Vec Ideal S1x1024x1408 .bf16) (i : Fin 256) (f : Fin 1408) :
    k0_pay1 n w (ix2 i f) = ∑ k : Fin 1024, n (ix2 i k) * w (ix3 0 k f) := by
  pointwise [k0_pay1]

section
variable (A : Args) (t : Fin 16) (v : Vec Ideal S256x1024 .f32) (g : Vec Ideal S1x1024 .f32)
  (hv : ∀ i k, v (ix2 i k) = A.h (row t i) k) (hg : ∀ k, g (ix2 0 k) = A.g k)
include hv hg

theorem n_row (i : Fin 256) (k : Fin 1024) : k0_pay6 v g (ix2 i k) = A.n (row t i) k := by
  pointwise [k0_pay6]
  simp only [hv, hg]
  rfl

theorem z_row (q : Fin 4) (w : Vec Ideal S1x1024x1408 .bf16) (hw : ∀ k f, w (ix3 0 k f) = A.wi k (quart q f)) (i : Fin 256) (f : Fin 1408) :
    k0_pay1 (k0_pay6 v g) w (ix2 i f) = A.z (row t i) (quart q f) := by
  rw [in_at]
  exact Finset.sum_congr rfl fun k _ => congrArg₂ (· * ·) (n_row A t v g hv hg i k) (hw k f)

theorem gate_row (q : Fin 2) (q' : Fin 4) (e : q'.val = q.val) (w : Vec Ideal S1x1024x1408 .bf16) (hw : ∀ k f, w (ix3 0 k f) = A.wi k (quart q' f))
    (i : Fin 256) (f : Fin 1408) : k0_pay1 (k0_pay6 v g) w (ix2 i f) = A.gate (row t i) (col q f) :=
  (z_row A t v g hv hg q' w hw i f).trans (congrArg (A.z (row t i)) (Fin.ext (by simp only [e])))

theorem up_row (q : Fin 2) (q' : Fin 4) (e : q'.val = 2 + q.val) (w : Vec Ideal S1x1024x1408 .bf16) (hw : ∀ k f, w (ix3 0 k f) = A.wi k (quart q' f))
    (i : Fin 256) (f : Fin 1408) : k0_pay1 (k0_pay6 v g) w (ix2 i f) = A.up (row t i) (col q f) :=
  (z_row A t v g hv hg q' w hw i f).trans (congrArg (A.z (row t i)) (Fin.ext (by simp only [e]; omega)))
end

/-- What half `q` of the gated columns adds to a row of the product out. -/
def outTerm (A : Args) (q : Fin 2) (i : Fin 4096) (j : Fin 1024) : EReal := ∑ f, A.act i (col q f) * A.wo (col q f) j

theorem out_terms (A : Args) (i : Fin 4096) (j : Fin 1024) : outTerm A 0 i j + outTerm A 1 i j = ∑ f, A.act i f * A.wo f j :=
  (Fin.sum_univ_two fun s : Fin 2 => outTerm A s i j).symm.trans
    (Fin.sum_mul_add_congr (S := 2) (n := 1408) (f := fun f => A.act i f * A.wo f j) fun _ _ _ => rfl)

section
variable (A : Args) (t : Fin 16) (G U : FVec Ideal S256x1408 .f32) (q : Fin 2) (w : Vec Ideal S1408x1024 .bf16)
  (hG : ∀ i f, G (ix2 i f) = A.gate (row t i) (col q f)) (hU : ∀ i f, U (ix2 i f) = A.up (row t i) (col q f))
  (hw : ∀ f j, w (ix2 f j) = A.wo (col q f) j)

/-- The gated columns of half `q` through the matrix out. -/
abbrev gated : FVec Ideal S256x1024 .f32 :=
  matmul dot_S256x1408_S1408x1024_S256x1024_1_0_0_1_n_n none (truncf .bf16 (mulf (mulf G (logistic G)) U) bitsLt_bf16_f32)
    (shapeCast S1408x1024 (w : FVec Ideal S1408x1024 .bf16) shapeCasts_S1408x1024_S1408x1024 : FVec Ideal S1408x1024 .bf16) (constant S256x1024 .f32 0x00000000#32)

include hG hU hw in
theorem gated_row (i : Fin 256) (j : Fin 1024) : gated G U w (ix2 i j) = outTerm A q (row t i) j := by
  unfold gated
  pointwise
  simp only [hG, hU, hw]
  rfl
end

section
variable (A : Args) (t : Fin 16) (v : Vec Ideal S256x1024 .f32) (X Y : FVec Ideal S256x1024 .f32)

theorem half_step (hv : ∀ i k, v (ix2 i k) = A.h (row t i) k) (hX : ∀ i j, X (ix2 i j) = outTerm A 0 (row t i) j)
    (hY : ∀ i j, Y (ix2 i j) = outTerm A 1 (row t i) j) (i : Fin 256) (j : Fin 1024) :
    addf v (mulf (broadcast S256x1024 (Scalar.ofBits .f32 0x3F000000#32)) (addf (addf (broadcast S256x1024 (Scalar.ofBits .f32 0x00000000#32)) X) Y)) (ix2 i j)
      = A.out (row t i) j := by
  pointwise
  rw [hv, hX, hY]
  unfold Args.out
  rw [← out_terms]
end

end Cert.Kernel5Ideal.Val
end
-- ==== Proof.FfnArray.lean ====
module

public import proofs.«01_k».proof.Proof.FfnBlock
public import proofs.«01_k».proof.Proof.Gen.Kernel5Ideal.Value

/-! # The forward half-step: the kernel's arrays -/

@[expose] public section

set_option maxRecDepth 16384

noncomputable section
open Idealize.ShloMosaic Idealize.ShloMosaic.TcCoe Idealize.SL.Sem Cert.Ffn
open Idealize.ShloMosaic.Pipeline (Dat)
namespace Cert.Kernel5Ideal.Val
open Cert.Kernel5Ideal Cert.Kernel5Ideal.Gen
open Cert.Gmlp (half eps)

variable (m : (ℓ : Loc nD τ sig) → Buf (Elt Ideal) ℓ) (c : Dev nD)

/-- The kernel's arguments. -/
def args : Args where
  h i k := (m ((c : Thread nD τ).loc main_arg0) : FVec Ideal S4096x1024 .f32) (ix2 i k)
  g k := (m ((c : Thread nD τ).loc main_arg1) : FVec Ideal S1x1024 .f32) (ix2 0 k)
  wi k f := (m ((c : Thread nD τ).loc main_arg2) : FVec Ideal S1x1024x5632 .f32) (ix3 0 k f)
  wo f j := (m ((c : Thread nD τ).loc main_arg3) : FVec Ideal S1x2816x1024 .f32) (ix3 0 f j)

/-- The number of a grid point. -/
abbrev num (t : Fin cfg0.N) : Fin 16 := ⟨t.val, lt_of_lt_of_eq t.isLt N_0⟩

theorem idx : ∀ t : Fin cfg0.N, win0_0.index t = ![t.val, 0] ∧ win0_1.index t = ![0, 0] ∧ win0_2.index t = ![0, 0, 0]
    ∧ win0_3.index t = ![0, 0] ∧ win0_4.index t = ![t.val, 0] ∧ win0_5.index t = ![t.val, 0] :=
  (by decide +kernel : ∀ t : Fin grid0.N, _)

variable (t : Fin cfg0.N)

/-! ### The blocks of the arguments -/

theorem read_h (i : Fin 256) (k : Fin 1024) : (View.ld (iblk m c 0 t) r0_0 : Vec Ideal S256x1024 .f32) (ix2 i k) = (args m c).h (row (num t) i) k := by
  pointwise [args]
  blk_point [iblk, V, idx t]

theorem read_g (k : Fin 1024) : (View.ld (iblk m c 1 t) r0_1 : Vec Ideal S1x1024 .f32) (ix2 0 k) = (args m c).g k := by
  pointwise [args]
  blk_point [iblk, V, idx t]

theorem read_in (q : Fin 4) (o : ℕ) (e : o = q.val) (h) (k : Fin 1024) (f : Fin 1408) :
    (View.ld (iblk m c 2 t) (Rect.unit (s := S4x1024x1408) ![o, 0, 0] S1x1024x1408.size h) : Vec Ideal S1x1024x1408 .bf16) (ix3 0 k f) = (args m c).wi k (quart q f) := by
  subst e
  pointwise [args]
  blk_simp [iblk, idx t]
  entry_read
  pointwise
  blk_point [iblk, V, idx t]

theorem read_out (q : Fin 2) (o : ℕ) (e : o = 1408 * q.val) (h) (f : Fin 1408) (j : Fin 1024) :
    (View.ld (iblk m c 3 t) (Rect.unit (s := S2816x1024) ![o, 0] S1408x1024.size h) : Vec Ideal S1408x1024 .bf16) (ix2 f j) = (args m c).wo (col q f) j := by
  subst e
  pointwise [args]
  blk_simp [iblk, idx t]
  entry_read
  pointwise
  blk_point [iblk, V, idx t]

/-! ### What a grid point leaves -/

theorem out4 (i : Fin 256) (j : Fin 1024) :
    out0_4 (iblk m c 0 t) (iblk m c 1 t) (iblk m c 2 t) (iblk m c 3 t) (ix2 i j) = (args m c).out (row (num t) i) j := by
  unfold out0_4 k0_pay12
  refine (congrFun (View.canon_cons_unit_lit inb_S256x1024_S256x1024_0_0 _ [] (by decide)) _).trans ?_
  refine half_step (args m c) (num t) _ _ _ (read_h m c t) (fun i j => ?_) (fun i j => ?_) i j
  · refine gated_row (args m c) (num t) _ _ 0 _ (fun i f => ?_) (fun i f => ?_) (read_out m c t 0 0 rfl _) i j
    · exact gate_row (args m c) (num t) _ _ (read_h m c t) (read_g m c t) 0 0 rfl _ (read_in m c t 0 0 rfl _) i f
    · exact up_row (args m c) (num t) _ _ (read_h m c t) (read_g m c t) 0 2 rfl _ (read_in m c t 2 2 rfl _) i f
  · refine gated_row (args m c) (num t) _ _ 1 _ (fun i f => ?_) (fun i f => ?_) (read_out m c t 1 1408 rfl _) i j
    · exact gate_row (args m c) (num t) _ _ (read_h m c t) (read_g m c t) 1 1 rfl _ (read_in m c t 1 1 rfl _) i f
    · exact up_row (args m c) (num t) _ _ (read_h m c t) (read_g m c t) 1 3 rfl _ (read_in m c t 3 3 rfl _) i f

/-- A piece of the rows before gating: its columns are quarter `q`. -/
theorem piece (q : Fin 4) (w : Vec Ideal S1x1024x1408 .bf16) (hw : ∀ k f, w (ix3 0 k f) = (args m c).wi k (quart q f))
    (y0 : Fin 256) (y1 : Fin 5632) (x0 : Fin 256) (x1 : Fin 1408) (h0 : y0.val = x0.val) (h1 : y1.val = q.val * 1408 + x1.val) :
    k0_pay1 (k0_pay6 (View.ld (iblk m c 0 t) r0_0 : Vec Ideal S256x1024 .f32) (View.ld (iblk m c 1 t) r0_1 : Vec Ideal S1x1024 .f32)) w (ix2 x0 x1)
      = (args m c).z (row (num t) y0) y1 := by
  obtain rfl := Fin.ext h0
  obtain rfl : y1 = quart q x1 := Fin.ext h1
  exact z_row (args m c) (num t) _ _ (read_h m c t) (read_g m c t) q w hw y0 x1

theorem out5 (y : S256x5632.Idx) :
    out0_5 (iblk m c 0 t) (iblk m c 1 t) (iblk m c 2 t) (iblk m c 3 t) y = (args m c).z (row (num t) (y 0)) (y 1) := by
  unfold out0_5 k0_pay12
  canon_tiles x h
  all_goals idx_vars x
  · exact piece m c t 3 _ (read_in m c t 3 3 rfl _) _ _ _ _ h0 h1
  · exact piece m c t 1 _ (read_in m c t 1 1 rfl _) _ _ _ _ h0 h1
  · exact piece m c t 2 _ (read_in m c t 2 2 rfl _) _ _ _ _ h0 h1
  · exact piece m c t 0 _ (read_in m c t 0 0 rfl _) _ _ _ _ h0 (h1.trans (Nat.zero_add _).symm)

/-! ### The arrays -/

/-- The half-step. -/
theorem arr4 : (dats m 0 c).arrAt 4 cfg0.N = (fun i => (args m c).out (i 0) (i 1) : FVec Ideal S4096x1024 .f32) := by
  refine (dats m 0 c).arrAt_eq_of_covers 4 _ (by decide +kernel) fun t hf y => ?_
  blk_simp
  rw [after0_4]
  idx_vars y
  refine (out4 m c t y0 y1).trans ?_
  refine congrArg₂ (args m c).out (Fin.ext ?_) (Fin.ext ?_) <;> blk_simp [idx t]
  exact congrArg (· + _) (Nat.mul_comm _ _)

/-- The rows before gating. -/
theorem arr5 : (dats m 0 c).arrAt 5 cfg0.N = (fun i => (args m c).z (i 0) (i 1) : FVec Ideal S4096x5632 .bf16) := by
  refine (dats m 0 c).arrAt_eq_of_covers 5 _ (by decide +kernel) fun t hf y => ?_
  blk_simp
  rw [after0_5]
  refine (out5 m c t _).trans ?_
  refine congrArg₂ (args m c).z (Fin.ext ?_) (Fin.ext ?_) <;> blk_simp [idx t]
  exact congrArg (· + _) (Nat.mul_comm _ _)

end Cert.Kernel5Ideal.Val
end
-- ==== Proof.FfnRef.lean ====
module

public import proofs.«01_k».proof.Proof.Gen.Reference5Ideal.Run
public import proofs.«01_k».proof.Proof.FfnSpec

/-! # The forward half-step: the reference's results -/

@[expose] public section

set_option maxRecDepth 16384

noncomputable section
open Idealize.ShloMosaic Idealize.ShloMosaic.TcCoe Idealize.SL.Sem Cert.Ffn
namespace Cert.Reference5Ideal.Stage
open Cert.Reference5Ideal Cert.Reference5Ideal.Gen
open Cert.Gmlp (half eps)

abbrev Rows := FVec Ideal S4096x1024 .f32
abbrev Col := FVec Ideal S4096x1 .f32
abbrev Wide := FVec Ideal S4096x2816 .f32

/-- The mean square of the rows. -/
def meanSq (h : Rows) : Col :=
  addf (Host.divf (broadcastInDim S4096x1 ![0] bcast_S4096_S4096x1_0
    (Host.reduceAdd (mulf h h) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))
/-- The gain on every row. -/
def gain (g : FVec Ideal S1x1024 .f32) : Rows :=
  broadcastInDim S4096x1024 ![0, 1] bcast_S1x1024_S4096x1024_0_1 (broadcastInDim S1x1024 ![1] bcast_S1024_S1x1024_1
    (shapeCast S1024 g shapeCasts_S1x1024_S1024))
/-- The normalized rows. -/
def normed (h : Rows) (g : FVec Ideal S1x1024 .f32) : Rows :=
  mulf (mulf h (broadcastInDim S4096x1024 ![0, 1] bcast_S4096x1_S4096x1024_0_1 (Host.rsqrt (meanSq h)))) (gain g)
/-- The rows before gating. -/
def pre (n : Rows) (w : FVec Ideal S1x1024x5632 .f32) : FVec Ideal S4096x5632 .f32 :=
  Host.dotGeneral dot_S4096x1024_S1024x5632_S4096x5632_1_0_0_1_n_n none n (shapeCast S1024x5632 w shapeCasts_S1x1024x5632_S1024x5632)
/-- The gate. -/
def gate (z : FVec Ideal S4096x5632 .f32) : Wide := extractStridedSlice S4096x2816 ![0, 0] z slices_S4096x5632_S4096x2816_0_0
/-- What it multiplies. -/
def up (z : FVec Ideal S4096x5632 .f32) : Wide := extractStridedSlice S4096x2816 ![0, 2816] z slices_S4096x5632_S4096x2816_0_2816
/-- A number at every entry. -/
abbrev fill (b : BitVec 32) : Wide := broadcastInDim S4096x2816 ![] bcast_S_S4096x2816 (constant S_ .f32 b)
/-- The logistic function. -/
def logi (x : Wide) : Wide := Host.divf (fill 0x3F800000#32) (addf (fill 0x3F800000#32) (Host.exp (Host.negf x)))
/-- The gated rows. -/
def gated (z : FVec Ideal S4096x5632 .f32) : Wide := mulf (mulf (gate z) (logi (gate z))) (up z)
/-- The product out. -/
def through (a : Wide) (w : FVec Ideal S1x2816x1024 .f32) : Rows :=
  Host.dotGeneral dot_S4096x2816_S2816x1024_S4096x1024_1_0_0_1_n_n none a (shapeCast S2816x1024 w shapeCasts_S1x2816x1024_S2816x1024)
/-- The half-step. -/
def step (h : Rows) (g : FVec Ideal S1x1024 .f32) (wi : FVec Ideal S1x1024x5632 .f32) (wo : FVec Ideal S1x2816x1024 .f32) : Rows :=
  addf h (mulf (broadcastInDim S4096x1024 ![] bcast_S_S4096x1024 (constant S_ .f32 0x3F000000#32)) (through (gated (pre (normed h g) wi)) wo))
/-- The rows before gating, rounded. -/
def saved (h : Rows) (g : FVec Ideal S1x1024 .f32) (wi : FVec Ideal S1x1024x5632 .f32) : FVec Ideal S4096x5632 .bf16 :=
  truncf .bf16 (pre (normed h g) wi) bitsLt_bf16_f32

/-! ### Entries -/

variable (h : FVec Ideal S4096x1024 .f32) (g : FVec Ideal S1x1024 .f32) (wi : FVec Ideal S1x1024x5632 .f32) (wo : FVec Ideal S1x2816x1024 .f32)

/-- The reference's arguments. -/
def args : Args where
  h i k := h (ix2 i k)
  g k := g (ix2 0 k)
  wi k f := wi (ix3 0 k f)
  wo f j := wo (ix3 0 f j)

variable (i : Fin 4096)

theorem meanSq_at : meanSq h (ix2 i 0) = Ideal.div (∑ k : Fin 1024, h (ix2 i k) * h (ix2 i k)) width + eps := by
  pointwise [meanSq]

theorem gain_at (k : Fin 1024) : gain g (ix2 i k) = g (ix2 0 k) := by
  pointwise [gain]

theorem normed_at (k : Fin 1024) : normed h g (ix2 i k) = (args h g wi wo).n i k := by
  pointwise [normed, gain_at]
  rw [meanSq_at]
  rfl

theorem pre_at (n : Rows) (f : Fin 5632) : pre n wi (ix2 i f) = ∑ k : Fin 1024, n (ix2 i k) * wi (ix3 0 k f) := by
  pointwise [pre]

theorem z_at (f : Fin 5632) : pre (normed h g) wi (ix2 i f) = (args h g wi wo).z i f := by
  rw [pre_at]
  exact Finset.sum_congr rfl fun k _ => congrArg (· * _) (normed_at h g wi wo i k)

theorem gate_at (f : Fin 2816) : gate (pre (normed h g) wi) (ix2 i f) = (args h g wi wo).gate i f := by
  refine Eq.trans ?_ (z_at h g wi wo i (lo f))
  generalize pre (normed h g) wi = X
  pointwise [gate]

theorem up_at (f : Fin 2816) : up (pre (normed h g) wi) (ix2 i f) = (args h g wi wo).up i f := by
  refine Eq.trans ?_ (z_at h g wi wo i (hi f))
  generalize pre (normed h g) wi = X
  pointwise [up]

theorem logi_at (x : Wide) (f : Fin 2816) : logi x (ix2 i f) = Cert.Ffn.sig (x (ix2 i f)) := by
  pointwise [logi]
  rfl

theorem gated_at (f : Fin 2816) : gated (pre (normed h g) wi) (ix2 i f) = (args h g wi wo).act i f := by
  unfold gated
  show gate _ (ix2 i f) * logi _ (ix2 i f) * up _ (ix2 i f) = _
  rw [logi_at, gate_at h g wi wo, up_at h g wi wo]
  rfl

theorem through_at (a : Wide) (j : Fin 1024) : through a wo (ix2 i j) = ∑ f : Fin 2816, a (ix2 i f) * wo (ix3 0 f j) := by
  pointwise [through]

theorem step_at (j : Fin 1024) : step h g wi wo (ix2 i j) = (args h g wi wo).out i j := by
  have e : through (gated (pre (normed h g) wi)) wo (ix2 i j) = ∑ f, (args h g wi wo).act i f * (args h g wi wo).wo f j :=
    (through_at wo i _ j).trans (Finset.sum_congr rfl fun f _ => congrArg (· * _) (gated_at h g wi wo i f))
  unfold step
  generalize through (gated (pre (normed h g) wi)) wo = X at *
  pointwise
  rw [e]
  rfl

/-! ### The results as arrays -/

theorem step_array : step h g wi wo = fun i => (args h g wi wo).out (i 0) (i 1) := by
  funext i; idx_vars i; exact step_at h g wi wo i0 i1

theorem saved_array : saved h g wi = fun i => (args h g wi wo).z (i 0) (i 1) := by
  funext i; idx_vars i; exact z_at h g wi wo i0 i1

end Cert.Reference5Ideal.Stage
end
-- ==== Proof.FfnGradBlock.lean ====
module

public import proofs.«01_k».proof.Proof.Gen.Kernel2Ideal.Frame
public import proofs.«01_k».proof.Proof.FfnSpec
public import Idealize.ShloMosaic.Lib.Pipeline.ReadBack

/-! # What one block of 256 rows computes in the gradient of the half-step -/

@[expose] public section

set_option maxRecDepth 16384

noncomputable section
open Idealize.ShloMosaic Idealize.ShloMosaic.TcCoe Idealize.SL.Sem Cert.Ffn
open Idealize.ShloMosaic.Pipeline (Dat)
namespace Cert.Kernel2Ideal.Val
open Cert.Kernel2Ideal Cert.Kernel2Ideal.Gen
open Cert.Gmlp (half eps)

/-- Row `i` of block `t`. -/
abbrev row (t : Fin 16) (i : Fin 256) : Fin 4096 := ⟨256 * t.val + i.val, by omega⟩

variable (A : Args) (d : Fin 4096 → Fin 1024 → EReal) (t : Fin 16)

/-! ### The norm and the cotangent's half -/

section
variable (v x : Vec Ideal S256x1024 .f32) (g : Vec Ideal S1x1024 .f32)
  (hv : ∀ i k, v (ix2 i k) = A.h (row t i) k) (hg : ∀ k, g (ix2 0 k) = A.g k) (hx : ∀ i k, x (ix2 i k) = d (row t i) k)

include hv in
theorem r_row (i : Fin 256) : k0_pay4 v (ix2 i 0) = A.r (row t i) := by
  pointwise [k0_pay4]
  simp only [hv]
  rfl

include hv hg in
theorem n_row (i : Fin 256) (k : Fin 1024) : k0_pay5 v g (ix2 i k) = A.n (row t i) k := by
  pointwise [k0_pay5]
  rw [r_row A t v hv]
  simp only [hv, hg]
  rfl

include hx in
theorem half_row (i : Fin 256) (j : Fin 1024) : k0_pay6 x (ix2 i j) = Args.dhalf d (row t i) j := by
  pointwise [k0_pay6]
  rw [hx]
  rfl

variable (q : Fin 2) (w : Vec Ideal S1408x1024 .bf16) (hw : ∀ f j, w (ix2 f j) = A.wo (col q f) j)

include hx hw in
theorem dact_row (i : Fin 256) (f : Fin 1408) : k0_pay8 x w (ix2 i f) = A.dact d (row t i) (col q f) := by
  have e := half_row d t x hx
  unfold k0_pay8
  generalize k0_pay6 x = X at *
  pointwise
  simp only [e, hw]
  rfl
end

/-! ### The gate -/

section
variable (q : Fin 2) (D : FVec Ideal S256x1408 .f32) (G U : Vec Ideal S256x1408 .bf16)
  (hD : ∀ i f, D (ix2 i f) = A.dact d (row t i) (col q f))
  (hG : ∀ i f, G (ix2 i f) = A.gate (row t i) (col q f)) (hU : ∀ i f, U (ix2 i f) = A.up (row t i) (col q f))

include hG hU in
theorem act_row (i : Fin 256) (f : Fin 1408) : k0_pay13 G U (ix2 i f) = A.act (row t i) (col q f) := by
  pointwise [k0_pay13, k0_pay12, k0_pay11, k0_pay10, k0_pay9]
  rw [hG, hU]
  rfl

include hD hG hU in
theorem dgate_row (i : Fin 256) (f : Fin 1408) :
    k0_pay14 D (k0_pay9 G) (k0_pay10 U) (k0_pay11 G) (ix2 i f) = A.dgate d (row t i) (col q f) := by
  pointwise [k0_pay14, k0_pay11, k0_pay10, k0_pay9]
  rw [hD, hG, hU]
  rfl

include hD hG in
theorem dup_row (i : Fin 256) (f : Fin 1408) : k0_pay15 D (k0_pay12 G) (ix2 i f) = A.dup d (row t i) (col q f) := by
  pointwise [k0_pay15, k0_pay12, k0_pay11, k0_pay9]
  rw [hD, hG]
  rfl
end

/-! ### The cotangent of the normalized rows -/

/-- What the gate's half `q` adds to it. -/
def gateTerm (q : Fin 2) (i : Fin 4096) (k : Fin 1024) : EReal := ∑ f, A.dgate d i (col q f) * A.wi k (lo (col q f))
/-- What the other factor's half `q` adds to it. -/
def upTerm (q : Fin 2) (i : Fin 4096) (k : Fin 1024) : EReal := ∑ f, A.dup d i (col q f) * A.wi k (hi (col q f))

theorem halves (F : Fin 2816 → EReal) : (∑ f, F (col 0 f)) + ∑ f, F (col 1 f) = ∑ f, F f :=
  (Fin.sum_univ_two fun s : Fin 2 => ∑ f, F (col s f)).symm.trans (Fin.sum_mul_add_congr (S := 2) (n := 1408) (f := F) fun _ _ _ => rfl)

theorem dn_parts (i : Fin 4096) (k : Fin 1024) :
    gateTerm A d 0 i k + upTerm A d 0 i k + gateTerm A d 1 i k + upTerm A d 1 i k = A.dn d i k := by
  have e : A.dn d i k = (∑ f, A.dgate d i f * A.wi k (lo f)) + ∑ f, A.dup d i f * A.wi k (hi f) := by
    refine (Fin.sum_univ_add (a := 2816) (b := 2816) fun f => A.dz d i f * A.wi k f).trans (congrArg₂ (· + ·) ?_ ?_)
    · refine Finset.sum_congr rfl fun f _ => congrArg₂ (· * ·) ?_ rfl
      exact dif_pos f.isLt
    · refine Finset.sum_congr rfl fun f _ => congrArg₂ (· * ·) ?_ rfl
      unfold Args.dz
      rw [dif_neg (by simp)]
      exact congrArg _ (Fin.ext (by simp))
  rw [e, ← halves fun f => A.dgate d i f * A.wi k (lo f), ← halves fun f => A.dup d i f * A.wi k (hi f)]
  unfold gateTerm upTerm
  abel

/-- A piece of the gradient through a quarter of the matrix in, transposed. -/
abbrev back (E : FVec Ideal S256x1408 .bf16) (w : Vec Ideal S1x1024x1408 .bf16) : FVec Ideal S256x1024 .f32 :=
  matmul dot_S256x1408_S1024x1408_S256x1024_1_1_0_0_n_n none E
    (shapeCast S1024x1408 (w : FVec Ideal S1x1024x1408 .bf16) shapeCasts_S1x1024x1408_S1024x1408 : FVec Ideal S1024x1408 .bf16) (constant S256x1024 .f32 0x00000000#32)

theorem back_at (E : FVec Ideal S256x1408 .bf16) (w : Vec Ideal S1x1024x1408 .bf16) (i : Fin 256) (k : Fin 1024) :
    back E w (ix2 i k) = ∑ f : Fin 1408, E (ix2 i f) * w (ix3 0 k f) := by
  unfold back
  pointwise

theorem gate_back (q : Fin 2) (E : FVec Ideal S256x1408 .bf16) (w : Vec Ideal S1x1024x1408 .bf16)
    (hE : ∀ i f, E (ix2 i f) = A.dgate d (row t i) (col q f)) (hw : ∀ k f, w (ix3 0 k f) = A.wi k (lo (col q f))) (i : Fin 256) (k : Fin 1024) :
    back E w (ix2 i k) = gateTerm A d q (row t i) k :=
  (back_at E w i k).trans (Finset.sum_congr rfl fun f _ => congrArg₂ (· * ·) (hE i f) (hw k f))

theorem up_back (q : Fin 2) (E : FVec Ideal S256x1408 .bf16) (w : Vec Ideal S1x1024x1408 .bf16)
    (hE : ∀ i f, E (ix2 i f) = A.dup d (row t i) (col q f)) (hw : ∀ k f, w (ix3 0 k f) = A.wi k (hi (col q f))) (i : Fin 256) (k : Fin 1024) :
    back E w (ix2 i k) = upTerm A d q (row t i) k :=
  (back_at E w i k).trans (Finset.sum_congr rfl fun f _ => congrArg₂ (· * ·) (hE i f) (hw k f))

/-- The four pieces' sum. -/
abbrev four (X Y Z W : FVec Ideal S256x1024 .f32) : FVec Ideal S256x1024 .f32 :=
  addf (addf (addf (addf (broadcast S256x1024 (Scalar.ofBits .f32 0x00000000#32)) X) Y) Z) W

theorem four_row (X Y Z W : FVec Ideal S256x1024 .f32)
    (hX : ∀ i k, X (ix2 i k) = gateTerm A d 0 (row t i) k) (hY : ∀ i k, Y (ix2 i k) = upTerm A d 0 (row t i) k)
    (hZ : ∀ i k, Z (ix2 i k) = gateTerm A d 1 (row t i) k) (hW : ∀ i k, W (ix2 i k) = upTerm A d 1 (row t i) k) (i : Fin 256) (k : Fin 1024) :
    four X Y Z W (ix2 i k) = A.dn d (row t i) k := by
  rw [← dn_parts]
  unfold four
  pointwise
  rw [hX, hY, hZ, hW]

/-! ### Back through the norm -/

section
variable (v x : Vec Ideal S256x1024 .f32) (N : FVec Ideal S256x1024 .f32) (g : Vec Ideal S1x1024 .f32)
  (hv : ∀ i k, v (ix2 i k) = A.h (row t i) k) (hg : ∀ k, g (ix2 0 k) = A.g k) (hx : ∀ i k, x (ix2 i k) = d (row t i) k)
  (hN : ∀ i k, N (ix2 i k) = A.dn d (row t i) k)

/-- The rows' gradient through the norm. -/
abbrev normBack (R : FVec Ideal S256x1 .f32) : FVec Ideal S256x1024 .f32 :=
  subf (mulf (broadcastTo S256x1024 R broadcasts_S256x1_S256x1024) (mulf N (broadcastTo S256x1024 (g : FVec Ideal S1x1024 .f32) broadcasts_S1x1024_S256x1024)))
    (mulf (mulf v (broadcastTo S256x1024 (mulf (mulf R R) R) broadcasts_S256x1_S256x1024))
      (broadcastTo S256x1024 (divf (shapeCast S256x1 (multiReduction .add [1] S256 (mulf (mulf N (broadcastTo S256x1024 (g : FVec Ideal S1x1024 .f32) broadcasts_S1x1024_S256x1024)) v)
        0x00000000#32 reduces_S256x1024_S256 (.inl rfl) rfl) shapeCasts_S256_S256x1) (broadcast S256x1 (Scalar.ofBits .f32 0x44800000#32))) broadcasts_S256x1_S256x1024))

include hv hg hx hN in
theorem dh_row (i : Fin 256) (k : Fin 1024) :
    k0_pay1 x (normBack v N g (k0_pay4 v)) (ix2 i k) = A.dh d (row t i) k := by
  have e := r_row A t v hv i
  unfold normBack
  generalize k0_pay4 v = R at *
  pointwise [k0_pay1]
  simp only [e, hv, hg, hx, hN]
  rfl

include hv hN in
theorem dg_block (B : Vec Ideal S1x1024 .f32) (k : Fin 1024) :
    k0_pay3 v (k0_pay4 v) N B (ix2 0 k) = B (ix2 0 k) + ∑ i, A.dn d (row t i) k * A.h (row t i) k * A.r (row t i) := by
  have e := r_row A t v hv
  unfold k0_pay3
  generalize k0_pay4 v = R at *
  pointwise
  simp only [e, hv, hN]
end

end Cert.Kernel2Ideal.Val
end
-- ==== Proof.FfnGradReads.lean ====
module

public import proofs.«01_k».proof.Proof.FfnGradBlock
public import proofs.«01_k».proof.Proof.FfnRef

/-! # The gradient of the half-step: the blocks of the arguments

The rows before gating are the host's: the forward lines of the reference, rounded. -/

@[expose] public section

set_option maxRecDepth 16384

noncomputable section
open Idealize.ShloMosaic Idealize.ShloMosaic.TcCoe Idealize.SL.Sem Cert.Ffn
open Idealize.ShloMosaic.Pipeline (Dat)
namespace Cert.Kernel2Ideal.Val
open Cert.Kernel2Ideal Cert.Kernel2Ideal.Gen

variable (m : (ℓ : Loc nD τ sig) → Buf (Elt Ideal) ℓ) (c : Dev nD)

/-- The kernel's arguments. -/
def args : Args where
  h i k := (m ((c : Thread nD τ).loc main_arg1) : FVec Ideal S4096x1024 .f32) (ix2 i k)
  g k := (m ((c : Thread nD τ).loc main_arg2) : FVec Ideal S1x1024 .f32) (ix2 0 k)
  wi k f := (m ((c : Thread nD τ).loc main_arg3) : FVec Ideal S1x1024x5632 .f32) (ix3 0 k f)
  wo f j := (m ((c : Thread nD τ).loc main_arg4) : FVec Ideal S1x2816x1024 .f32) (ix3 0 f j)
/-- The cotangent. -/
def cot (i : Fin 4096) (k : Fin 1024) : EReal := (m ((c : Thread nD τ).loc main_arg0) : FVec Ideal S4096x1024 .f32) (ix2 i k)

/-- The number of a grid point. -/
abbrev num (t : Fin cfg0.N) : Fin 16 := ⟨t.val, lt_of_lt_of_eq t.isLt N_0⟩

theorem idx : ∀ t : Fin cfg0.N, win0_0.index t = ![t.val, 0] ∧ win0_1.index t = ![t.val, 0] ∧ win0_2.index t = ![0, 0]
    ∧ win0_3.index t = ![t.val, 0] ∧ win0_4.index t = ![0, 0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![0, 0] :=
  (by decide +kernel : ∀ t : Fin grid0.N, _)

variable (t : Fin cfg0.N)

theorem read_d (i : Fin 256) (k : Fin 1024) : (iblk m c 0 t : Vec Ideal S256x1024 .f32) (ix2 i k) = cot m c (row (num t) i) k := by
  pointwise [cot]
  blk_point [iblk, V, idx t]

theorem read_h (i : Fin 256) (k : Fin 1024) : (iblk m c 1 t : Vec Ideal S256x1024 .f32) (ix2 i k) = (args m c).h (row (num t) i) k := by
  pointwise [args]
  blk_point [iblk, V, idx t]

theorem read_g (k : Fin 1024) : (iblk m c 2 t : Vec Ideal S1x1024 .f32) (ix2 0 k) = (args m c).g k := by
  pointwise [args]
  blk_point [iblk, V, idx t]

theorem read_in (q : Fin 4) (o : ℕ) (e : o = q.val) (h) (k : Fin 1024) (f : Fin 1408) :
    (View.ld (iblk m c 4 t) (Rect.unit (s := S4x1024x1408) ![o, 0, 0] S1x1024x1408.size h) : Vec Ideal S1x1024x1408 .bf16) (ix3 0 k f)
      = (args m c).wi k ⟨q.val * 1408 + f.val, by omega⟩ := by
  subst e
  pointwise [args]
  blk_simp [iblk, idx t]
  entry_read
  pointwise
  blk_point [iblk, V, idx t]

theorem read_lo (q : Fin 2) (o : ℕ) (e : o = q.val) (h) (k : Fin 1024) (f : Fin 1408) :
    (View.ld (iblk m c 4 t) (Rect.unit (s := S4x1024x1408) ![o, 0, 0] S1x1024x1408.size h) : Vec Ideal S1x1024x1408 .bf16) (ix3 0 k f)
      = (args m c).wi k (lo (col q f)) :=
  read_in m c t ⟨q.val, by omega⟩ o e h k f

theorem read_hi (q : Fin 2) (o : ℕ) (e : o = 2 + q.val) (h) (k : Fin 1024) (f : Fin 1408) :
    (View.ld (iblk m c 4 t) (Rect.unit (s := S4x1024x1408) ![o, 0, 0] S1x1024x1408.size h) : Vec Ideal S1x1024x1408 .bf16) (ix3 0 k f)
      = (args m c).wi k (hi (col q f)) :=
  (read_in m c t ⟨2 + q.val, by omega⟩ o e h k f).trans (congrArg ((args m c).wi k) (Fin.ext (by simp only; omega)))

theorem read_out (q : Fin 2) (o : ℕ) (e : o = 1408 * q.val) (h) (f : Fin 1408) (j : Fin 1024) :
    (View.ld (iblk m c 5 t) (Rect.unit (s := S2816x1024) ![o, 0] S1408x1024.size h) : Vec Ideal S1408x1024 .bf16) (ix2 f j) = (args m c).wo (col q f) j := by
  subst e
  pointwise [args]
  blk_simp [iblk, idx t]
  entry_read
  pointwise
  blk_point [iblk, V, idx t]

/-! ### The rows before gating -/

/-- The rows before gating, as the host computes them. -/
theorem gu_host : (V m c main_v16 : FVec Ideal S4096x5632 .bf16)
    = Cert.Reference5Ideal.Stage.saved (m ((c : Thread nD τ).loc main_arg1)) (m ((c : Thread nD τ).loc main_arg2)) (m ((c : Thread nD τ).loc main_arg3)) := by
  simp only [V]
  after_results_simp
  rfl

theorem read_gu (i : Fin 256) (f : Fin 5632) : (iblk m c 3 t : Vec Ideal S256x5632 .bf16) (ix2 i f) = (args m c).z (row (num t) i) f := by
  have e := congrFun ((gu_host m c).trans (Cert.Reference5Ideal.Stage.saved_array _ _ _ (m ((c : Thread nD τ).loc main_arg4)))) (ix2 (row (num t) i) f)
  refine Eq.trans ?_ e
  clear e
  unfold iblk
  generalize V m c = W
  blk_point [idx t]

theorem read_gate (q : Fin 2) (o : ℕ) (e : o = 1408 * q.val) (h) (i : Fin 256) (f : Fin 1408) :
    (View.ld (iblk m c 3 t) (Rect.unit (s := S256x5632) ![0, o] S256x1408.size h) : Vec Ideal S256x1408 .bf16) (ix2 i f) = (args m c).gate (row (num t) i) (col q f) := by
  subst e
  refine Eq.trans ?_ (read_gu m c t i (lo (col q f)))
  generalize iblk m c 3 t = W
  refine View.ld_unit_apply_of _ _ _ _ _ _ fun a => ?_
  fin_cases a
  · exact (Nat.zero_add _).symm
  · exact congrArg (· + _) (Nat.mul_comm _ _)

theorem read_up (q : Fin 2) (o : ℕ) (e : o = 2816 + 1408 * q.val) (h) (i : Fin 256) (f : Fin 1408) :
    (View.ld (iblk m c 3 t) (Rect.unit (s := S256x5632) ![0, o] S256x1408.size h) : Vec Ideal S256x1408 .bf16) (ix2 i f) = (args m c).up (row (num t) i) (col q f) := by
  subst e
  refine Eq.trans ?_ (read_gu m c t i (hi (col q f)))
  generalize iblk m c 3 t = W
  refine View.ld_unit_apply_of _ _ _ _ _ _ fun a => ?_
  fin_cases a
  · exact (Nat.zero_add _).symm
  · show 2816 + (q.val * 1408 + f.val) = 2816 + 1408 * q.val + f.val
    omega

end Cert.Kernel2Ideal.Val
end
-- ==== Proof.FfnGradOutputs.lean ====
module

public import proofs.«01_k».proof.Proof.FfnGradReads

/-! # The gradient of the half-step: what a grid point leaves in the outputs' buffers -/

@[expose] public section

set_option maxRecDepth 16384

noncomputable section
open Idealize.ShloMosaic Idealize.ShloMosaic.TcCoe Idealize.SL.Sem Cert.Ffn
open Idealize.ShloMosaic.Pipeline (Dat)
namespace Cert.Kernel2Ideal.Val
open Cert.Kernel2Ideal Cert.Kernel2Ideal.Gen

variable (m : (ℓ : Loc nD τ sig) → Buf (Elt Ideal) ℓ) (c : Dev nD) (t : Fin cfg0.N)

/-! ### The two halves of the gate, from the point's reads

A half `q` reads its rows of the matrix out at `a`, its gate at column `b`, what the gate multiplies at column `b'`. -/

section
variable (q : Fin 2) (a b b' : ℕ) (ea : a = 1408 * q.val) (eb : b = 1408 * q.val) (eb' : b' = 2816 + 1408 * q.val)
  (ha : ∀ k : Fin 2, (![a, 0] : Fin 2 → ℕ) k + S1408x1024.size k ≤ S2816x1024.size k)
  (hb : ∀ k : Fin 2, (![0, b] : Fin 2 → ℕ) k + S256x1408.size k ≤ S256x5632.size k)
  (hb' : ∀ k : Fin 2, (![0, b'] : Fin 2 → ℕ) k + S256x1408.size k ≤ S256x5632.size k)

/-- The half's rows of the matrix out. -/
abbrev wRows : Vec Ideal S1408x1024 .bf16 := View.ld (iblk m c 5 t) (Rect.unit (s := S2816x1024) ![a, 0] S1408x1024.size ha)
/-- The half's gate. -/
abbrev gCols : Vec Ideal S256x1408 .bf16 := View.ld (iblk m c 3 t) (Rect.unit (s := S256x5632) ![0, b] S256x1408.size hb)

include ea in
theorem dact_pt (i : Fin 256) (f : Fin 1408) :
    k0_pay8 (iblk m c 0 t) (wRows m c t a ha) (ix2 i f) = (args m c).dact (cot m c) (row (num t) i) (col q f) :=
  dact_row (args m c) (cot m c) (num t) _ (read_d m c t) q _ (read_out m c t q a ea ha) i f

include eb eb' in
theorem act_pt (i : Fin 256) (f : Fin 1408) :
    k0_pay13 (gCols m c t b hb) (gCols m c t b' hb') (ix2 i f) = (args m c).act (row (num t) i) (col q f) :=
  act_row (args m c) (num t) q _ _ (read_gate m c t q b eb hb) (read_up m c t q b' eb' hb') i f

include ea eb eb' in
theorem dgate_pt (i : Fin 256) (f : Fin 1408) :
    k0_pay14 (k0_pay8 (iblk m c 0 t) (wRows m c t a ha)) (k0_pay9 (gCols m c t b hb)) (k0_pay10 (gCols m c t b' hb')) (k0_pay11 (gCols m c t b hb)) (ix2 i f)
      = (args m c).dgate (cot m c) (row (num t) i) (col q f) :=
  dgate_row (args m c) (cot m c) (num t) q _ _ _ (dact_pt m c t q a ea ha) (read_gate m c t q b eb hb) (read_up m c t q b' eb' hb') i f

include ea eb in
theorem dup_pt (i : Fin 256) (f : Fin 1408) :
    k0_pay15 (k0_pay8 (iblk m c 0 t) (wRows m c t a ha)) (k0_pay12 (gCols m c t b hb)) (ix2 i f)
      = (args m c).dup (cot m c) (row (num t) i) (col q f) :=
  dup_row (args m c) (cot m c) (num t) q _ _ (dact_pt m c t q a ea ha) (read_gate m c t q b eb hb) i f
end

/-! ### The cotangent of the normalized rows -/

/-- It, as the point computes it. -/
abbrev dnPt : FVec Ideal S256x1024 .f32 :=
  k0_pay26
    (k0_pay16 k0_pay7 (k0_pay8 (iblk m c 0 t) (wRows m c t 0 inb_S2816x1024_S1408x1024_0_0)) (k0_pay9 (gCols m c t 0 inb_S256x5632_S256x1408_0_0))
      (k0_pay10 (gCols m c t 2816 inb_S256x5632_S256x1408_0_2816)) (k0_pay11 (gCols m c t 0 inb_S256x5632_S256x1408_0_0)) (k0_pay12 (gCols m c t 0 inb_S256x5632_S256x1408_0_0))
      (View.ld (iblk m c 4 t) (Rect.unit ![0, 0, 0] ![1, 1024, 1408] inb_S4x1024x1408_S1x1024x1408_0_0_0))
      (View.ld (iblk m c 4 t) (Rect.unit ![2, 0, 0] ![1, 1024, 1408] inb_S4x1024x1408_S1x1024x1408_2_0_0)))
    (k0_pay17 (k0_pay6 (iblk m c 0 t)) (wRows m c t 1408 inb_S2816x1024_S1408x1024_1408_0)) (k0_pay18 (gCols m c t 1408 inb_S256x5632_S256x1408_0_1408))
    (k0_pay19 (gCols m c t 4224 inb_S256x5632_S256x1408_0_4224)) (k0_pay20 (gCols m c t 1408 inb_S256x5632_S256x1408_0_1408)) (k0_pay21 (gCols m c t 1408 inb_S256x5632_S256x1408_0_1408))
    (View.ld (iblk m c 4 t) (Rect.unit ![1, 0, 0] ![1, 1024, 1408] inb_S4x1024x1408_S1x1024x1408_1_0_0))
    (View.ld (iblk m c 4 t) (Rect.unit ![3, 0, 0] ![1, 1024, 1408] inb_S4x1024x1408_S1x1024x1408_3_0_0))

theorem dn_pt (i : Fin 256) (k : Fin 1024) : dnPt m c t (ix2 i k) = (args m c).dn (cot m c) (row (num t) i) k := by
  refine four_row (args m c) (cot m c) (num t) _ _ _ _ ?_ ?_ ?_ ?_ i k
  · exact gate_back (args m c) (cot m c) (num t) 0 _ _ (dgate_pt m c t 0 0 0 2816 rfl rfl rfl _ _ _) (read_lo m c t 0 0 rfl _)
  · exact up_back (args m c) (cot m c) (num t) 0 _ _ (dup_pt m c t 0 0 0 rfl rfl _ _) (read_hi m c t 0 2 rfl _)
  · exact gate_back (args m c) (cot m c) (num t) 1 _ _ (dgate_pt m c t 1 1408 1408 4224 rfl rfl rfl _ _ _) (read_lo m c t 1 1 rfl _)
  · exact up_back (args m c) (cot m c) (num t) 1 _ _ (dup_pt m c t 1 1408 1408 rfl rfl _ _) (read_hi m c t 1 3 rfl _)

/-! ### The rows -/

theorem out6 (y : S256x1024.Idx) :
    (outsAt0 m c t.val t.isLt).1 y = (args m c).dh (cot m c) (row (num t) (y 0)) (y 1) := by
  have A := outsAt0_A m c t
  have B := outsAt0_B m c t
  by_cases e : t.val % 16 = 0
  on_goal 1 => rw [A e]
  on_goal 2 => rw [B e]
  all_goals
    frame_out
    clear A B e
    idx_vars y
    exact dh_row (args m c) (cot m c) (num t) _ _ (dnPt m c t) _ (read_h m c t) (read_g m c t) (read_d m c t) (dn_pt m c t) y0 y1

theorem out8 (y : S256x1024.Idx) : (outsAt0 m c t.val t.isLt).2.2.1 y = (args m c).n (row (num t) (y 0)) (y 1) := by
  have A := outsAt0_A m c t
  have B := outsAt0_B m c t
  by_cases e : t.val % 16 = 0
  on_goal 1 => rw [A e]
  on_goal 2 => rw [B e]
  all_goals
    frame_out
    clear A B e
    idx_vars y
    exact n_row (args m c) (num t) _ _ (read_h m c t) (read_g m c t) y0 y1

theorem out10 (y : S256x1024.Idx) : (outsAt0 m c t.val t.isLt).2.2.2.2.1 y = Args.dhalf (cot m c) (row (num t) (y 0)) (y 1) := by
  have A := outsAt0_A m c t
  have B := outsAt0_B m c t
  by_cases e : t.val % 16 = 0
  on_goal 1 => rw [A e]
  on_goal 2 => rw [B e]
  all_goals
    frame_out
    clear A B e
    idx_vars y
    exact half_row (cot m c) (num t) _ (read_d m c t) y0 y1

/-! ### The gate's columns, by halves -/

theorem act_piece (q : Fin 2) (X : FVec Ideal S256x1408 .bf16) (hX : ∀ i f, X (ix2 i f) = (args m c).act (row (num t) i) (col q f))
    (y0 : Fin 256) (y1 : Fin 2816) (x0 : Fin 256) (x1 : Fin 1408) (h0 : y0.val = x0.val) (h1 : y1.val = q.val * 1408 + x1.val) :
    X (ix2 x0 x1) = (args m c).act (row (num t) y0) y1 := by
  obtain rfl := Fin.ext h0
  obtain rfl : y1 = col q x1 := Fin.ext h1
  exact hX y0 x1

theorem gate_piece (q : Fin 2) (X : FVec Ideal S256x1408 .bf16) (hX : ∀ i f, X (ix2 i f) = (args m c).dgate (cot m c) (row (num t) i) (col q f))
    (y0 : Fin 256) (y1 : Fin 5632) (x0 : Fin 256) (x1 : Fin 1408) (h0 : y0.val = x0.val) (h1 : y1.val = q.val * 1408 + x1.val) :
    X (ix2 x0 x1) = (args m c).dz (cot m c) (row (num t) y0) y1 := by
  obtain rfl := Fin.ext h0
  obtain rfl : y1 = lo (col q x1) := Fin.ext h1
  refine (hX y0 x1).trans ?_
  unfold Args.dz
  rw [dif_pos (col q x1).isLt]

theorem up_piece (q : Fin 2) (X : FVec Ideal S256x1408 .bf16) (hX : ∀ i f, X (ix2 i f) = (args m c).dup (cot m c) (row (num t) i) (col q f))
    (y0 : Fin 256) (y1 : Fin 5632) (x0 : Fin 256) (x1 : Fin 1408) (h0 : y0.val = x0.val) (h1 : y1.val = 2816 + (q.val * 1408 + x1.val)) :
    X (ix2 x0 x1) = (args m c).dz (cot m c) (row (num t) y0) y1 := by
  obtain rfl := Fin.ext h0
  obtain rfl : y1 = hi (col q x1) := Fin.ext h1
  refine (hX y0 x1).trans ?_
  unfold Args.dz
  rw [dif_neg (by simp)]
  exact congrArg _ (Fin.ext (by simp))

theorem out7 (y : S256x5632.Idx) :
    (outsAt0 m c t.val t.isLt).2.1 y = (args m c).dz (cot m c) (row (num t) (y 0)) (y 1) := by
  have A := outsAt0_A m c t
  have B := outsAt0_B m c t
  by_cases e : t.val % 16 = 0
  on_goal 1 => rw [A e]
  on_goal 2 => rw [B e]
  all_goals
    frame_out
    clear A B e
    canon_tiles x h
    all_goals idx_vars x
    · exact up_piece m c t 1 _ (dup_pt m c t 1 1408 1408 rfl rfl _ _) _ _ _ _ h0 (h1.trans (Nat.add_assoc 2816 1408 _))
    · exact gate_piece m c t 1 _ (dgate_pt m c t 1 1408 1408 4224 rfl rfl rfl _ _ _) _ _ _ _ h0 h1
    · exact up_piece m c t 0 _ (dup_pt m c t 0 0 0 rfl rfl _ _) _ _ _ _ h0 (h1.trans (congrArg (2816 + ·) (Nat.zero_add _).symm))
    · exact gate_piece m c t 0 _ (dgate_pt m c t 0 0 0 2816 rfl rfl rfl _ _ _) _ _ _ _ h0 (h1.trans (Nat.zero_add _).symm)

theorem out9 (y : S256x2816.Idx) : (outsAt0 m c t.val t.isLt).2.2.2.1 y = (args m c).act (row (num t) (y 0)) (y 1) := by
  have A := outsAt0_A m c t
  have B := outsAt0_B m c t
  by_cases e : t.val % 16 = 0
  on_goal 1 => rw [A e]
  on_goal 2 => rw [B e]
  all_goals
    frame_out
    clear A B e
    canon_tiles x h
    all_goals idx_vars x
    · exact act_piece m c t 1 _ (act_pt m c t 1 1408 4224 rfl rfl _ _) _ _ _ _ h0 h1
    · exact act_piece m c t 0 _ (act_pt m c t 0 0 2816 rfl rfl _ _) _ _ _ _ h0 (h1.trans (Nat.zero_add _).symm)

/-! ### The gain's gradient -/

theorem out11_A (e : t.val % 16 = 0) (k : Fin 1024) :
    (outsAt0 m c t.val t.isLt).2.2.2.2.2 (ix2 0 k)
      = ∑ i, (args m c).dn (cot m c) (row (num t) i) k * (args m c).h (row (num t) i) k * (args m c).r (row (num t) i) := by
  rw [outsAt0_A m c t e]
  frame_out
  refine (dg_block (args m c) (cot m c) (num t) _ (dnPt m c t) (read_h m c t) (dn_pt m c t) _ k).trans ?_
  pointwise [k0_pay2]

theorem out11_B (e : ¬ t.val % 16 = 0) (k : Fin 1024) :
    (outsAt0 m c t.val t.isLt).2.2.2.2.2 (ix2 0 k) = (outsAt0 m c (t.val - 1) (by omega)).2.2.2.2.2 (ix2 0 k)
      + ∑ i, (args m c).dn (cot m c) (row (num t) i) k * (args m c).h (row (num t) i) k * (args m c).r (row (num t) i) := by
  rw [outsAt0_B m c t e]
  frame_out
  exact dg_block (args m c) (cot m c) (num t) _ (dnPt m c t) (read_h m c t) (dn_pt m c t) _ k

end Cert.Kernel2Ideal.Val
end
-- ==== Proof.FfnGradArrays.lean ====
module

public import proofs.«01_k».proof.Proof.FfnGradOutputs
public import proofs.«01_k».proof.Proof.Gen.Kernel2Ideal.Value

/-! # The gradient of the half-step: the kernel's arrays -/

@[expose] public section

set_option maxRecDepth 16384

noncomputable section
open Idealize.ShloMosaic Idealize.ShloMosaic.TcCoe Idealize.SL.Sem Cert.Ffn
open Idealize.ShloMosaic.Pipeline (Dat)
namespace Cert.Kernel2Ideal.Val
open Cert.Kernel2Ideal Cert.Kernel2Ideal.Gen

variable (m : (ℓ : Loc nD τ sig) → Buf (Elt Ideal) ℓ) (c : Dev nD)

theorem N : cfg0.N = 16 := N_0

theorem last : t0_15.val + 1 = cfg0.N := N.symm

/-- The gradient of the rows. -/
theorem arr6 : (dats m 0 c).arrAt 6 cfg0.N = (fun i => (args m c).dh (cot m c) (i 0) (i 1) : FVec Ideal S4096x1024 .f32) := by
  refine (dats m 0 c).arrAt_eq_of_covers 6 _ (by decide +kernel) fun t hf y => ?_
  blk_simp
  rw [after0_6]
  refine (out6 m c t _).trans ?_
  refine congrArg₂ ((args m c).dh (cot m c)) (Fin.ext ?_) (Fin.ext ?_) <;> blk_simp [idx t]
  exact congrArg (· + _) (Nat.mul_comm _ _)

/-- The gradient of the rows before gating. -/
theorem arr7 : (dats m 0 c).arrAt 7 cfg0.N = (fun i => (args m c).dz (cot m c) (i 0) (i 1) : FVec Ideal S4096x5632 .bf16) := by
  refine (dats m 0 c).arrAt_eq_of_covers 7 _ (by decide +kernel) fun t hf y => ?_
  blk_simp
  rw [after0_7]
  refine (out7 m c t _).trans ?_
  refine congrArg₂ ((args m c).dz (cot m c)) (Fin.ext ?_) (Fin.ext ?_) <;> blk_simp [idx t]
  exact congrArg (· + _) (Nat.mul_comm _ _)

/-- The normalized rows. -/
theorem arr8 : (dats m 0 c).arrAt 8 cfg0.N = (fun i => (args m c).n (i 0) (i 1) : FVec Ideal S4096x1024 .bf16) := by
  refine (dats m 0 c).arrAt_eq_of_covers 8 _ (by decide +kernel) fun t hf y => ?_
  blk_simp
  rw [after0_8]
  refine (out8 m c t _).trans ?_
  refine congrArg₂ (args m c).n (Fin.ext ?_) (Fin.ext ?_) <;> blk_simp [idx t]
  exact congrArg (· + _) (Nat.mul_comm _ _)

/-- The gated rows. -/
theorem arr9 : (dats m 0 c).arrAt 9 cfg0.N = (fun i => (args m c).act (i 0) (i 1) : FVec Ideal S4096x2816 .bf16) := by
  refine (dats m 0 c).arrAt_eq_of_covers 9 _ (by decide +kernel) fun t hf y => ?_
  blk_simp
  rw [after0_9]
  refine (out9 m c t _).trans ?_
  refine congrArg₂ (args m c).act (Fin.ext ?_) (Fin.ext ?_) <;> blk_simp [idx t]
  exact congrArg (· + _) (Nat.mul_comm _ _)

/-- Half the cotangent. -/
theorem arr10 : (dats m 0 c).arrAt 10 cfg0.N = (fun i => Args.dhalf (cot m c) (i 0) (i 1) : FVec Ideal S4096x1024 .bf16) := by
  refine (dats m 0 c).arrAt_eq_of_covers 10 _ (by decide +kernel) fun t hf y => ?_
  blk_simp
  rw [after0_10]
  refine (out10 m c t _).trans ?_
  refine congrArg₂ (Args.dhalf (cot m c)) (Fin.ext ?_) (Fin.ext ?_) <;> blk_simp [idx t]
  exact congrArg (· + _) (Nat.mul_comm _ _)

/-- A sum over the blocks and the rows of each is the sum over the rows. -/
theorem sum_rows (f : Fin 4096 → EReal) : ∑ t : Fin cfg0.N, ∑ i : Fin 256, f (row (num t) i) = ∑ i, f i := by
  refine Fin.sum_mul_add_congr (S := cfg0.N) (fun t k hl => congrArg f (Fin.ext ?_)) (by rw [N])
  simp only; omega

/-- The gradient of the gain. -/
theorem arr11 : (dats m 0 c).arrAt 11 cfg0.N = (fun i => (args m c).dg (cot m c) (i 1) : FVec Ideal S1x1024 .f32) := by
  refine (dats m 0 c).arrAt_eq_of_after_last 11 t0_15 (by decide +kernel) _ fun j => ?_
  blk_simp
  rw [after0_11]
  obtain ⟨k, rfl⟩ : ∃ k : Fin 1024, j = ix2 (0 : Fin 1) k := ⟨j 1, by idx_vars j; obtain rfl : j0 = 0 := Subsingleton.elim _ _; rfl⟩
  refine (Pipeline.eq_sum_fin_of_reset_step_apply_last (M := EReal)
    (fun n h k => ((outsAt0 m c n h).2.2.2.2.2 : FVec Ideal S1x1024 .f32) (ix2 0 k)) 16 (fun _ => 0)
    (fun t k => ∑ i, (args m c).dn (cot m c) (row (num t) i) k * (args m c).h (row (num t) i) k * (args m c).r (row (num t) i))
    (fun t h y => (out11_A m c t h y).trans (zero_add _).symm)
    (fun t h y => out11_B m c t h y) (le_of_eq N_0) t0_15 last k).trans ?_
  rw [zero_add]
  exact sum_rows fun i => (args m c).dn (cot m c) i k * (args m c).h i k * (args m c).r i

end Cert.Kernel2Ideal.Val
end
-- ==== Proof.FfnGradStages.lean ====
module

public import proofs.«01_k».proof.Proof.Gen.Reference2Ideal.Run
public import proofs.«01_k».proof.Proof.FfnRef

/-! # The half-step's gradient: the reference in stages

The forward stages are those of the forward half-step. -/

@[expose] public section

set_option maxRecDepth 16384

noncomputable section
open Idealize.ShloMosaic Idealize.ShloMosaic.TcCoe Idealize.SL.Sem Cert.Ffn
namespace Cert.Reference2Ideal.Stage
open Cert.Reference2Ideal Cert.Reference2Ideal.Gen Cert.Reference2Ideal.Value
open Cert.Reference5Ideal.Stage (Rows Col Wide meanSq gain normed pre gate up fill logi gated)

/-- A zero to start a sum. -/
abbrev zeroS : FVec Ideal S_ .f32 := constant S_ .f32 0x00000000#32
/-- A number at every row. -/
abbrev fillCol (b : BitVec 32) : Col := broadcastInDim S4096x1 ![] bcast_S_S4096x1 (constant S_ .f32 b)
/-- A column along the rows. -/
abbrev wide (r : Col) : Rows := broadcastInDim S4096x1024 ![0, 1] bcast_S4096x1_S4096x1024_0_1 r
/-- Half the cotangent. -/
def halved (d : Rows) : Rows := mulf (broadcastInDim S4096x1024 ![] bcast_S_S4096x1024 (constant S_ .f32 0x3F000000#32)) d
/-- The cotangent of the gated rows. -/
def dact (d : Rows) (wo : FVec Ideal S1x2816x1024 .f32) : Wide :=
  Host.dotGeneral dot_S4096x1024_S2816x1024_S4096x2816_1_1_0_0_n_n none (halved d) (shapeCast S2816x1024 wo shapeCasts_S1x2816x1024_S2816x1024)
/-- The cotangent of the gate, `c` being that of its activation. -/
def dgate (x c : Wide) : Wide := addf (mulf c (logi x)) (mulf (mulf x c) (mulf (logi x) (subf (fill 0x3F800000#32) (logi x))))
/-- The gate's and its partner's cotangents side by side. -/
def dz (z : FVec Ideal S4096x5632 .f32) (c : Wide) : FVec Ideal S4096x5632 .f32 :=
  concatenate S4096x5632 1 [⟨S4096x2816, dgate (gate z) (mulf c (up z))⟩, ⟨S4096x2816, mulf (mulf (gate z) (logi (gate z))) c⟩]
    concatenates_S4096x2816_S4096x2816_S4096x5632_d1
/-- The cotangent of the normalized rows. -/
def dn (e : FVec Ideal S4096x5632 .f32) (wi : FVec Ideal S1x1024x5632 .f32) : Rows :=
  Host.dotGeneral dot_S4096x5632_S1024x5632_S4096x1024_1_1_0_0_n_n none e (shapeCast S1024x5632 wi shapeCasts_S1x1024x5632_S1024x5632)
/-- The gain's gradient. -/
def dgain (h n : Rows) : FVec Ideal S1x1024 .f32 :=
  broadcastInDim S1x1024 ![1] bcast_S1024_S1x1024_1 (Host.reduceAdd (shapeCast S1x1024
    (Host.reduceAdd (mulf (mulf h (wide (Host.rsqrt (meanSq h)))) n) zeroS reducesTo_S4096x1024_S1024_d0 h_S_) shapeCasts_S1024_S1x1024)
    zeroS reducesTo_S1x1024_S1024_d0 h_S_)
/-- The derivative of one over the root of the mean square. -/
def rstdBwd (h : Rows) : Col := mulf (fillCol 0xBF000000#32) (Host.divf (Host.rsqrt (meanSq h)) (meanSq h))
/-- The cotangent of the squares, `v` being that of the rows before the gain. -/
def dmean (h v : Rows) : Rows :=
  broadcastInDim S4096x1024 ![0] bcast_S4096_S4096x1024_0 (Host.reduceAdd (Host.divf (mulf (shapeCast S4096x1
    (Host.reduceAdd (mulf h v) zeroS reducesTo_S4096x1024_S4096_d1 h_S_) shapeCasts_S4096_S4096x1) (rstdBwd h)) (fillCol 0x44800000#32))
    zeroS reducesTo_S4096x1_S4096_d1 h_S_)
/-- The rows' gradient from that cotangent. -/
def dnorm (d h v : Rows) : Rows :=
  addf (addf (addf d (mulf v (wide (Host.rsqrt (meanSq h))))) (mulf h (dmean h v))) (mulf (dmean h v) h)

section
variable (d h : Rows) (g : FVec Ideal S1x1024 .f32) (wi : FVec Ideal S1x1024x5632 .f32) (wo : FVec Ideal S1x2816x1024 .f32)

/-- The cotangents through the matrix in, at the arguments. -/
def dzAll : FVec Ideal S4096x5632 .f32 := dz (pre (normed h g) wi) (dact d wo)
/-- The cotangent of the normalized rows at the arguments. -/
def dnAll : Rows := dn (dzAll d h g wi wo) wi
/-- The rows' gradient. -/
def dh : Rows := dnorm d h (mulf (dnAll d h g wi wo) (gain g))
end

variable (m : (ℓ : Loc nD τ sig) → Buf (Elt Ideal) ℓ) (c : Dev nD)

theorem out0_eq : res_main_v57 m c = dh (m (c.tc.loc main_arg0)) (m (c.tc.loc main_arg1)) (m (c.tc.loc main_arg2)) (m (c.tc.loc main_arg3)) (m (c.tc.loc main_arg4)) := by
  have e : shapeCast S4096x1024 (m (c.tc.loc main_arg0) : Rows) shapeCasts_S4096x1024_S4096x1024 = m (c.tc.loc main_arg0) := by
    funext i; idx_vars i; pointwise
  unfold res_main_v57
  rw [e]
  rfl

theorem out1_eq : res_main_v90 m c
    = truncf .bf16 (dzAll (m (c.tc.loc main_arg0)) (m (c.tc.loc main_arg1)) (m (c.tc.loc main_arg2)) (m (c.tc.loc main_arg3)) (m (c.tc.loc main_arg4))) bitsLt_bf16_f32 := rfl

theorem out5_eq : res_main_v58 m c
    = dgain (m (c.tc.loc main_arg1)) (dnAll (m (c.tc.loc main_arg0)) (m (c.tc.loc main_arg1)) (m (c.tc.loc main_arg2)) (m (c.tc.loc main_arg3)) (m (c.tc.loc main_arg4))) := by
  have e : shapeCast S4096x1024 (m (c.tc.loc main_arg0) : Rows) shapeCasts_S4096x1024_S4096x1024 = m (c.tc.loc main_arg0) := by
    funext i; idx_vars i; pointwise
  unfold res_main_v58
  rw [e]
  rfl

end Cert.Reference2Ideal.Stage
end
-- ==== Proof.FfnNumbers.lean ====
module

public import proofs.«01_k».proof.Proof.FfnSpec
public import proofs.«01_k».proof.Proof.Numbers

/-! # The half-step's gradient on arguments that are real numbers -/

@[expose] public section

noncomputable section
open Idealize.ShloMosaic

namespace Cert.Ffn
open Cert.Gmlp (half negHalf eps IsReal half_val dnorm_eq rsqrt_real meanSq_real)

theorem width_val : width = ((1024 : ℝ) : EReal) := by
  simp [Ideal.ofBits, Ideal.ieee, -EReal.coe_mul]; norm_num

theorem half_real : IsReal half := half_val ▸ .coe _

/-- The logistic function of a real number is one. -/
theorem sig_real {x : EReal} (hx : IsReal x) : IsReal (sig x) := by
  obtain ⟨a, rfl⟩ := hx
  show IsReal (Ideal.div 1 (1 + Ideal.exp (-(a : EReal))))
  rw [← EReal.coe_neg, Ideal.exp_coe, ← EReal.coe_one, ← EReal.coe_add, Ideal.div_coe (by positivity)]
  exact (IsReal.coe _).mul (.coe _)

/-- The derivative of the gate times its logistic function, as the reference writes it. -/
theorem silu_eq {x s c : EReal} (hx : IsReal x) (hs : IsReal s) (hc : IsReal c) :
    c * s + x * c * (s * (1 - s)) = c * (s * (1 + x * (1 - s))) := by
  obtain ⟨a, rfl⟩ := hx
  obtain ⟨b, rfl⟩ := hs
  obtain ⟨d, rfl⟩ := hc
  rw [← EReal.coe_one]
  simp only [← EReal.coe_mul, ← EReal.coe_sub, ← EReal.coe_add]
  exact congrArg _ (by ring)

/-- Arguments whose entries are real numbers. -/
structure Args.Real (A : Args) : Prop where
  h : ∀ i k, IsReal (A.h i k)
  g : ∀ k, IsReal (A.g k)
  wi : ∀ k f, IsReal (A.wi k f)
  wo : ∀ f j, IsReal (A.wo f j)

namespace Args.Real
variable {A : Args} (H : A.Real)
include H

theorem ms (i) : ∃ M : ℝ, 0 < M ∧ A.ms i = (M : EReal) := meanSq_real (H.h i) width_val (by norm_num)
theorem r (i) : IsReal (A.r i) := by
  obtain ⟨M, hM, e⟩ := H.ms i
  unfold Args.r; rw [e]; exact rsqrt_real hM
theorem n (i k) : IsReal (A.n i k) := ((H.h i k).mul (H.r i)).mul (H.g k)
theorem z (i f) : IsReal (A.z i f) := IsReal.sum _ fun k => (H.n i k).mul (H.wi k f)

variable {d : Fin 4096 → Fin 1024 → EReal} (D : ∀ i j, IsReal (d i j))
include D

theorem dact (i f) : IsReal (A.dact d i f) := IsReal.sum _ fun j => (half_real.mul (D i j)).mul (H.wo f j)
theorem carried (i f) : IsReal (A.dact d i f * A.up i f) := (H.dact D i f).mul (H.z i _)
/-- The cotangent of the gate, as the reference writes it. -/
theorem dgate_eq (i f) :
    A.dact d i f * A.up i f * sig (A.gate i f) + A.gate i f * (A.dact d i f * A.up i f) * (sig (A.gate i f) * (1 - sig (A.gate i f))) = A.dgate d i f :=
  silu_eq (H.z i _) (sig_real (H.z i _)) (H.carried D i f)
theorem dgate (i f) : IsReal (A.dgate d i f) := by
  rw [← H.dgate_eq D]
  exact ((H.carried D i f).mul (sig_real (H.z i _))).add (((H.z i _).mul (H.carried D i f)).mul
    ((sig_real (H.z i _)).mul (IsReal.sub ⟨1, rfl⟩ (sig_real (H.z i _)))))
theorem dup (i f) : IsReal (A.dup d i f) := (H.dact D i f).mul ((H.z i _).mul (sig_real (H.z i _)))
theorem dz (i f) : IsReal (A.dz d i f) := by
  unfold Args.dz; split
  · exact H.dgate D i _
  · exact H.dup D i _
theorem dn (i k) : IsReal (A.dn d i k) := IsReal.sum _ fun f => (H.dz D i f).mul (H.wi k f)
theorem gained (i k) : IsReal (A.dn d i k * A.g k) := (H.dn D i k).mul (H.g k)
theorem dot (i) : IsReal (∑ k, A.dn d i k * A.g k * A.h i k) := IsReal.sum _ fun k => (H.gained D i k).mul (H.h i k)
/-- The gradient of the rows, as the reference writes it. -/
theorem dh_eq (i k) :
    let E := Ideal.div ((∑ k, A.h i k * (A.dn d i k * A.g k)) * (negHalf * Ideal.div (A.r i) (A.ms i))) width
    d i k + A.dn d i k * A.g k * A.r i + A.h i k * E + E * A.h i k = A.dh d i k := by
  obtain ⟨M, hM, e⟩ := H.ms i
  have := dnorm_eq (H.h i k) (H.gained D i k) (H.dot D i) hM width_val (by norm_num)
  rw [← e] at this
  intro E
  have hE : E = Ideal.div ((∑ k, A.dn d i k * A.g k * A.h i k) * (negHalf * Ideal.div (A.r i) (A.ms i))) width :=
    congrArg (fun s => Ideal.div (s * _) _) (Finset.sum_congr rfl fun k _ => mul_comm _ _)
  rw [hE]
  exact Eq.trans (by simp only [add_assoc]; rfl) (congrArg (d i k + ·) this)

end Args.Real
end Cert.Ffn
end
-- ==== Proof.FfnGradRef.lean ====
module

public import proofs.«01_k».proof.Proof.FfnGradStages
public import proofs.«01_k».proof.Proof.FfnNumbers

/-! # The half-step's gradient: the reference's results are the formulas -/

@[expose] public section

set_option maxRecDepth 16384

noncomputable section
open Idealize.ShloMosaic Idealize.ShloMosaic.TcCoe Idealize.SL.Sem Cert.Ffn
namespace Cert.Reference2Ideal.Stage
open Cert.Reference2Ideal Cert.Reference2Ideal.Gen
open Cert.Gmlp (half negHalf eps IsReal)
open Cert.Reference5Ideal.Stage (Rows Col Wide meanSq gain normed pre gate up fill logi gated args gate_at up_at logi_at normed_at gated_at gain_at meanSq_at)

variable (i : Fin 4096)

/-! ### Entries of the stages -/

theorem halved_at (d : Rows) (j : Fin 1024) : halved d (ix2 i j) = half * d (ix2 i j) := by
  pointwise [halved]

theorem dact_at (d : Rows) (wo : FVec Ideal S1x2816x1024 .f32) (f : Fin 2816) :
    dact d wo (ix2 i f) = ∑ j : Fin 1024, half * d (ix2 i j) * wo (ix3 0 f j) := by
  pointwise [dact, halved_at]

theorem dgate_at (x c : Wide) (f : Fin 2816) : dgate x c (ix2 i f)
    = c (ix2 i f) * Cert.Ffn.sig (x (ix2 i f)) + x (ix2 i f) * c (ix2 i f) * (Cert.Ffn.sig (x (ix2 i f)) * (1 - Cert.Ffn.sig (x (ix2 i f)))) := by
  pointwise [dgate, logi_at]

theorem dz_at (z : FVec Ideal S4096x5632 .f32) (c : Wide) (f : Fin 5632) : dz z c (ix2 i f)
    = if h : f.val < 2816 then dgate (gate z) (mulf c (up z)) (ix2 i ⟨f.val, h⟩)
      else gate z (ix2 i ⟨f.val - 2816, by omega⟩) * logi (gate z) (ix2 i ⟨f.val - 2816, by omega⟩) * c (ix2 i ⟨f.val - 2816, by omega⟩) := by
  unfold dz
  generalize dgate (gate z) (mulf c (up z)) = X
  generalize gate z = Y
  generalize logi Y = Z
  pointwise

theorem dn_at (e : FVec Ideal S4096x5632 .f32) (wi : FVec Ideal S1x1024x5632 .f32) (k : Fin 1024) :
    dn e wi (ix2 i k) = ∑ f : Fin 5632, e (ix2 i f) * wi (ix3 0 k f) := by
  pointwise [dn]

theorem dgain_at (h n : Rows) (k : Fin 1024) : dgain h n (ix2 0 k)
    = ∑ i : Fin 4096, h (ix2 i k) * Ideal.rsqrt (meanSq h (ix2 i 0)) * n (ix2 i k) := by
  pointwise [dgain]
  exact Fintype.sum_unique _

theorem dmean_at (h v : Rows) (k : Fin 1024) : dmean h v (ix2 i k)
    = Ideal.div ((∑ k : Fin 1024, h (ix2 i k) * v (ix2 i k)) *
      (negHalf * Ideal.div (Ideal.rsqrt (meanSq h (ix2 i 0))) (meanSq h (ix2 i 0)))) width := by
  pointwise [dmean, rstdBwd]
  exact Fintype.sum_unique _

theorem dnorm_at (d h v : Rows) (k : Fin 1024) : dnorm d h v (ix2 i k)
    = d (ix2 i k) + v (ix2 i k) * Ideal.rsqrt (meanSq h (ix2 i 0)) + h (ix2 i k) * dmean h v (ix2 i k) + dmean h v (ix2 i k) * h (ix2 i k) := by
  pointwise [dnorm]

/-! ### The stages at the arguments -/

variable (d h : Rows) (g : FVec Ideal S1x1024 .f32) (wi : FVec Ideal S1x1024x5632 .f32) (wo : FVec Ideal S1x2816x1024 .f32)

/-- The cotangent. -/
def cot (i : Fin 4096) (j : Fin 1024) : EReal := d (ix2 i j)

/-- Arguments that are real numbers. -/
structure Reals : Prop where
  d : ∀ i j, IsReal (cot d i j)
  a : (args h g wi wo).Real

variable {d h g wi wo}

theorem ms_eq : meanSq h (ix2 i 0) = (args h g wi wo).ms i := meanSq_at h i

theorem dact_eq (f : Fin 2816) : dact d wo (ix2 i f) = (args h g wi wo).dact (cot d) i f := dact_at i d wo f

theorem dzAll_eq (H : Reals d h g wi wo) (f : Fin 5632) : dzAll d h g wi wo (ix2 i f) = (args h g wi wo).dz (cot d) i f := by
  unfold dzAll Args.dz
  rw [dz_at]
  split
  · rw [dgate_at]
    show dact d wo _ * up _ _ * _ + _ * (dact d wo _ * up _ _) * _ = _
    rw [gate_at h g wi wo, up_at h g wi wo, dact_eq (h := h) (g := g) (wi := wi)]
    exact H.a.dgate_eq H.d i _
  · rw [logi_at, gate_at h g wi wo, dact_eq (h := h) (g := g) (wi := wi)]
    exact mul_comm _ _

theorem dnAll_eq (H : Reals d h g wi wo) (k : Fin 1024) : dnAll d h g wi wo (ix2 i k) = (args h g wi wo).dn (cot d) i k := by
  unfold dnAll
  rw [dn_at]
  exact Finset.sum_congr rfl fun f _ => congrArg (· * _) (dzAll_eq i H f)

theorem gained_eq (H : Reals d h g wi wo) (k : Fin 1024) :
    mulf (dnAll d h g wi wo) (gain g) (ix2 i k) = (args h g wi wo).dn (cot d) i k * (args h g wi wo).g k := by
  show dnAll d h g wi wo (ix2 i k) * gain g (ix2 i k) = _
  rw [dnAll_eq i H, gain_at]; rfl

theorem dh_eq (H : Reals d h g wi wo) (k : Fin 1024) : dh d h g wi wo (ix2 i k) = (args h g wi wo).dh (cot d) i k := by
  unfold dh
  rw [dnorm_at, dmean_at, gained_eq i H, ms_eq (g := g) (wi := wi) (wo := wo),
    Finset.sum_congr rfl fun k _ => (by rw [gained_eq i H])]
  exact H.a.dh_eq H.d i k

theorem dg_eq (H : Reals d h g wi wo) (k : Fin 1024) : dgain h (dnAll d h g wi wo) (ix2 0 k) = (args h g wi wo).dg (cot d) k := by
  rw [dgain_at]
  refine Finset.sum_congr rfl fun i _ => ?_
  rw [ms_eq (g := g) (wi := wi) (wo := wo), dnAll_eq i H, mul_comm, ← mul_assoc]; rfl

/-! ### The results as arrays -/

theorem dh_array (H : Reals d h g wi wo) : dh d h g wi wo = fun i => (args h g wi wo).dh (cot d) (i 0) (i 1) := by
  funext i; idx_vars i; exact dh_eq i0 H i1
theorem dz_array (H : Reals d h g wi wo) :
    (truncf .bf16 (dzAll d h g wi wo) bitsLt_bf16_f32 : FVec Ideal S4096x5632 .bf16) = fun i => (args h g wi wo).dz (cot d) (i 0) (i 1) := by
  funext i; idx_vars i; exact dzAll_eq i0 H i1
theorem n_array (wi wo) : (truncf .bf16 (normed h g) bitsLt_bf16_f32 : FVec Ideal S4096x1024 .bf16) = fun i => (args h g wi wo).n (i 0) (i 1) := by
  funext i; idx_vars i; exact normed_at h g wi wo i0 i1
theorem act_array (wo) : (truncf .bf16 (gated (pre (normed h g) wi)) bitsLt_bf16_f32 : FVec Ideal S4096x2816 .bf16)
    = fun i => (args h g wi wo).act (i 0) (i 1) := by
  funext i; idx_vars i; exact gated_at h g wi wo i0 i1
theorem dhalf_array : (truncf .bf16 (halved d) bitsLt_bf16_f32 : FVec Ideal S4096x1024 .bf16) = fun i => Args.dhalf (cot d) (i 0) (i 1) := by
  funext i; idx_vars i; exact halved_at i0 d i1
theorem dg_array (H : Reals d h g wi wo) : dgain h (dnAll d h g wi wo) = fun i => (args h g wi wo).dg (cot d) (i 1) := by
  funext i; idx_vars i; obtain rfl : i0 = 0 := Subsingleton.elim _ _; exact dg_eq H i1

end Cert.Reference2Ideal.Stage
end
-- ==== Proof.FfnFinite.lean ====
module

public import proofs.«01_k».proof.Pre_finite2
public import proofs.«01_k».proof.Proof.Finite

/-! # What the half-step's precondition says: every entry of the arguments is a real number -/

@[expose] public section

noncomputable section
open Idealize.ShloMosaic
namespace Cert.Pre_finite2
open Cert.Gmlp Facts

/-- The shape relations the precondition's operations take. -/
theorem facts : Facts where
  bcast_S_S4096x1024 := by decide
  reducesTo_S4096x1024_S_d0_1 := by decide
  h_S_ := by decide
  bcast_S_S1x1024 := by decide
  reducesTo_S1x1024_S_d0_1 := by decide
  bcast_S_S1x1024x5632 := by decide
  reducesTo_S1x1024x5632_S_d0_1_2 := by decide
  bcast_S_S1x2816x1024 := by decide
  reducesTo_S1x2816x1024_S_d0_1_2 := by decide

variable [Facts] {x0 x1 : FVec Ideal S4096x1024 .f32} {x2 : FVec Ideal S1x1024 .f32}
    {x3 : FVec Ideal S1x1024x5632 .f32} {x4 : FVec Ideal S1x2816x1024 .f32}

theorem real (h : fn x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  obtain ⟨h, e4⟩ := IntOp.andi_eq_one.1 (congrFun h fun k => k.elim0)
  obtain ⟨h, e3⟩ := IntOp.andi_eq_one.1 h
  obtain ⟨h, e2⟩ := IntOp.andi_eq_one.1 h
  obtain ⟨e0, e1⟩ := IntOp.andi_eq_one.1 h
  exact ⟨Cert.Pre_finite.real_of_all x0 _ _ _ e0, Cert.Pre_finite.real_of_all x1 _ _ _ e1, Cert.Pre_finite.real_of_all x2 _ _ _ e2,
    Cert.Pre_finite.real_of_all x3 _ _ _ e3, Cert.Pre_finite.real_of_all x4 _ _ _ e4⟩

end Cert.Pre_finite2
end
-- ==== Proof.HalfStep.lean ====
module

public import proofs.«01_k».proof.Defs
public import proofs.«01_k».proof.Proof.Gen.Kernel2.Frame
public import proofs.«01_k».proof.Proof.Gen.Kernel2Ideal.Frame
public import proofs.«01_k».proof.Proof.Gen.Kernel5.Frame
public import proofs.«01_k».proof.Proof.Gen.Kernel5Ideal.Frame
public import proofs.«01_k».proof.Proof.FfnArray
public import proofs.«01_k».proof.Proof.FfnRef
public import proofs.«01_k».proof.Proof.FfnGradArrays
public import proofs.«01_k».proof.Proof.FfnGradRef
public import proofs.«01_k».proof.Proof.FfnFinite
public import Idealize.ShloMosaic.Adequacy
public import Idealize.ShloMosaic.Init

/-! # The half-step and its gradient agree with the reference's -/

@[expose] public section

set_option maxRecDepth 16384

noncomputable section
namespace Cert.HalfStep

open Idealize.ShloMosaic Idealize.SL.Sem

instance : Cert.Kernel2.Facts := Cert.Kernel2.Gen.facts
instance : Cert.Kernel2Ideal.Facts := Cert.Kernel2Ideal.Gen.facts
instance : Cert.Reference2Ideal.Facts := Cert.Reference2Ideal.Gen.facts
instance : Cert.Kernel5.Facts := Cert.Kernel5.Gen.facts
instance : Cert.Kernel5Ideal.Facts := Cert.Kernel5Ideal.Gen.facts
instance : Cert.Reference5Ideal.Facts := Cert.Reference5Ideal.Gen.facts
instance : Cert.Pre_finite2.Facts := Cert.Pre_finite2.facts

/-- The reference runs, keeps its arguments and ends with every semaphore at zero. -/
theorem frame_reference2 : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

/-- The reference runs, keeps its arguments and ends with every semaphore at zero. -/
theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The half-step, and the rows it saves. -/
theorem algebraic5 : Cert.algebraic_Kernel5Ideal_Reference5Ideal := by
  pair_intro
  · run_from Cert.Kernel5Ideal.Value.run_blocks m g
  · run_from Cert.Reference5Ideal.Value.run m' g'
    · exact Eq.trans (Cert.Reference5Ideal.Stage.step_array _ _ _ _) (Cert.Kernel5Ideal.Val.arr4 m c).symm
    · exact Eq.trans (Cert.Reference5Ideal.Stage.saved_array _ _ _ (m (c.tc.loc Cert.Kernel5Ideal.main_arg3))) (Cert.Kernel5Ideal.Val.arr5 m c).symm

/-- The gradient of the half-step, on real arguments. -/
theorem algebraic2 : Cert.algebraic_Kernel2Ideal_Reference2Ideal_pre_finite2 := by
  pair_intro
  · run_from Cert.Kernel2Ideal.Value.run_blocks m g
  · have H : ∀ c : Dev Cert.Kernel2Ideal.nD, Cert.Reference2Ideal.Stage.Reals (m (c.tc.loc Cert.Kernel2Ideal.main_arg0)) (m (c.tc.loc Cert.Kernel2Ideal.main_arg1))
        (m (c.tc.loc Cert.Kernel2Ideal.main_arg2)) (m (c.tc.loc Cert.Kernel2Ideal.main_arg3)) (m (c.tc.loc Cert.Kernel2Ideal.main_arg4)) := fun c => by
      obtain ⟨h0, h1, h2, h3, h4⟩ := Cert.Pre_finite2.real (hpre c)
      exact ⟨fun _ _ => h0 _, fun _ _ => h1 _, fun _ => h2 _, fun _ _ => h3 _, fun _ _ => h4 _⟩
    run_from Cert.Reference2Ideal.Value.run m' g'
    · obtain ⟨e0, e1, e2, e3, e4⟩ := hagree c
      refine (Cert.Reference2Ideal.Stage.out0_eq m' c).trans (Eq.trans ?_ (Cert.Kernel2Ideal.Val.arr6 m c).symm)
      rw [e0, e1, e2, e3, e4]
      exact Cert.Reference2Ideal.Stage.dh_array (H c)
    · obtain ⟨e0, e1, e2, e3, e4⟩ := hagree c
      refine (Cert.Reference2Ideal.Stage.out1_eq m' c).trans (Eq.trans ?_ (Cert.Kernel2Ideal.Val.arr7 m c).symm)
      rw [e0, e1, e2, e3, e4]
      exact Cert.Reference2Ideal.Stage.dz_array (H c)
    · exact Eq.trans (Cert.Reference2Ideal.Stage.n_array (m (c.tc.loc Cert.Kernel2Ideal.main_arg3)) (m (c.tc.loc Cert.Kernel2Ideal.main_arg4))) (Cert.Kernel2Ideal.Val.arr8 m c).symm
    · exact Eq.trans (Cert.Reference2Ideal.Stage.act_array (m (c.tc.loc Cert.Kernel2Ideal.main_arg4))) (Cert.Kernel2Ideal.Val.arr9 m c).symm
    · exact Eq.trans (Cert.Reference2Ideal.Stage.dhalf_array) (Cert.Kernel2Ideal.Val.arr10 m c).symm
    · obtain ⟨e0, e1, e2, e3, e4⟩ := hagree c
      refine (Cert.Reference2Ideal.Stage.out5_eq m' c).trans (Eq.trans ?_ (Cert.Kernel2Ideal.Val.arr11 m c).symm)
      rw [e0, e1, e2, e3, e4]
      exact Cert.Reference2Ideal.Stage.dg_array (H c)

end Cert.HalfStep
end
-- ==== Proof.MixOut.lean ====
module

public import proofs.«01_k».proof.Proof.Gen.Kernel6Ideal.Value
public import proofs.«01_k».proof.Proof.Gen.Reference6Ideal.Run
public import Idealize.ShloMosaic.Lib.Pointwise
public import Idealize.ShloMosaic.Lib.Pipeline.ValueKit
public import Idealize.ShloMosaic.Lib.Pipeline.ReadBack

/-! # The product out of the mixer: the kernel's array and the reference's -/

@[expose] public section

set_option maxRecDepth 16384

noncomputable section
open Idealize.ShloMosaic Idealize.ShloMosaic.TcCoe Idealize.SL.Sem
open Idealize.ShloMosaic.Pipeline (Dat)

namespace Cert.Kernel6Ideal.Val
open Cert.Kernel6Ideal Cert.Kernel6Ideal.Gen

theorem block_at (h : Vec Ideal S512x1024 .f32) (x : Vec Ideal S512x1024 .bf16) (w : Vec Ideal S1024x1024 .bf16) (i : Fin 512) (j : Fin 1024) :
    k0_pay1 h x w (ix2 i j) = h (ix2 i j) + ∑ k : Fin 1024, x (ix2 i k) * w (ix2 k j) := by
  pointwise [k0_pay1]

variable (m : (ℓ : Loc nD τ sig) → Buf (Elt Ideal) ℓ) (c : Dev nD) (t : Fin cfg0.N)

/-- The rows that the product is added to. -/
def rows (i : Fin 4096) (j : Fin 1024) : EReal := (m ((c : Thread nD τ).loc main_arg0) : FVec Ideal S4096x1024 .f32) (ix2 i j)
/-- The mixed rows. -/
def mixed (i : Fin 4096) (k : Fin 1024) : EReal := (m ((c : Thread nD τ).loc main_arg1) : FVec Ideal S4096x1024 .bf16) (ix2 i k)
/-- The matrix. -/
def mat (k j : Fin 1024) : EReal := (m ((c : Thread nD τ).loc main_arg2) : FVec Ideal S1x1024x1024 .f32) (ix3 0 k j)
/-- The result. -/
def out (i : Fin 4096) (j : Fin 1024) : EReal := rows m c i j + ∑ k, mixed m c i k * mat m c k j

/-- A row of the tile. -/
abbrev row (i : Fin 512) : Fin 4096 := ⟨t.val * 512 + i.val, by have := lt_of_lt_of_eq t.isLt N_0; omega⟩

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem read_rows (i : Fin 512) (j : Fin 1024) : (View.ld (iblk m c 0 t) r0_0 : Vec Ideal S512x1024 .f32) (ix2 i j) = rows m c (row t i) j := by
  pointwise [rows]
  blk_point [iblk, V, idx t]

theorem read_mixed (i : Fin 512) (k : Fin 1024) : (View.ld (iblk m c 1 t) r0_0 : Vec Ideal S512x1024 .bf16) (ix2 i k) = mixed m c (row t i) k := by
  pointwise [mixed]
  blk_point [iblk, V, idx t]

theorem read_mat (k j : Fin 1024) : (View.ld (iblk m c 2 t) r0_1 : Vec Ideal S1024x1024 .bf16) (ix2 k j) = mat m c k j := by
  pointwise [mat]
  blk_point [iblk, V, idx t]

theorem out_at (i : Fin 512) (j : Fin 1024) : out0_3 (iblk m c 0 t) (iblk m c 1 t) (iblk m c 2 t) (ix2 i j) = out m c (row t i) j := by
  refine (congrFun (View.canon_cons_unit_lit inb_S512x1024_S512x1024_0_0 _ [] (by decide)) _).trans ((block_at _ _ _ i j).trans ?_)
  exact congrArg₂ (· + ·) (read_rows m c t i j) (Finset.sum_congr rfl fun k _ => congrArg₂ (· * ·) (read_mixed m c t i k) (read_mat m c t k j))

/-- The kernel's result. -/
theorem arr3 : (dats m 0 c).arrAt 3 cfg0.N = (fun i => out m c (i 0) (i 1) : FVec Ideal S4096x1024 .f32) := by
  refine (dats m 0 c).arrAt_eq_of_covers 3 _ (by decide +kernel) fun t hf y => ?_
  blk_simp
  rw [after0_3]
  idx_vars y
  refine (out_at m c t y0 y1).trans ?_
  refine congrArg₂ (out m c) (Fin.ext ?_) (Fin.ext ?_) <;> blk_simp [idx t]

end Cert.Kernel6Ideal.Val

namespace Cert.Reference6Ideal.Stage
open Cert.Reference6Ideal Cert.Reference6Ideal.Gen

variable (a0 : FVec Ideal S4096x1024 .f32) (a1 : FVec Ideal S4096x1024 .bf16) (a2 : FVec Ideal S1x1024x1024 .f32)

/-- The reference's result. -/
def out : FVec Ideal S4096x1024 .f32 :=
  addf a0 (Host.dotGeneral dot_S4096x1024_S1024x1024_S4096x1024_1_0_0_1_n_n none (extf .f32 a1 bitsLt_bf16_f32)
    (shapeCast S1024x1024 a2 shapeCasts_S1x1024x1024_S1024x1024))

theorem out_array : out a0 a1 a2 = fun i => (a0 (ix2 (i 0) (i 1)) : EReal) + ∑ k : Fin 1024, (a1 (ix2 (i 0) k) : EReal) * a2 (ix3 0 k (i 1)) := by
  funext i
  idx_vars i
  pointwise [out]

end Cert.Reference6Ideal.Stage
end
-- ==== Proof.MixOutGrad.lean ====
module

public import proofs.«01_k».proof.Proof.Gen.Kernel7Ideal.Value
public import proofs.«01_k».proof.Proof.Gen.Reference7Ideal.Run
public import Idealize.ShloMosaic.Lib.Pointwise
public import Idealize.ShloMosaic.Lib.Pipeline.ValueKit
public import Idealize.ShloMosaic.Lib.Pipeline.ReadBack

/-! # The gradient of the mixed rows: the kernel's arrays and the reference's -/

@[expose] public section

set_option maxRecDepth 16384

noncomputable section
open Idealize.ShloMosaic Idealize.ShloMosaic.TcCoe Idealize.SL.Sem
open Idealize.ShloMosaic.Pipeline (Dat)

namespace Cert.Kernel7Ideal.Val
open Cert.Kernel7Ideal Cert.Kernel7Ideal.Gen

theorem block_at (d : Vec Ideal S512x1024 .f32) (w : Vec Ideal S1024x1024 .bf16) (i : Fin 512) (j : Fin 1024) :
    k0_pay2 d w (ix2 i j) = ∑ k : Fin 1024, d (ix2 i k) * w (ix2 j k) := by
  pointwise [k0_pay2, k0_pay1]

variable (m : (ℓ : Loc nD τ sig) → Buf (Elt Ideal) ℓ) (c : Dev nD) (t : Fin cfg0.N)

/-- The cotangent of the rows. -/
def cot (i : Fin 4096) (k : Fin 1024) : EReal := (m ((c : Thread nD τ).loc main_arg0) : FVec Ideal S4096x1024 .f32) (ix2 i k)
/-- The matrix. -/
def mat (j k : Fin 1024) : EReal := (m ((c : Thread nD τ).loc main_arg1) : FVec Ideal S1x1024x1024 .f32) (ix3 0 j k)
/-- The gradient of the mixed rows. -/
def grad (i : Fin 4096) (j : Fin 1024) : EReal := ∑ k, cot m c i k * mat m c j k

/-- A row of the tile. -/
abbrev row (i : Fin 512) : Fin 4096 := ⟨t.val * 512 + i.val, by have := lt_of_lt_of_eq t.isLt N_0; omega⟩

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem read_cot (i : Fin 512) (k : Fin 1024) : (View.ld (iblk m c 0 t) r0_0 : Vec Ideal S512x1024 .f32) (ix2 i k) = cot m c (row t i) k := by
  pointwise [cot]
  blk_point [iblk, V, idx t]

theorem read_mat (j k : Fin 1024) : (View.ld (iblk m c 1 t) r0_1 : Vec Ideal S1024x1024 .bf16) (ix2 j k) = mat m c j k := by
  pointwise [mat]
  blk_point [iblk, V, idx t]

theorem grad_at (i : Fin 512) (j : Fin 1024) : out0_2 (iblk m c 0 t) (iblk m c 1 t) (ix2 i j) = grad m c (row t i) j := by
  refine (congrFun (View.canon_cons_unit_lit inb_S512x1024_S512x1024_0_0 _ [] (by decide)) _).trans ((block_at _ _ i j).trans ?_)
  exact Finset.sum_congr rfl fun k _ => congrArg₂ (· * ·) (read_cot m c t i k) (read_mat m c t j k)

theorem cot_at (i : Fin 512) (j : Fin 1024) : out0_3 (iblk m c 0 t) (iblk m c 1 t) (ix2 i j) = cot m c (row t i) j := by
  refine (congrFun (View.canon_cons_unit_lit inb_S512x1024_S512x1024_0_0 _ [] (by decide)) _).trans ?_
  exact read_cot m c t i j

/-- The gradient of the mixed rows. -/
theorem arr2 : (dats m 0 c).arrAt 2 cfg0.N = (fun i => grad m c (i 0) (i 1) : FVec Ideal S4096x1024 .bf16) := by
  refine (dats m 0 c).arrAt_eq_of_covers 2 _ (by decide +kernel) fun t hf y => ?_
  blk_simp
  rw [after0_2]
  idx_vars y
  refine (grad_at m c t y0 y1).trans ?_
  refine congrArg₂ (grad m c) (Fin.ext ?_) (Fin.ext ?_) <;> blk_simp [idx t]

/-- The cotangent, rounded. -/
theorem arr3 : (dats m 0 c).arrAt 3 cfg0.N = (fun i => cot m c (i 0) (i 1) : FVec Ideal S4096x1024 .bf16) := by
  refine (dats m 0 c).arrAt_eq_of_covers 3 _ (by decide +kernel) fun t hf y => ?_
  blk_simp
  rw [after0_3]
  idx_vars y
  refine (cot_at m c t y0 y1).trans ?_
  refine congrArg₂ (cot m c) (Fin.ext ?_) (Fin.ext ?_) <;> blk_simp [idx t]

end Cert.Kernel7Ideal.Val

namespace Cert.Reference7Ideal.Stage
open Cert.Reference7Ideal Cert.Reference7Ideal.Gen

variable (a0 : FVec Ideal S4096x1024 .f32) (a1 : FVec Ideal S1x1024x1024 .f32)

/-- The reference's gradient. -/
def grad : FVec Ideal S4096x1024 .bf16 :=
  truncf .bf16 (Host.dotGeneral dot_S4096x1024_S1024x1024_S4096x1024_1_1_0_0_n_n none a0
    (shapeCast S1024x1024 a1 shapeCasts_S1x1024x1024_S1024x1024)) bitsLt_bf16_f32

theorem grad_array : grad a0 a1 = fun i => ∑ k : Fin 1024, (a0 (ix2 (i 0) k) : EReal) * a1 (ix3 0 (i 1) k) := by
  funext i
  idx_vars i
  pointwise [grad]

theorem cot_array : truncf .bf16 a0 bitsLt_bf16_f32 = (fun i => a0 (ix2 (i 0) (i 1)) : FVec Ideal S4096x1024 .bf16) := by
  funext i
  idx_vars i
  pointwise

end Cert.Reference7Ideal.Stage
end
-- ==== Proof.MixOutWeights.lean ====
module

public import proofs.«01_k».proof.Proof.Gen.Kernel8Ideal.Value
public import proofs.«01_k».proof.Proof.Gen.Reference8Ideal.Run
public import Idealize.ShloMosaic.Lib.Pointwise
public import Idealize.ShloMosaic.Lib.Pipeline.ValueKit
public import Idealize.ShloMosaic.Lib.Pipeline.ReadBack

/-! # The gradient of the matrix out of the mixer: the kernel's arrays and the reference's

One grid point per half of the matrix's rows, with all tokens at once. -/

@[expose] public section

set_option maxRecDepth 16384

noncomputable section
open Idealize.ShloMosaic Idealize.ShloMosaic.TcCoe Idealize.SL.Sem
open Idealize.ShloMosaic.Pipeline (Dat)

namespace Cert.Kernel8Ideal.Val
open Cert.Kernel8Ideal Cert.Kernel8Ideal.Gen

theorem product_at (x : Vec Ideal S4096x512 .bf16) (y : Vec Ideal S4096x1024 .bf16) (a : Fin 512) (b : Fin 1024) :
    k0_pay1 x y (ix2 a b) = ∑ p : Fin 4096, x (ix2 p a) * y (ix2 p b) := by
  pointwise [k0_pay1]

theorem rounded_at (x : Vec Ideal S512x1024 .f32) (a : Fin 512) (b : Fin 1024) : k0_pay3 x (ix2 a b) = x (ix2 a b) := by
  pointwise [k0_pay3]

variable (m : (ℓ : Loc nD τ sig) → Buf (Elt Ideal) ℓ) (c : Dev nD) (t : Fin cfg0.N)

/-- The mixed rows. -/
def left (i : Fin 4096) (a : Fin 1024) : EReal := (m ((c : Thread nD τ).loc main_arg0) : FVec Ideal S4096x1024 .bf16) (ix2 i a)
/-- The cotangent of the product. -/
def right (i : Fin 4096) (b : Fin 1024) : EReal := (m ((c : Thread nD τ).loc main_arg1) : FVec Ideal S4096x1024 .bf16) (ix2 i b)
/-- The gradient. -/
def grad (a b : Fin 1024) : EReal := ∑ i, left m c i a * right m c i b

/-- A row of the half that the point writes. -/
abbrev place (a : Fin 512) : Fin 1024 := ⟨t.val * 512 + a.val, by have := lt_of_lt_of_eq t.isLt N_0; omega⟩

theorem idx : ∀ t : Fin cfg0.N, win0_0.index t = ![0, t.val] ∧ win0_1.index t = ![0, 0] ∧ win0_2.index t = ![t.val, 0] ∧ win0_3.index t = ![t.val, 0] :=
  (by decide +kernel : ∀ t : Fin grid0.N, _)

theorem left_at (p : Fin 4096) (a : Fin 512) : (iblk m c 0 t : Vec Ideal S4096x512 .bf16) (ix2 p a) = left m c p (place t a) := by
  pointwise [left]
  blk_point [iblk, V, idx t]

theorem right_at (p : Fin 4096) (b : Fin 1024) : (iblk m c 1 t : Vec Ideal S4096x1024 .bf16) (ix2 p b) = right m c p b := by
  pointwise [right]
  blk_point [iblk, V, idx t]

theorem stored : (outsAt0 m c t).1 = k0_pay1 (iblk m c 0 t : Vec Ideal S4096x512 .bf16) (iblk m c 1 t : Vec Ideal S4096x1024 .bf16) := by
  unfold outsAt0
  frame_out

theorem stored_rounded : (outsAt0 m c t).2 = k0_pay3 (outsAt0 m c t).1 := by
  unfold outsAt0
  frame_out

theorem stored_at (a : Fin 512) (b : Fin 1024) : (outsAt0 m c t).1 (ix2 a b) = grad m c (place t a) b :=
  (congrFun (stored m c t) _).trans ((product_at _ _ a b).trans
    (Finset.sum_congr rfl fun p _ => congrArg₂ (· * ·) (left_at m c t p a) (right_at m c t p b)))

/-- The gradient. -/
theorem arr2 : (dats m 0 c).arrAt 2 cfg0.N = (fun i => grad m c (i 0) (i 1) : FVec Ideal S1024x1024 .f32) := by
  refine (dats m 0 c).arrAt_eq_of_covers 2 _ (by decide +kernel) fun t hf y => ?_
  blk_simp
  rw [after0_2]
  idx_vars y
  refine (stored_at m c t y0 y1).trans ?_
  refine congrArg₂ (grad m c) (Fin.ext ?_) (Fin.ext ?_) <;> blk_simp [idx t]

/-- The gradient, rounded. -/
theorem arr3 : (dats m 0 c).arrAt 3 cfg0.N = (fun i => grad m c (i 0) (i 1) : FVec Ideal S1024x1024 .bf16) := by
  refine (dats m 0 c).arrAt_eq_of_covers 3 _ (by decide +kernel) fun t hf y => ?_
  blk_simp
  rw [after0_3, stored_rounded]
  idx_vars y
  refine (rounded_at _ y0 y1).trans ((stored_at m c t y0 y1).trans ?_)
  refine congrArg₂ (grad m c) (Fin.ext ?_) (Fin.ext ?_) <;> blk_simp [idx t]

end Cert.Kernel8Ideal.Val

namespace Cert.Reference8Ideal.Stage
open Cert.Reference8Ideal Cert.Reference8Ideal.Gen

variable (a0 a1 : FVec Ideal S4096x1024 .bf16)

/-- The derivative of the product in its right factor, at the cotangent. -/
def grad : FVec Ideal S1024x1024 .f32 :=
  transpose S1024x1024 [1, 0] (Host.dotGeneral dot_S4096x1024_S4096x1024_S1024x1024_0_0_1_1_n_n none
    (extf .f32 a1 bitsLt_bf16_f32) (extf .f32 a0 bitsLt_bf16_f32)) transposes_S1024x1024_S1024x1024_1_0

theorem grad_array : grad a0 a1 = fun i => ∑ k : Fin 4096, (a0 (ix2 k (i 0)) : EReal) * a1 (ix2 k (i 1)) := by
  funext i
  idx_vars i
  pointwise [grad]
  exact Finset.sum_congr rfl fun _ _ => mul_comm _ _

theorem rounded_array : truncf .bf16 (grad a0 a1) bitsLt_bf16_f32
    = (fun i => ∑ k : Fin 4096, (a0 (ix2 k (i 0)) : EReal) * a1 (ix2 k (i 1)) : FVec Ideal S1024x1024 .bf16) :=
  grad_array a0 a1

end Cert.Reference8Ideal.Stage
end
-- ==== Proof.MixSpec.lean ====
module

public import proofs.«01_k».proof.Proof.FfnSpec

/-! # The product into the mixer and its gradient as formulas

Entry by entry, over the extended reals: `h` holds the rows, `g` the gain of the norm, `w` the matrix. -/

@[expose] public section

noncomputable section
open Idealize.ShloMosaic

namespace Cert.Mix

open Cert.Gmlp (eps)
open Cert.Ffn (width)

/-- The arguments: rows, gain and matrix. -/
structure Args where
  h : Fin 4096 → Fin 1024 → EReal
  g : Fin 1024 → EReal
  w : Fin 1024 → Fin 2560 → EReal

/-- Column `f` of a quarter. -/
abbrev quart (q : Fin 4) (f : Fin 640) : Fin 2560 := ⟨q.val * 640 + f.val, by omega⟩
/-- A column of the two gated halves. -/
abbrev low (f : Fin 1024) : Fin 2560 := ⟨f.val, by omega⟩
/-- A column of the queries, keys and values. -/
abbrev high (f : Fin 1536) : Fin 2560 := ⟨1024 + f.val, by omega⟩

namespace Args
variable (A : Args)

/-- The mean square of a row, with `eps` added. -/
def ms (i : Fin 4096) : EReal := Ideal.div (∑ k, A.h i k * A.h i k) width + eps
/-- One over the root of it. -/
def r (i : Fin 4096) : EReal := Ideal.rsqrt (A.ms i)
/-- The normalized rows. -/
def n (i : Fin 4096) (k : Fin 1024) : EReal := A.h i k * A.r i * A.g k
/-- The normalized rows through the matrix. -/
def z (i : Fin 4096) (f : Fin 2560) : EReal := ∑ k, A.n i k * A.w k f

variable (d : Fin 4096 → Fin 1024 → EReal) (dz : Fin 4096 → Fin 2560 → EReal)

/-- The cotangent of the normalized rows. -/
def dn (i : Fin 4096) (k : Fin 1024) : EReal := ∑ f, dz i f * A.w k f
/-- The gradient of the rows. -/
def dh (i : Fin 4096) (k : Fin 1024) : EReal :=
  d i k + (A.r i * (A.dn dz i k * A.g k)
    - A.h i k * (A.r i * A.r i * A.r i) * Ideal.div (∑ k, A.dn dz i k * A.g k * A.h i k) width)
/-- The gradient of the gain. -/
def dg (k : Fin 1024) : EReal := ∑ i, A.dn dz i k * A.h i k * A.r i

end Args
end Cert.Mix
end
-- ==== Proof.MixIn.lean ====
module

public import proofs.«01_k».proof.Proof.MixSpec
public import proofs.«01_k».proof.Proof.Gen.Kernel9Ideal.Value
public import Idealize.ShloMosaic.Lib.Pipeline.ReadBack

/-! # The product into the mixer: the kernel's arrays -/

@[expose] public section

set_option maxRecDepth 16384

noncomputable section
open Idealize.ShloMosaic Idealize.ShloMosaic.TcCoe Idealize.SL.Sem Cert.Mix
open Idealize.ShloMosaic.Pipeline (Dat)
namespace Cert.Kernel9Ideal.Val
open Cert.Kernel9Ideal Cert.Kernel9Ideal.Gen

/-- Row `i` of block `t`. -/
abbrev row (t : Fin 8) (i : Fin 512) : Fin 4096 := ⟨512 * t.val + i.val, by omega⟩

/-! ### One block of rows -/

section
variable (A : Args) (t : Fin 8) (v : Vec Ideal S512x1024 .f32) (g : Vec Ideal S1x1024 .f32)
  (hv : ∀ i k, v (ix2 i k) = A.h (row t i) k) (hg : ∀ k, g (ix2 0 k) = A.g k)

include hv hg in
theorem n_row (i : Fin 512) (k : Fin 1024) : k0_pay2 v g (ix2 i k) = A.n (row t i) k := by
  pointwise [k0_pay2]
  simp only [hv, hg]
  rfl

variable (q : Fin 4) (w : Vec Ideal S1x1024x640 .bf16) (hw : ∀ k f, w (ix3 0 k f) = A.w k (quart q f))

theorem through_at (n : FVec Ideal S512x1024 .bf16) (i : Fin 512) (f : Fin 640) : k0_pay1 n w (ix2 i f) = ∑ k : Fin 1024, n (ix2 i k) * w (ix3 0 k f) := by
  pointwise [k0_pay1]

include hv hg hw

theorem z_row (i : Fin 512) (f : Fin 640) : k0_pay1 (k0_pay2 v g) w (ix2 i f) = A.z (row t i) (quart q f) :=
  (through_at w _ i f).trans (Finset.sum_congr rfl fun k _ => congrArg₂ (· * ·) (n_row A t v g hv hg i k) (hw k f))

theorem z_row3 (i : Fin 512) (f : Fin 640) : k0_pay3 v g w (ix2 i f) = A.z (row t i) (quart q f) := z_row A t v g hv hg q w hw i f
theorem z_row4 (i : Fin 512) (f : Fin 640) : k0_pay4 v g w (ix2 i f) = A.z (row t i) (quart q f) := z_row A t v g hv hg q w hw i f
theorem z_row7 (i : Fin 512) (f : Fin 640) : k0_pay7 v g w (ix2 i f) = A.z (row t i) (quart q f) := z_row A t v g hv hg q w hw i f

theorem z_row5 (i : Fin 512) (f : Fin 384) : k0_pay5 v g w (ix2 i f) = A.z (row t i) (quart q ⟨f.val, by omega⟩) := by
  refine Eq.trans ?_ (z_row4 A t v g hv hg q w hw i ⟨f.val, by omega⟩)
  unfold k0_pay5
  generalize k0_pay4 v g w = X
  pointwise

theorem z_row6 (i : Fin 512) (f : Fin 256) : k0_pay6 v g w (ix2 i f) = A.z (row t i) (quart q ⟨384 + f.val, by omega⟩) := by
  refine Eq.trans ?_ (z_row4 A t v g hv hg q w hw i ⟨384 + f.val, by omega⟩)
  unfold k0_pay6
  generalize k0_pay4 v g w = X
  pointwise
end

/-! ### The blocks of the arguments -/

variable (m : (ℓ : Loc nD τ sig) → Buf (Elt Ideal) ℓ) (c : Dev nD)

/-- The kernel's arguments. -/
def args : Args where
  h i k := (m ((c : Thread nD τ).loc main_arg0) : FVec Ideal S4096x1024 .f32) (ix2 i k)
  g k := (m ((c : Thread nD τ).loc main_arg1) : FVec Ideal S1x1024 .f32) (ix2 0 k)
  w k f := (m ((c : Thread nD τ).loc main_arg2) : FVec Ideal S1x1024x2560 .f32) (ix3 0 k f)

/-- The number of a grid point. -/
abbrev num (t : Fin cfg0.N) : Fin 8 := ⟨t.val, lt_of_lt_of_eq t.isLt N_0⟩

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

variable (t : Fin cfg0.N)

theorem read_h (i : Fin 512) (k : Fin 1024) : (iblk m c 0 t : Vec Ideal S512x1024 .f32) (ix2 i k) = (args m c).h (row (num t) i) k := by
  pointwise [args]
  blk_point [iblk, V, idx t]

theorem read_g (k : Fin 1024) : (iblk m c 1 t : Vec Ideal S1x1024 .f32) (ix2 0 k) = (args m c).g k := by
  pointwise [args]
  blk_point [iblk, V, idx t]

theorem read_w (q : Fin 4) (o : ℕ) (e : o = q.val) (h) (k : Fin 1024) (f : Fin 640) :
    (View.ld (iblk m c 2 t) (Rect.unit (s := S4x1024x640) ![o, 0, 0] S1x1024x640.size h) : Vec Ideal S1x1024x640 .bf16) (ix3 0 k f) = (args m c).w k (quart q f) := by
  subst e
  pointwise [args]
  blk_simp [iblk, idx t]
  entry_read
  pointwise
  blk_point [iblk, V, idx t]

/-! ### What a grid point leaves -/

theorem out3 (y : S512x1024.Idx) : (outsAt0 m c t).1 y = (args m c).z (row (num t) (y 0)) (low (y 1)) := by
  unfold outsAt0
  frame_out
  canon_tiles x h using (View.cover_of_tiledBy _ ![512, 128] (by sl_kernel_rfl) y)
  all_goals idx_vars x
  · exact (z_row5 (args m c) (num t) _ _ (read_h m c t) (read_g m c t) 1 _ (read_w m c t 1 1 rfl _) x0 x1).trans
      (congrArg₂ (args m c).z (Fin.ext (by simp [h0])) (Fin.ext (by simp [h1])))
  · exact (z_row3 (args m c) (num t) _ _ (read_h m c t) (read_g m c t) 0 _ (read_w m c t 0 0 rfl _) x0 x1).trans
      (congrArg₂ (args m c).z (Fin.ext (by simp [h0])) (Fin.ext (by simp [h1])))

theorem out4 (y : S512x1536.Idx) : (outsAt0 m c t).2 y = (args m c).z (row (num t) (y 0)) (high (y 1)) := by
  unfold outsAt0
  frame_out
  canon_tiles x h using (View.cover_of_tiledBy _ ![512, 128] (by sl_kernel_rfl) y)
  all_goals idx_vars x
  · exact (z_row (args m c) (num t) _ _ (read_h m c t) (read_g m c t) 3 _ (read_w m c t 3 3 rfl _) x0 x1).trans
      (congrArg₂ (args m c).z (Fin.ext (by simp [h0])) (Fin.ext (by simp [h1]; omega)))
  · exact (z_row7 (args m c) (num t) _ _ (read_h m c t) (read_g m c t) 2 _ (read_w m c t 2 2 rfl _) x0 x1).trans
      (congrArg₂ (args m c).z (Fin.ext (by simp [h0])) (Fin.ext (by simp [h1]; omega)))
  · exact (z_row6 (args m c) (num t) _ _ (read_h m c t) (read_g m c t) 1 _ (read_w m c t 1 1 rfl _) x0 x1).trans
      (congrArg₂ (args m c).z (Fin.ext (by simp [h0])) (Fin.ext (by simp [h1]; omega)))

/-! ### The arrays -/

/-- The two gated halves. -/
theorem arr3 : (dats m 0 c).arrAt 3 cfg0.N = (fun i => (args m c).z (i 0) (low (i 1)) : FVec Ideal S4096x1024 .f32) := by
  refine (dats m 0 c).arrAt_eq_of_covers 3 _ (by decide +kernel) fun t hf y => ?_
  blk_simp
  rw [after0_3]
  refine (out3 m c t _).trans ?_
  refine congrArg₂ (args m c).z (Fin.ext ?_) (congrArg low (Fin.ext ?_)) <;> blk_simp [idx t]
  exact congrArg (· + _) (Nat.mul_comm _ _)

/-- The queries, keys and values. -/
theorem arr4 : (dats m 0 c).arrAt 4 cfg0.N = (fun i => (args m c).z (i 0) (high (i 1)) : FVec Ideal S4096x1536 .bf16) := by
  refine (dats m 0 c).arrAt_eq_of_covers 4 _ (by decide +kernel) fun t hf y => ?_
  blk_simp
  rw [after0_4]
  refine (out4 m c t _).trans ?_
  refine congrArg₂ (args m c).z (Fin.ext ?_) (congrArg high (Fin.ext ?_)) <;> blk_simp [idx t]
  exact congrArg (· + _) (Nat.mul_comm _ _)

end Cert.Kernel9Ideal.Val
end
-- ==== Proof.MixInRef.lean ====
module

public import proofs.«01_k».proof.Proof.Gen.Reference9Ideal.Run
public import proofs.«01_k».proof.Proof.MixSpec
public import Idealize.ShloMosaic.Lib.Pointwise

/-! # The product into the mixer: the reference's results -/

@[expose] public section

set_option maxRecDepth 16384

noncomputable section
open Idealize.ShloMosaic Idealize.ShloMosaic.TcCoe Idealize.SL.Sem Cert.Mix
namespace Cert.Reference9Ideal.Stage
open Cert.Reference9Ideal Cert.Reference9Ideal.Gen
open Cert.Gmlp (eps)
open Cert.Ffn (width)

abbrev Rows := FVec Ideal S4096x1024 .f32
abbrev Wide := FVec Ideal S4096x2560 .f32

/-- The mean square of the rows. -/
def meanSq (h : Rows) : FVec Ideal S4096x1 .f32 :=
  addf (Host.divf (broadcastInDim S4096x1 ![0] bcast_S4096_S4096x1_0
    (Host.reduceAdd (mulf h h) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))
/-- The gain on every row. -/
def gain (g : FVec Ideal S1x1024 .f32) : Rows :=
  broadcastInDim S4096x1024 ![0, 1] bcast_S1x1024_S4096x1024_0_1 (broadcastInDim S1x1024 ![1] bcast_S1024_S1x1024_1
    (shapeCast S1024 g shapeCasts_S1x1024_S1024))
/-- The normalized rows. -/
def normed (h : Rows) (g : FVec Ideal S1x1024 .f32) : Rows :=
  mulf (mulf h (broadcastInDim S4096x1024 ![0, 1] bcast_S4096x1_S4096x1024_0_1 (Host.rsqrt (meanSq h)))) (gain g)
/-- The rows through the matrix. -/
def through (n : Rows) (w : FVec Ideal S1x1024x2560 .f32) : Wide :=
  Host.dotGeneral dot_S4096x1024_S1024x2560_S4096x2560_1_0_0_1_n_n none n (shapeCast S1024x2560 w shapeCasts_S1x1024x2560_S1024x2560)
/-- The two gated halves of the product. -/
def gm (z : Wide) : Rows :=
  concatenate S4096x1024 1 [⟨S4096x512, extractStridedSlice S4096x512 ![0, 0] z slices_S4096x2560_S4096x512_0_0⟩,
    ⟨S4096x512, extractStridedSlice S4096x512 ![0, 512] z slices_S4096x2560_S4096x512_0_512⟩] concatenates_S4096x512_S4096x512_S4096x1024_d1
/-- Its queries, keys and values. -/
def sb (z : Wide) : FVec Ideal S4096x1536 .f32 :=
  concatenate S4096x1536 1 [⟨S4096x512, extractStridedSlice S4096x512 ![0, 1024] z slices_S4096x2560_S4096x512_0_1024⟩,
    ⟨S4096x512, extractStridedSlice S4096x512 ![0, 1536] z slices_S4096x2560_S4096x512_0_1536⟩,
    ⟨S4096x512, extractStridedSlice S4096x512 ![0, 2048] z slices_S4096x2560_S4096x512_0_2048⟩] concatenates_S4096x512_S4096x512_S4096x512_S4096x1536_d1

variable (h : FVec Ideal S4096x1024 .f32) (g : FVec Ideal S1x1024 .f32) (w : FVec Ideal S1x1024x2560 .f32)

/-- The first result. -/
def first : Rows := gm (through (normed h g) w)
/-- The second result. -/
def second : FVec Ideal S4096x1536 .bf16 := truncf .bf16 (sb (through (normed h g) w)) bitsLt_bf16_f32

/-- The reference's arguments. -/
def args : Args where
  h i k := h (ix2 i k)
  g k := g (ix2 0 k)
  w k f := w (ix3 0 k f)

variable (i : Fin 4096)

theorem meanSq_at : meanSq h (ix2 i 0) = Ideal.div (∑ k : Fin 1024, h (ix2 i k) * h (ix2 i k)) width + eps := by
  pointwise [meanSq]

theorem gain_at (k : Fin 1024) : gain g (ix2 i k) = g (ix2 0 k) := by
  pointwise [gain]

theorem normed_at (k : Fin 1024) : normed h g (ix2 i k) = (args h g w).n i k := by
  pointwise [normed, gain_at]
  rw [meanSq_at]
  rfl

theorem through_at (n : Rows) (f : Fin 2560) : through n w (ix2 i f) = ∑ k : Fin 1024, n (ix2 i k) * w (ix3 0 k f) := by
  pointwise [through]

theorem z_at (f : Fin 2560) : through (normed h g) w (ix2 i f) = (args h g w).z i f := by
  rw [through_at]
  exact Finset.sum_congr rfl fun k _ => congrArg (· * _) (normed_at h g w i k)

theorem gm_at (z : Wide) (f : Fin 1024) : gm z (ix2 i f) = z (ix2 i (low f)) := by
  pointwise [gm]
  split <;> refine congrArg z ?_ <;> blk_ext

theorem sb_at (z : Wide) (f : Fin 1536) : sb z (ix2 i f) = z (ix2 i (high f)) := by
  pointwise [sb]
  split
  · refine congrArg z ?_; blk_ext
  · split <;> refine congrArg z ?_ <;> blk_ext

theorem first_array : first h g w = fun i => (args h g w).z (i 0) (low (i 1)) := by
  funext i; idx_vars i; exact (gm_at i0 _ i1).trans (z_at h g w i0 _)

theorem second_array : second h g w = fun i => (args h g w).z (i 0) (high (i 1)) := by
  funext i; idx_vars i; exact (sb_at i0 _ i1).trans (z_at h g w i0 _)

end Cert.Reference9Ideal.Stage
end
-- ==== Proof.MixInWeights.lean ====
module

public import proofs.«01_k».proof.Proof.MixSpec
public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack

/-! # The gradient of the matrix into the mixer: the kernel's arrays and the reference's

One grid point per quarter of the matrix's columns, each quarter a block of the result. -/

@[expose] public section

set_option maxRecDepth 16384

noncomputable section
open Idealize.ShloMosaic Idealize.ShloMosaic.TcCoe Idealize.SL.Sem
open Idealize.ShloMosaic.Pipeline (Dat)
open Cert.Mix (quart)

namespace Cert.Kernel10Ideal.Val
open Cert.Kernel10Ideal Cert.Kernel10Ideal.Gen

theorem product_at (x : Vec Ideal S4096x1024 .bf16) (y : Vec Ideal S4096x640 .bf16) (a : Fin 1024) (b : Fin 640) :
    k0_pay1 x y (ix3 0 a b) = ∑ p : Fin 4096, x (ix2 p a) * y (ix2 p b) := by
  pointwise [k0_pay1]

theorem rounded_at (x : Vec Ideal S1x1024x640 .f32) (a : Fin 1024) (b : Fin 640) : k0_pay3 x (ix3 0 a b) = x (ix3 0 a b) := by
  pointwise [k0_pay3]

variable (m : (ℓ : Loc nD τ sig) → Buf (Elt Ideal) ℓ) (c : Dev nD) (t : Fin cfg0.N)

/-- The normalized rows. -/
def left (i : Fin 4096) (a : Fin 1024) : EReal := (m ((c : Thread nD τ).loc main_arg0) : FVec Ideal S4096x1024 .bf16) (ix2 i a)
/-- The cotangent of the product. -/
def right (i : Fin 4096) (b : Fin 2560) : EReal := (m ((c : Thread nD τ).loc main_arg1) : FVec Ideal S4096x2560 .bf16) (ix2 i b)
/-- The gradient. -/
def grad (a : Fin 1024) (b : Fin 2560) : EReal := ∑ i, left m c i a * right m c i b

/-- The quarter that the point writes. -/
abbrev num : Fin 4 := ⟨t.val, lt_of_lt_of_eq t.isLt N_0⟩

theorem idx : ∀ t : Fin cfg0.N, win0_0.index t = ![0, 0] ∧ win0_1.index t = ![0, t.val] ∧ win0_2.index t = ![t.val, 0, 0] ∧ win0_3.index t = ![t.val, 0, 0] :=
  (by decide +kernel : ∀ t : Fin grid0.N, _)

theorem left_at (p : Fin 4096) (a : Fin 1024) : (iblk m c 0 t : Vec Ideal S4096x1024 .bf16) (ix2 p a) = left m c p a := by
  pointwise [left]
  blk_point [iblk, V, idx t]

theorem right_at (p : Fin 4096) (b : Fin 640) : (iblk m c 1 t : Vec Ideal S4096x640 .bf16) (ix2 p b) = right m c p (quart (num t) b) := by
  pointwise [right]
  blk_point [iblk, V, idx t]

theorem stored : (outsAt0 m c t).1 = k0_pay1 (iblk m c 0 t : Vec Ideal S4096x1024 .bf16) (iblk m c 1 t : Vec Ideal S4096x640 .bf16) := by
  unfold outsAt0
  frame_out

theorem stored_rounded : (outsAt0 m c t).2 = k0_pay3 (outsAt0 m c t).1 := by
  unfold outsAt0
  frame_out

theorem stored_at (a : Fin 1024) (b : Fin 640) : (outsAt0 m c t).1 (ix3 0 a b) = grad m c a (quart (num t) b) :=
  (congrFun (stored m c t) _).trans ((product_at _ _ a b).trans
    (Finset.sum_congr rfl fun p _ => congrArg₂ (· * ·) (left_at m c t p a) (right_at m c t p b)))

/-- The gradient. -/
theorem arr2 : (dats m 0 c).arrAt 2 cfg0.N = (fun i => grad m c (i 1) (quart (i 0) (i 2)) : FVec Ideal S4x1024x640 .f32) := by
  refine (dats m 0 c).arrAt_eq_of_covers 2 _ (by decide +kernel) fun t hf y => ?_
  blk_simp
  rw [after0_2]
  idx_vars y
  obtain rfl : y0 = 0 := Subsingleton.elim _ _
  refine (stored_at m c t y1 y2).trans ?_
  refine congrArg₂ (grad m c) (Fin.ext ?_) (congrArg₂ quart (Fin.ext ?_) (Fin.ext ?_)) <;> blk_simp [idx t] <;> rfl

/-- The gradient, rounded. -/
theorem arr3 : (dats m 0 c).arrAt 3 cfg0.N = (fun i => grad m c (i 1) (quart (i 0) (i 2)) : FVec Ideal S4x1024x640 .bf16) := by
  refine (dats m 0 c).arrAt_eq_of_covers 3 _ (by decide +kernel) fun t hf y => ?_
  blk_simp
  rw [after0_3, stored_rounded]
  idx_vars y
  obtain rfl : y0 = 0 := Subsingleton.elim _ _
  refine (rounded_at _ y1 y2).trans ((stored_at m c t y1 y2).trans ?_)
  refine congrArg₂ (grad m c) (Fin.ext ?_) (congrArg₂ quart (Fin.ext ?_) (Fin.ext ?_)) <;> blk_simp [idx t] <;> rfl

end Cert.Kernel10Ideal.Val

namespace Cert.Reference10Ideal.Stage
open Cert.Reference10Ideal Cert.Reference10Ideal.Gen

variable (a0 : FVec Ideal S4096x1024 .bf16) (a1 : FVec Ideal S4096x2560 .bf16)

/-- The derivative of the product in its right factor, at the cotangent. -/
def grad : FVec Ideal S1024x2560 .f32 :=
  transpose S1024x2560 [1, 0] (Host.dotGeneral dot_S4096x2560_S4096x1024_S2560x1024_0_0_1_1_n_n none
    (extf .f32 a1 bitsLt_bf16_f32) (extf .f32 a0 bitsLt_bf16_f32)) transposes_S2560x1024_S1024x2560_1_0

/-- Its columns in four blocks. -/
def blocks : FVec Ideal S4x1024x640 .f32 :=
  transpose S4x1024x640 [1, 0, 2] (shapeCast S1024x4x640 (grad a0 a1) shapeCasts_S1024x2560_S1024x4x640) transposes_S1024x4x640_S4x1024x640_1_0_2

theorem grad_at (a : Fin 1024) (b : Fin 2560) : grad a0 a1 (ix2 a b) = ∑ i : Fin 4096, a0 (ix2 i a) * a1 (ix2 i b) := by
  pointwise [grad]
  exact Finset.sum_congr rfl fun _ _ => mul_comm _ _

theorem blocks_at (q : Fin 4) (a : Fin 1024) (b : Fin 640) : blocks a0 a1 (ix3 q a b) = grad a0 a1 (ix2 a (quart q b)) := by
  unfold blocks
  generalize grad a0 a1 = X
  pointwise

theorem blocks_array : blocks a0 a1 = fun i => ∑ k : Fin 4096, (a0 (ix2 k (i 1)) : EReal) * a1 (ix2 k (quart (i 0) (i 2))) := by
  funext i; idx_vars i; exact (blocks_at a0 a1 i0 i1 i2).trans (grad_at a0 a1 i1 (quart i0 i2))

theorem rounded_array : truncf .bf16 (blocks a0 a1) bitsLt_bf16_f32
    = (fun i => ∑ k : Fin 4096, (a0 (ix2 k (i 1)) : EReal) * a1 (ix2 k (quart (i 0) (i 2))) : FVec Ideal S4x1024x640 .bf16) :=
  blocks_array a0 a1

end Cert.Reference10Ideal.Stage
end
-- ==== Proof.MixInGrad.lean ====
module

public import proofs.«01_k».proof.Proof.MixSpec
public import proofs.«01_k».proof.Proof.Gen.Kernel11Ideal.Value
public import Idealize.ShloMosaic.Lib.Pipeline.ReadBack

/-! # The gradient through the norm before the mixer: the kernel's arrays -/

@[expose] public section

set_option maxRecDepth 16384

noncomputable section
open Idealize.ShloMosaic Idealize.ShloMosaic.TcCoe Idealize.SL.Sem Cert.Mix
open Idealize.ShloMosaic.Pipeline (Dat)
namespace Cert.Kernel11Ideal.Val
open Cert.Kernel11Ideal Cert.Kernel11Ideal.Gen

/-- Row `i` of block `t`. -/
abbrev row (t : Fin 8) (i : Fin 512) : Fin 4096 := ⟨512 * t.val + i.val, by omega⟩

/-! ### One block of rows -/

section
variable (A : Args) (d : Fin 4096 → Fin 1024 → EReal) (dz : Fin 4096 → Fin 2560 → EReal) (t : Fin 8)

/-- A sum over the columns by quarters. -/
theorem quarters (F : Fin 2560 → EReal) : (∑ f, F (quart 0 f)) + (∑ f, F (quart 1 f)) + (∑ f, F (quart 2 f)) + ∑ f, F (quart 3 f) = ∑ f, F f :=
  (Fin.sum_univ_four fun s : Fin 4 => ∑ f, F (quart s f)).symm.trans (Fin.sum_mul_add_congr (S := 4) (n := 640) (f := F) fun _ _ _ => rfl)

/-- The cotangent of the product, by quarters, through the matrix transposed. -/
abbrev back (E0 E1 E2 E3 : Vec Ideal S512x640 .bf16) (w0 w1 w2 w3 : Vec Ideal S1x1024x640 .bf16) : FVec Ideal S512x1024 .f32 :=
  k0_pay5 (k0_pay3 E0 w0 E1 w1) E2 (k0_pay4 w2) (constant S512x1024 .f32 0x00000000#32) E3 w3

theorem dn_row (E0 E1 E2 E3 : Vec Ideal S512x640 .bf16) (w0 w1 w2 w3 : Vec Ideal S1x1024x640 .bf16)
    (e0 : ∀ i f, E0 (ix2 i f) = dz (row t i) (quart 0 f)) (e1 : ∀ i f, E1 (ix2 i f) = dz (row t i) (quart 1 f))
    (e2 : ∀ i f, E2 (ix2 i f) = dz (row t i) (quart 2 f)) (e3 : ∀ i f, E3 (ix2 i f) = dz (row t i) (quart 3 f))
    (h0 : ∀ k f, w0 (ix3 0 k f) = A.w k (quart 0 f)) (h1 : ∀ k f, w1 (ix3 0 k f) = A.w k (quart 1 f))
    (h2 : ∀ k f, w2 (ix3 0 k f) = A.w k (quart 2 f)) (h3 : ∀ k f, w3 (ix3 0 k f) = A.w k (quart 3 f)) (i : Fin 512) (k : Fin 1024) :
    back E0 E1 E2 E3 w0 w1 w2 w3 (ix2 i k) = A.dn dz (row t i) k := by
  unfold back
  pointwise [k0_pay5, k0_pay4, k0_pay3]
  simp only [e0, e1, e2, e3, h0, h1, h2, h3]
  exact quarters fun f => dz (row t i) f * A.w k f

variable (v x : Vec Ideal S512x1024 .f32) (N : FVec Ideal S512x1024 .f32) (g : Vec Ideal S1x1024 .f32)
  (hv : ∀ i k, v (ix2 i k) = A.h (row t i) k) (hg : ∀ k, g (ix2 0 k) = A.g k) (hx : ∀ i k, x (ix2 i k) = d (row t i) k)
  (hN : ∀ i k, N (ix2 i k) = A.dn dz (row t i) k)

include hv in
theorem r_row (i : Fin 512) : k0_pay1 v (ix2 i 0) = A.r (row t i) := by
  pointwise [k0_pay1]
  simp only [hv]
  rfl

include hv hg in
theorem n_row (i : Fin 512) (k : Fin 1024) : k0_pay2 v g (ix2 i k) = A.n (row t i) k := by
  pointwise [k0_pay2]
  rw [r_row A t v hv]
  simp only [hv, hg]
  rfl

/-- The rows' gradient through the norm. -/
abbrev normBack (R : FVec Ideal S512x1 .f32) : FVec Ideal S512x1024 .f32 :=
  subf (mulf (broadcastTo S512x1024 R broadcasts_S512x1_S512x1024) (mulf N (broadcastTo S512x1024 (g : FVec Ideal S1x1024 .f32) broadcasts_S1x1024_S512x1024)))
    (mulf (mulf v (broadcastTo S512x1024 (mulf (mulf R R) R) broadcasts_S512x1_S512x1024))
      (broadcastTo S512x1024 (divf (shapeCast S512x1 (multiReduction .add [1] S512 (mulf (mulf N (broadcastTo S512x1024 (g : FVec Ideal S1x1024 .f32) broadcasts_S1x1024_S512x1024)) v)
        0x00000000#32 reduces_S512x1024_S512 (.inl rfl) rfl) shapeCasts_S512_S512x1) (broadcast S512x1 (Scalar.ofBits .f32 0x44800000#32))) broadcasts_S512x1_S512x1024))

include hv hg hx hN in
theorem dh_row (i : Fin 512) (k : Fin 1024) : addf x (normBack v N g (k0_pay1 v)) (ix2 i k) = A.dh d dz (row t i) k := by
  have e := r_row A t v hv i
  unfold normBack
  generalize k0_pay1 v = R at *
  pointwise
  simp only [e, hv, hg, hx, hN]
  rfl

/-- The gain's gradient, with the block's part added. -/
abbrev gainBack (R : FVec Ideal S512x1 .f32) (B : Vec Ideal S1x1024 .f32) : FVec Ideal S1x1024 .f32 :=
  addf (shapeCast S1x1024 (B : FVec Ideal S1x1024 .f32) shapeCasts_S1x1024_S1x1024) (shapeCast S1x1024
    (multiReduction .add [0] S1024 (mulf (mulf N v) (broadcastTo S512x1024 R broadcasts_S512x1_S512x1024)) 0x00000000#32 reduces_S512x1024_S1024 (.inl rfl) rfl)
    shapeCasts_S1024_S1x1024)

include hv hN in
theorem dg_block (B : Vec Ideal S1x1024 .f32) (k : Fin 1024) :
    gainBack v N (k0_pay1 v) B (ix2 0 k) = B (ix2 0 k) + ∑ i, A.dn dz (row t i) k * A.h (row t i) k * A.r (row t i) := by
  have e := r_row A t v hv
  unfold gainBack
  generalize k0_pay1 v = R at *
  pointwise
  simp only [e, hv, hN]
end

/-! ### The blocks of the arguments -/

variable (m : (ℓ : Loc nD τ sig) → Buf (Elt Ideal) ℓ) (c : Dev nD)

/-- The kernel's arguments. -/
def args : Args where
  h i k := (m ((c : Thread nD τ).loc main_arg3) : FVec Ideal S4096x1024 .f32) (ix2 i k)
  g k := (m ((c : Thread nD τ).loc main_arg4) : FVec Ideal S1x1024 .f32) (ix2 0 k)
  w k f := (m ((c : Thread nD τ).loc main_arg2) : FVec Ideal S1x1024x2560 .f32) (ix3 0 k f)
/-- The cotangent that goes past the mixer. -/
def cot (i : Fin 4096) (k : Fin 1024) : EReal := (m ((c : Thread nD τ).loc main_arg0) : FVec Ideal S4096x1024 .f32) (ix2 i k)
/-- The cotangent of the product. -/
def cotz (i : Fin 4096) (f : Fin 2560) : EReal := (m ((c : Thread nD τ).loc main_arg1) : FVec Ideal S4096x2560 .bf16) (ix2 i f)

/-- The number of a grid point. -/
abbrev num (t : Fin cfg0.N) : Fin 8 := ⟨t.val, lt_of_lt_of_eq t.isLt N_0⟩

theorem idx : ∀ t : Fin cfg0.N, win0_0.index t = ![t.val, 0] ∧ win0_1.index t = ![t.val, 0] ∧ win0_2.index t = ![0, 0, 0]
    ∧ win0_3.index t = ![t.val, 0] ∧ win0_4.index t = ![0, 0] ∧ win0_5.index t = ![t.val, 0] ∧ win0_6.index t = ![t.val, 0] ∧ win0_7.index t = ![0, 0] :=
  (by decide +kernel : ∀ t : Fin grid0.N, _)

variable (t : Fin cfg0.N)

theorem read_d (i : Fin 512) (k : Fin 1024) : (iblk m c 0 t : Vec Ideal S512x1024 .f32) (ix2 i k) = cot m c (row (num t) i) k := by
  pointwise [cot]
  blk_point [iblk, V, idx t]

theorem read_h (i : Fin 512) (k : Fin 1024) : (iblk m c 3 t : Vec Ideal S512x1024 .f32) (ix2 i k) = (args m c).h (row (num t) i) k := by
  pointwise [args]
  blk_point [iblk, V, idx t]

theorem read_g (k : Fin 1024) : (iblk m c 4 t : Vec Ideal S1x1024 .f32) (ix2 0 k) = (args m c).g k := by
  pointwise [args]
  blk_point [iblk, V, idx t]

theorem read_w (q : Fin 4) (o : ℕ) (e : o = q.val) (h) (k : Fin 1024) (f : Fin 640) :
    (View.ld (iblk m c 2 t) (Rect.unit (s := S4x1024x640) ![o, 0, 0] S1x1024x640.size h) : Vec Ideal S1x1024x640 .bf16) (ix3 0 k f) = (args m c).w k (quart q f) := by
  subst e
  pointwise [args]
  blk_simp [iblk, idx t]
  entry_read
  pointwise
  blk_point [iblk, V, idx t]

theorem read_all (i : Fin 512) (f : Fin 2560) : (iblk m c 1 t : Vec Ideal S512x2560 .bf16) (ix2 i f) = cotz m c (row (num t) i) f := by
  pointwise [cotz]
  blk_point [iblk, V, idx t]

theorem read_dz (q : Fin 4) (o : ℕ) (e : o = 640 * q.val) (h) (i : Fin 512) (f : Fin 640) :
    (View.ld (iblk m c 1 t) (Rect.unit (s := S512x2560) ![0, o] S512x640.size h) : Vec Ideal S512x640 .bf16) (ix2 i f) = cotz m c (row (num t) i) (quart q f) := by
  subst e
  refine Eq.trans ?_ (read_all m c t i (quart q f))
  generalize iblk m c 1 t = W
  refine View.ld_unit_apply_of _ _ _ _ _ _ fun a => ?_
  fin_cases a
  · exact (Nat.zero_add _).symm
  · exact congrArg (· + _) (Nat.mul_comm _ _)

/-! ### What a grid point leaves -/

/-- The cotangent of the normalized rows, as the point computes it. -/
abbrev dnPt : FVec Ideal S512x1024 .f32 :=
  back (View.ld (iblk m c 1 t) (Rect.unit ![0, 0] ![512, 640] inb_S512x2560_S512x640_0_0))
    (View.ld (iblk m c 1 t) (Rect.unit ![0, 640] ![512, 640] inb_S512x2560_S512x640_0_640))
    (View.ld (iblk m c 1 t) (Rect.unit ![0, 1280] ![512, 640] inb_S512x2560_S512x640_0_1280))
    (View.ld (iblk m c 1 t) (Rect.unit ![0, 1920] ![512, 640] inb_S512x2560_S512x640_0_1920))
    (View.ld (iblk m c 2 t) (Rect.unit ![0, 0, 0] ![1, 1024, 640] inb_S4x1024x640_S1x1024x640_0_0_0))
    (View.ld (iblk m c 2 t) (Rect.unit ![1, 0, 0] ![1, 1024, 640] inb_S4x1024x640_S1x1024x640_1_0_0))
    (View.ld (iblk m c 2 t) (Rect.unit ![2, 0, 0] ![1, 1024, 640] inb_S4x1024x640_S1x1024x640_2_0_0))
    (View.ld (iblk m c 2 t) (Rect.unit ![3, 0, 0] ![1, 1024, 640] inb_S4x1024x640_S1x1024x640_3_0_0))

theorem dn_pt (i : Fin 512) (k : Fin 1024) : dnPt m c t (ix2 i k) = (args m c).dn (cotz m c) (row (num t) i) k :=
  dn_row (args m c) (cotz m c) (num t) _ _ _ _ _ _ _ _
    (read_dz m c t 0 0 rfl _) (read_dz m c t 1 640 rfl _) (read_dz m c t 2 1280 rfl _) (read_dz m c t 3 1920 rfl _)
    (read_w m c t 0 0 rfl _) (read_w m c t 1 1 rfl _) (read_w m c t 2 2 rfl _) (read_w m c t 3 3 rfl _) i k

theorem out5 (y : S512x1024.Idx) : (outsAt0 m c t.val t.isLt).1 y = (args m c).dh (cot m c) (cotz m c) (row (num t) (y 0)) (y 1) := by
  have A := outsAt0_A m c t
  have B := outsAt0_B m c t
  by_cases e : t.val % 8 = 0
  on_goal 1 => rw [A e]
  on_goal 2 => rw [B e]
  all_goals
    frame_out
    clear A B e
    idx_vars y
    exact dh_row (args m c) (cot m c) (cotz m c) (num t) _ _ (dnPt m c t) _ (read_h m c t) (read_g m c t) (read_d m c t) (dn_pt m c t) y0 y1

theorem out6 (y : S512x1024.Idx) : (outsAt0 m c t.val t.isLt).2.1 y = (args m c).n (row (num t) (y 0)) (y 1) := by
  have A := outsAt0_A m c t
  have B := outsAt0_B m c t
  by_cases e : t.val % 8 = 0
  on_goal 1 => rw [A e]
  on_goal 2 => rw [B e]
  all_goals
    frame_out
    clear A B e
    idx_vars y
    exact n_row (args m c) (num t) _ _ (read_h m c t) (read_g m c t) y0 y1

theorem out7_A (e : t.val % 8 = 0) (k : Fin 1024) : (outsAt0 m c t.val t.isLt).2.2 (ix2 0 k)
    = ∑ i, (args m c).dn (cotz m c) (row (num t) i) k * (args m c).h (row (num t) i) k * (args m c).r (row (num t) i) := by
  rw [outsAt0_A m c t e]
  frame_out
  refine (dg_block (args m c) (cotz m c) (num t) _ (dnPt m c t) (read_h m c t) (dn_pt m c t) _ k).trans ?_
  pointwise [k0_pay7]

theorem out7_B (e : ¬ t.val % 8 = 0) (k : Fin 1024) : (outsAt0 m c t.val t.isLt).2.2 (ix2 0 k)
    = (outsAt0 m c (t.val - 1) (by omega)).2.2 (ix2 0 k)
      + ∑ i, (args m c).dn (cotz m c) (row (num t) i) k * (args m c).h (row (num t) i) k * (args m c).r (row (num t) i) := by
  rw [outsAt0_B m c t e]
  frame_out
  exact dg_block (args m c) (cotz m c) (num t) _ (dnPt m c t) (read_h m c t) (dn_pt m c t) _ k

/-! ### The arrays -/

theorem N : cfg0.N = 8 := N_0

theorem last : t0_7.val + 1 = cfg0.N := N.symm

/-- The gradient of the rows. -/
theorem arr5 : (dats m 0 c).arrAt 5 cfg0.N = (fun i => (args m c).dh (cot m c) (cotz m c) (i 0) (i 1) : FVec Ideal S4096x1024 .f32) := by
  refine (dats m 0 c).arrAt_eq_of_covers 5 _ (by decide +kernel) fun t hf y => ?_
  blk_simp
  rw [after0_5]
  refine (out5 m c t _).trans ?_
  refine congrArg₂ ((args m c).dh (cot m c) (cotz m c)) (Fin.ext ?_) (Fin.ext ?_) <;> blk_simp [idx t]
  exact congrArg (· + _) (Nat.mul_comm _ _)

/-- The normalized rows. -/
theorem arr6 : (dats m 0 c).arrAt 6 cfg0.N = (fun i => (args m c).n (i 0) (i 1) : FVec Ideal S4096x1024 .bf16) := by
  refine (dats m 0 c).arrAt_eq_of_covers 6 _ (by decide +kernel) fun t hf y => ?_
  blk_simp
  rw [after0_6]
  refine (out6 m c t _).trans ?_
  refine congrArg₂ (args m c).n (Fin.ext ?_) (Fin.ext ?_) <;> blk_simp [idx t]
  exact congrArg (· + _) (Nat.mul_comm _ _)

/-- A sum over the blocks and the rows of each is the sum over the rows. -/
theorem sum_rows (f : Fin 4096 → EReal) : ∑ t : Fin cfg0.N, ∑ i : Fin 512, f (row (num t) i) = ∑ i, f i := by
  refine Fin.sum_mul_add_congr (S := cfg0.N) (fun t k hl => congrArg f (Fin.ext ?_)) (by rw [N])
  simp only; omega

/-- The gradient of the gain. -/
theorem arr7 : (dats m 0 c).arrAt 7 cfg0.N = (fun i => (args m c).dg (cotz m c) (i 1) : FVec Ideal S1x1024 .f32) := by
  refine (dats m 0 c).arrAt_eq_of_after_last 7 t0_7 (by decide +kernel) _ fun j => ?_
  blk_simp
  rw [after0_7]
  obtain ⟨k, rfl⟩ : ∃ k : Fin 1024, j = ix2 (0 : Fin 1) k := ⟨j 1, by idx_vars j; obtain rfl : j0 = 0 := Subsingleton.elim _ _; rfl⟩
  refine (Pipeline.eq_sum_fin_of_reset_step_apply_last (M := EReal)
    (fun n h k => ((outsAt0 m c n h).2.2 : FVec Ideal S1x1024 .f32) (ix2 0 k)) 8 (fun _ => 0)
    (fun t k => ∑ i, (args m c).dn (cotz m c) (row (num t) i) k * (args m c).h (row (num t) i) k * (args m c).r (row (num t) i))
    (fun t h y => (out7_A m c t h y).trans (zero_add _).symm)
    (fun t h y => out7_B m c t h y) (le_of_eq N_0) t0_7 last k).trans ?_
  rw [zero_add]
  exact sum_rows fun i => (args m c).dn (cotz m c) i k * (args m c).h i k * (args m c).r i

end Cert.Kernel11Ideal.Val
end
-- ==== Proof.MixNumbers.lean ====
module

public import proofs.«01_k».proof.Proof.MixSpec
public import proofs.«01_k».proof.Proof.FfnNumbers
public import proofs.«01_k».proof.Proof.Finite
public import proofs.«01_k».proof.Pre_finite11

/-! # The gradient through the norm before the mixer, on arguments that are real numbers -/

@[expose] public section

noncomputable section
open Idealize.ShloMosaic

namespace Cert.Mix
open Cert.Gmlp (negHalf IsReal dnorm_eq rsqrt_real meanSq_real)
open Cert.Ffn (width width_val)

/-- Arguments whose entries are real numbers. -/
structure Args.Real (A : Args) : Prop where
  h : ∀ i k, IsReal (A.h i k)
  g : ∀ k, IsReal (A.g k)
  w : ∀ k f, IsReal (A.w k f)

namespace Args.Real
variable {A : Args} (H : A.Real)
include H

theorem ms (i) : ∃ M : ℝ, 0 < M ∧ A.ms i = (M : EReal) := meanSq_real (H.h i) width_val (by norm_num)

variable {dz : Fin 4096 → Fin 2560 → EReal} (Z : ∀ i f, IsReal (dz i f))
include Z

theorem dn (i k) : IsReal (A.dn dz i k) := IsReal.sum _ fun f => (Z i f).mul (H.w k f)
theorem gained (i k) : IsReal (A.dn dz i k * A.g k) := (H.dn Z i k).mul (H.g k)
theorem dot (i) : IsReal (∑ k, A.dn dz i k * A.g k * A.h i k) := IsReal.sum _ fun k => (H.gained Z i k).mul (H.h i k)

/-- The gradient of the rows, as the reference writes it. -/
theorem dh_eq (d : Fin 4096 → Fin 1024 → EReal) (i k) :
    let E := Ideal.div ((∑ k, A.h i k * (A.dn dz i k * A.g k)) * (negHalf * Ideal.div (A.r i) (A.ms i))) width
    d i k + (A.dn dz i k * A.g k * A.r i + A.h i k * E + E * A.h i k) = A.dh d dz i k := by
  obtain ⟨M, hM, e⟩ := H.ms i
  have := dnorm_eq (H.h i k) (H.gained Z i k) (H.dot Z i) hM width_val (by norm_num)
  rw [← e] at this
  intro E
  have hE : E = Ideal.div ((∑ k, A.dn dz i k * A.g k * A.h i k) * (negHalf * Ideal.div (A.r i) (A.ms i))) width :=
    congrArg (fun s => Ideal.div (s * _) _) (Finset.sum_congr rfl fun k _ => mul_comm _ _)
  rw [hE]
  exact congrArg (d i k + ·) this

end Args.Real
end Cert.Mix

namespace Cert.Pre_finite11
open Cert.Gmlp Facts

/-- The shape relations the precondition's operations take. -/
theorem facts : Facts where
  bcast_S_S4096x1024 := by decide
  reducesTo_S4096x1024_S_d0_1 := by decide
  h_S_ := by decide
  bitsLt_bf16_f32 := by decide
  bcast_S_S4096x2560 := by decide
  reducesTo_S4096x2560_S_d0_1 := by decide
  bcast_S_S1x1024x2560 := by decide
  reducesTo_S1x1024x2560_S_d0_1_2 := by decide
  bcast_S_S1x1024 := by decide
  reducesTo_S1x1024_S_d0_1 := by decide

variable [Facts] {x0 x3 : FVec Ideal S4096x1024 .f32} {x1 : FVec Ideal S4096x2560 .bf16}
    {x2 : FVec Ideal S1x1024x2560 .f32} {x4 : FVec Ideal S1x1024 .f32}

/-- What the precondition says: every entry of the arguments is a real number. -/
theorem real (h : fn x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  obtain ⟨h, e4⟩ := IntOp.andi_eq_one.1 (congrFun h fun k => k.elim0)
  obtain ⟨h, e3⟩ := IntOp.andi_eq_one.1 h
  obtain ⟨h, e2⟩ := IntOp.andi_eq_one.1 h
  obtain ⟨e0, e1⟩ := IntOp.andi_eq_one.1 h
  exact ⟨Cert.Pre_finite.real_of_all x0 _ _ _ e0, Cert.Pre_finite.real_of_all (extf .f32 x1 bitsLt_bf16_f32) _ _ _ e1,
    Cert.Pre_finite.real_of_all x2 _ _ _ e2, Cert.Pre_finite.real_of_all x3 _ _ _ e3, Cert.Pre_finite.real_of_all x4 _ _ _ e4⟩

end Cert.Pre_finite11
end
-- ==== Proof.MixInGradRef.lean ====
module

public import proofs.«01_k».proof.Proof.Gen.Reference11Ideal.Run
public import proofs.«01_k».proof.Proof.FfnGradRef
public import proofs.«01_k».proof.Proof.MixInRef
public import proofs.«01_k».proof.Proof.MixNumbers

/-! # The gradient through the norm before the mixer: the reference's results

The stages that the norm's derivative takes are those of the half-step's gradient. -/

@[expose] public section

set_option maxRecDepth 16384

noncomputable section
open Idealize.ShloMosaic Idealize.ShloMosaic.TcCoe Idealize.SL.Sem Cert.Mix
namespace Cert.Reference11Ideal.Stage
open Cert.Reference11Ideal Cert.Reference11Ideal.Gen Cert.Reference11Ideal.Value
open Cert.Gmlp (IsReal)
open Cert.Reference9Ideal.Stage (Rows Wide meanSq gain normed args meanSq_at gain_at normed_at)
open Cert.Reference2Ideal.Stage (wide dmean dgain dmean_at dgain_at)

/-- The cotangent of the normalized rows. -/
def dn (e : FVec Ideal S4096x2560 .bf16) (w : FVec Ideal S1x1024x2560 .f32) : Rows :=
  Host.dotGeneral dot_S4096x2560_S1024x2560_S4096x1024_1_1_0_0_n_n none (extf .f32 e bitsLt_bf16_f32)
    (shapeCast S1024x2560 w shapeCasts_S1x1024x2560_S1024x2560)
/-- The rows' gradient, `v` being the cotangent of the rows before the gain. -/
def dnorm (d h v : Rows) : Rows :=
  addf d (addf (addf (mulf v (wide (Host.rsqrt (meanSq h)))) (mulf h (dmean h v))) (mulf (dmean h v) h))

variable (d : FVec Ideal S4096x1024 .f32) (e : FVec Ideal S4096x2560 .bf16) (w : FVec Ideal S1x1024x2560 .f32)
  (h : FVec Ideal S4096x1024 .f32) (g : FVec Ideal S1x1024 .f32)

/-- The rows' gradient at the arguments. -/
def dh : Rows := dnorm d h (mulf (dn e w) (gain g))

section
variable (m : (ℓ : Loc nD τ sig) → Buf (Elt Ideal) ℓ) (c : Dev nD)

theorem out0_eq : res_main_v42 m c
    = dh (m (c.tc.loc main_arg0)) (m (c.tc.loc main_arg1)) (m (c.tc.loc main_arg2)) (m (c.tc.loc main_arg3)) (m (c.tc.loc main_arg4)) := rfl
end

/-- The cotangents by entries. -/
def cot (i : Fin 4096) (k : Fin 1024) : EReal := d (ix2 i k)
@[inherit_doc cot] def cotz (i : Fin 4096) (f : Fin 2560) : EReal := e (ix2 i f)

variable (i : Fin 4096)

theorem dn_at (k : Fin 1024) : dn e w (ix2 i k) = (args h g w).dn (cotz e) i k := by
  pointwise [dn]
  rfl

theorem dnorm_at (v : Rows) (k : Fin 1024) : dnorm d h v (ix2 i k)
    = d (ix2 i k) + (v (ix2 i k) * Ideal.rsqrt (meanSq h (ix2 i 0)) + h (ix2 i k) * dmean h v (ix2 i k) + dmean h v (ix2 i k) * h (ix2 i k)) := by
  pointwise [dnorm]

theorem gained_at (k : Fin 1024) : mulf (dn e w) (gain g) (ix2 i k) = (args h g w).dn (cotz e) i k * (args h g w).g k := by
  show dn e w (ix2 i k) * gain g (ix2 i k) = _
  rw [dn_at e w h g, gain_at]; rfl

theorem ms_eq : meanSq h (ix2 i 0) = (args h g w).ms i := meanSq_at h i

variable {e w h g} in
theorem dh_at (H : (args h g w).Real) (Z : ∀ i f, IsReal (cotz e i f)) (k : Fin 1024) :
    dh d e w h g (ix2 i k) = (args h g w).dh (cot d) (cotz e) i k := by
  unfold dh
  rw [dnorm_at, dmean_at, gained_at e w h g]
  show _ + (_ * Ideal.rsqrt (meanSq h (ix2 i 0)) + _ * Ideal.div (_ * (_ * Ideal.div (Ideal.rsqrt (meanSq h (ix2 i 0))) (meanSq h (ix2 i 0)))) _
    + Ideal.div (_ * (_ * Ideal.div (Ideal.rsqrt (meanSq h (ix2 i 0))) (meanSq h (ix2 i 0)))) _ * _) = _
  rw [ms_eq w h g, Finset.sum_congr rfl fun k _ => (by rw [gained_at e w h g])]
  exact H.dh_eq Z (cot d) i k

theorem dg_at (k : Fin 1024) : dgain h (dn e w) (ix2 0 k) = (args h g w).dg (cotz e) k := by
  rw [dgain_at]
  refine Finset.sum_congr rfl fun i _ => ?_
  show _ * Ideal.rsqrt (meanSq h (ix2 i 0)) * _ = _
  rw [ms_eq w h g, dn_at e w h g, mul_comm, ← mul_assoc]; rfl

/-! ### The results as arrays -/

variable {e w h g} in
theorem dh_array (H : (args h g w).Real) (Z : ∀ i f, IsReal (cotz e i f)) :
    dh d e w h g = fun i => (args h g w).dh (cot d) (cotz e) (i 0) (i 1) := by
  funext i; idx_vars i; exact dh_at d i0 H Z i1
theorem n_array : (truncf .bf16 (normed h g) bitsLt_bf16_f32 : FVec Ideal S4096x1024 .bf16) = fun i => (args h g w).n (i 0) (i 1) := by
  funext i; idx_vars i; exact normed_at h g w i0 i1
theorem dg_array : dgain h (dn e w) = fun i => (args h g w).dg (cotz e) (i 1) := by
  funext i; idx_vars i; obtain rfl : i0 = 0 := Subsingleton.elim _ _; exact dg_at e w h g i1

end Cert.Reference11Ideal.Stage
end
-- ==== Proof.Mixer.lean ====
module

public import proofs.«01_k».proof.Defs
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.MixOut
public import proofs.«01_k».proof.Proof.MixOutGrad
public import proofs.«01_k».proof.Proof.MixOutWeights
public import proofs.«01_k».proof.Proof.MixIn
public import proofs.«01_k».proof.Proof.MixInRef
public import proofs.«01_k».proof.Proof.MixInWeights
public import proofs.«01_k».proof.Proof.MixInGrad
public import proofs.«01_k».proof.Proof.MixInGradRef
public import Idealize.ShloMosaic.Adequacy
public import Idealize.ShloMosaic.Init

/-! # The products into the mixer and out of it, and their gradients, agree with the reference -/

@[expose] public section

set_option maxRecDepth 16384

noncomputable section
namespace Cert.Mixer

open Idealize.ShloMosaic Idealize.SL.Sem

instance : Cert.Kernel6.Facts := Cert.Kernel6.Gen.facts
instance : Cert.Kernel6Ideal.Facts := Cert.Kernel6Ideal.Gen.facts
instance : Cert.Reference6Ideal.Facts := Cert.Reference6Ideal.Gen.facts
instance : Cert.Kernel7.Facts := Cert.Kernel7.Gen.facts
instance : Cert.Kernel7Ideal.Facts := Cert.Kernel7Ideal.Gen.facts
instance : Cert.Reference7Ideal.Facts := Cert.Reference7Ideal.Gen.facts
instance : Cert.Kernel8.Facts := Cert.Kernel8.Gen.facts
instance : Cert.Kernel8Ideal.Facts := Cert.Kernel8Ideal.Gen.facts
instance : Cert.Reference8Ideal.Facts := Cert.Reference8Ideal.Gen.facts
instance : Cert.Kernel9.Facts := Cert.Kernel9.Gen.facts
instance : Cert.Kernel9Ideal.Facts := Cert.Kernel9Ideal.Gen.facts
instance : Cert.Reference9Ideal.Facts := Cert.Reference9Ideal.Gen.facts
instance : Cert.Kernel10.Facts := Cert.Kernel10.Gen.facts
instance : Cert.Kernel10Ideal.Facts := Cert.Kernel10Ideal.Gen.facts
instance : Cert.Reference10Ideal.Facts := Cert.Reference10Ideal.Gen.facts
instance : Cert.Kernel11.Facts := Cert.Kernel11.Gen.facts
instance : Cert.Kernel11Ideal.Facts := Cert.Kernel11Ideal.Gen.facts
instance : Cert.Reference11Ideal.Facts := Cert.Reference11Ideal.Gen.facts
instance : Cert.Pre_finite11.Facts := Cert.Pre_finite11.facts

/-- The reference runs, keeps its arguments and ends with every semaphore at zero. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference runs, keeps its arguments and ends with every semaphore at zero. -/
theorem frame_reference7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The reference runs, keeps its arguments and ends with every semaphore at zero. -/
theorem frame_reference8 : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The reference runs, keeps its arguments and ends with every semaphore at zero. -/
theorem frame_reference9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- The reference runs, keeps its arguments and ends with every semaphore at zero. -/
theorem frame_reference10 : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- The reference runs, keeps its arguments and ends with every semaphore at zero. -/
theorem frame_reference11 : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

/-- The product out of the mixer, added to the rows. -/
theorem algebraic6 : Cert.algebraic_Kernel6Ideal_Reference6Ideal := by
  pair_intro
  · run_from Cert.Kernel6Ideal.Value.run_blocks m g
  · run_from Cert.Reference6Ideal.Value.run m' g'
    · exact Eq.trans (Cert.Reference6Ideal.Stage.out_array _ _ _) (Cert.Kernel6Ideal.Val.arr3 m c).symm

/-- The gradient of the mixed rows. -/
theorem algebraic7 : Cert.algebraic_Kernel7Ideal_Reference7Ideal := by
  pair_intro
  · run_from Cert.Kernel7Ideal.Value.run_blocks m g
  · run_from Cert.Reference7Ideal.Value.run m' g'
    · exact Eq.trans (Cert.Reference7Ideal.Stage.grad_array _ _) (Cert.Kernel7Ideal.Val.arr2 m c).symm
    · exact Eq.trans (Cert.Reference7Ideal.Stage.cot_array _) (Cert.Kernel7Ideal.Val.arr3 m c).symm

/-- The gradient of the matrix out of the mixer. -/
theorem algebraic8 : Cert.algebraic_Kernel8Ideal_Reference8Ideal := by
  pair_intro
  · run_from Cert.Kernel8Ideal.Value.run_blocks m g
  · run_from Cert.Reference8Ideal.Value.run m' g'
    · exact Eq.trans (Cert.Reference8Ideal.Stage.grad_array _ _) (Cert.Kernel8Ideal.Val.arr2 m c).symm
    · exact Eq.trans (Cert.Reference8Ideal.Stage.rounded_array _ _) (Cert.Kernel8Ideal.Val.arr3 m c).symm

/-- The product of the normalized rows into the mixer. -/
theorem algebraic9 : Cert.algebraic_Kernel9Ideal_Reference9Ideal := by
  pair_intro
  · run_from Cert.Kernel9Ideal.Value.run_blocks m g
  · run_from Cert.Reference9Ideal.Value.run m' g'
    · obtain ⟨-, -, e2⟩ := hagree c
      refine (Cert.Reference9Ideal.Stage.first_array _ _ _).trans (Eq.trans ?_ (Cert.Kernel9Ideal.Val.arr3 m c).symm)
      rw [e2]
      rfl
    · obtain ⟨-, -, e2⟩ := hagree c
      refine (Cert.Reference9Ideal.Stage.second_array _ _ _).trans (Eq.trans ?_ (Cert.Kernel9Ideal.Val.arr4 m c).symm)
      rw [e2]
      rfl

/-- The gradient of the matrix into the mixer. -/
theorem algebraic10 : Cert.algebraic_Kernel10Ideal_Reference10Ideal := by
  pair_intro
  · run_from Cert.Kernel10Ideal.Value.run_blocks m g
  · run_from Cert.Reference10Ideal.Value.run m' g'
    · exact Eq.trans (Cert.Reference10Ideal.Stage.blocks_array _ _) (Cert.Kernel10Ideal.Val.arr2 m c).symm
    · exact Eq.trans (Cert.Reference10Ideal.Stage.rounded_array _ _) (Cert.Kernel10Ideal.Val.arr3 m c).symm

/-- The gradient of the rows before the mixer's norm, on real arguments. -/
theorem algebraic11 : Cert.algebraic_Kernel11Ideal_Reference11Ideal_pre_finite11 := by
  pair_intro
  · run_from Cert.Kernel11Ideal.Value.run_blocks m g
  · run_from Cert.Reference11Ideal.Value.run m' g'
    · obtain ⟨e0, e1, e2, e3, e4⟩ := hagree c
      obtain ⟨-, h1, h2, h3, h4⟩ := Cert.Pre_finite11.real (hpre c)
      refine (Cert.Reference11Ideal.Stage.out0_eq m' c).trans (Eq.trans ?_ (Cert.Kernel11Ideal.Val.arr5 m c).symm)
      rw [e0, e1, e2, e3, e4]
      exact Cert.Reference11Ideal.Stage.dh_array _ ⟨fun _ _ => h3 _, fun _ => h4 _, fun _ _ => h2 _⟩ fun _ _ => h1 _
    · exact Eq.trans (Cert.Reference11Ideal.Stage.n_array (m (c.tc.loc Cert.Kernel11Ideal.main_arg2)) _ _) (Cert.Kernel11Ideal.Val.arr6 m c).symm
    · exact Eq.trans (Cert.Reference11Ideal.Stage.dg_array _ _ _ (m (c.tc.loc Cert.Kernel11Ideal.main_arg4))) (Cert.Kernel11Ideal.Val.arr7 m c).symm

end Cert.Mixer
end
-- ==== Proof.HeadSpec.lean ====
module

public import proofs.«01_k».proof.Proof.FfnSpec

/-! # The loss, its gradients and the per-layer embedding as formulas

Entry by entry, over the extended reals: the rows take in the tokens' embeddings through a gate, are normalized, and
are compared with the target. -/

@[expose] public section

noncomputable section
open Idealize.ShloMosaic

namespace Cert.Head

open Cert.Gmlp (eps)
open Cert.Ffn (width sig)

abbrev Rows := Fin 4096 → Fin 1024 → EReal

/-- Column `f` of a quarter. -/
abbrev quart (q : Fin 4) (f : Fin 256) : Fin 1024 := ⟨q.val * 256 + f.val, by omega⟩
/-- Row `i` of block `t`. -/
abbrev row (t : Fin 16) (i : Fin 256) : Fin 4096 := ⟨256 * t.val + i.val, by omega⟩
/-- One over the width. -/
abbrev perWidth : EReal := Ideal.ofBits .f32 0x3A800000#32
/-- Half of it. -/
abbrev halfPerWidth : EReal := Ideal.ofBits .f32 0x3A000000#32

/-! ### The norm of rows and its derivative -/

/-- The mean square of a row, with `eps` added. -/
def ms (x : Rows) (i : Fin 4096) : EReal := Ideal.div (∑ k, x i k * x i k) width + eps
/-- One over the root of it. -/
def rstd (x : Rows) (i : Fin 4096) : EReal := Ideal.rsqrt (ms x i)
/-- The rows' gradient from the cotangent `e` of the rows before the gain. -/
def back (x e : Rows) (i : Fin 4096) (k : Fin 1024) : EReal :=
  rstd x i * e i k - x i k * (rstd x i * rstd x i * rstd x i) * Ideal.div (∑ k, e i k * x i k) width

/-- The arguments: rows, embeddings, target, the gains of the two norms and the two matrices. -/
structure Args where
  h : Rows
  p : Fin 4096 → Fin 256 → EReal
  t : Rows
  g : Fin 1024 → EReal
  gf : Fin 1024 → EReal
  wg : Fin 1024 → Fin 1024 → EReal
  wp : Fin 256 → Fin 1024 → EReal

namespace Args
variable (A : Args) (i : Fin 4096) (k : Fin 1024)

/-- The normalized rows. -/
def n : EReal := A.h i k * rstd A.h i * A.g k
/-- The gate before its sigmoid. -/
def z : EReal := ∑ j, A.n i j * A.wg j k
/-- The gate. -/
def gate : EReal := sig (A.z i k)
/-- The embeddings through their matrix. -/
def pp : EReal := ∑ j, A.p i j * A.wp j k
/-- The rows with the gated embeddings added. -/
def h4 : EReal := A.h i k + A.gate i k * A.pp i k
/-- The normalized rows less the target. -/
def err : EReal := A.h4 i k * rstd A.h4 i * A.gf k - A.t i k
/-- The cotangent of the normalized rows. -/
def dy : EReal := A.err i k * perWidth
/-- The same before the gain. -/
def dyg : EReal := A.dy i k * A.gf k
/-- The gradient of the rows with the embeddings. -/
def dh4 : EReal := back A.h4 A.dyg i k
/-- The gradient of the gate before its sigmoid. -/
def dz : EReal := A.dh4 i k * A.pp i k * A.gate i k * (1 - A.gate i k)
/-- The gradient of the embeddings through their matrix. -/
def dpp : EReal := A.dh4 i k * A.gate i k
/-- The cotangent of the rows that the gate reads. -/
def dn : EReal := ∑ f, A.dz i f * A.wg k f
/-- The same before the gain. -/
def dng : EReal := A.dn i k * A.g k
/-- The gradient of the rows. -/
def dh : EReal := A.dh4 i k + back A.h A.dng i k
/-- A row's part of the gradient of the last norm's gain. -/
def gfRow : EReal := A.dy i k * A.h4 i k * rstd A.h4 i
/-- A row's part of the gradient of the gate's norm's gain. -/
def gRow : EReal := A.dn i k * A.h i k * rstd A.h i
/-- The gradient of the last norm's gain. -/
def dgf : EReal := ∑ i, A.gfRow i k
/-- The gradient of the gate's norm's gain. -/
def dg : EReal := ∑ i, A.gRow i k
/-- The part of a block of rows in the loss. -/
def part (t : Fin 16) : EReal := halfPerWidth * ∑ i, ∑ k, A.err (row t i) k * A.err (row t i) k
/-- The loss. -/
def loss : EReal := ∑ t, A.part t

end Args
end Cert.Head
end
-- ==== Proof.HeadBlock.lean ====
module

public import proofs.«01_k».proof.Proof.HeadSpec
public import proofs.«01_k».proof.Proof.Gen.Kernel13Ideal.Value
public import Idealize.ShloMosaic.Lib.Pointwise

/-! # The loss and its gradients: one block of rows in the kernel -/

@[expose] public section

set_option maxRecDepth 16384

noncomputable section
open Idealize.ShloMosaic Idealize.ShloMosaic.TcCoe Idealize.SL.Sem Cert.Head
namespace Cert.Kernel13Ideal.Val
open Cert.Kernel13Ideal Cert.Kernel13Ideal.Gen

/-! ### Products and sums -/

theorem gate_at (n : FVec Ideal S256x1024 .bf16) (w : FVec Ideal S1024x1024 .bf16) (i : Fin 256) (k : Fin 1024) :
    logistic (matmul dot_S256x1024_S1024x1024_S256x1024_1_0_0_1_n_n none n (shapeCast S1024x1024 w shapeCasts_S1024x1024_S1024x1024 : FVec Ideal S1024x1024 .bf16)
      (constant S256x1024 .f32 0x00000000#32) : FVec Ideal S256x1024 .f32) (ix2 i k) = Cert.Ffn.sig (∑ j : Fin 1024, n (ix2 i j) * w (ix2 j k)) := by
  pointwise

theorem piece_at (p : FVec Ideal S256x256 .bf16) (w : FVec Ideal S1x256x256 .bf16) (i k : Fin 256) :
    matmul dot_S256x256_S256x256_S256x256_1_0_0_1_n_n none p (shapeCast S256x256 w shapeCasts_S1x256x256_S256x256 : FVec Ideal S256x256 .bf16)
      (constant S256x256 .f32 0x00000000#32) (ix2 i k) = ∑ j : Fin 256, p (ix2 i j) * w (ix3 0 j k) := by
  pointwise

theorem through_at (d : FVec Ideal S256x1024 .bf16) (w : FVec Ideal S1024x1024 .bf16) (i : Fin 256) (k : Fin 1024) :
    matmul dot_S256x1024_S1024x1024_S256x1024_1_1_0_0_n_n none d (shapeCast S1024x1024 w shapeCasts_S1024x1024_S1024x1024 : FVec Ideal S1024x1024 .bf16)
      (constant S256x1024 .f32 0x00000000#32) (ix2 i k) = ∑ f : Fin 1024, d (ix2 i f) * w (ix2 k f) := by
  pointwise

/-- Four pieces side by side. -/
theorem four_at (a b c d : FVec Ideal S256x256 .f32) (X : Fin 1024 → EReal) (i : Fin 256)
    (ha : ∀ f, a (ix2 i f) = X (quart 0 f)) (hb : ∀ f, b (ix2 i f) = X (quart 1 f)) (hc : ∀ f, c (ix2 i f) = X (quart 2 f))
    (hd : ∀ f, d (ix2 i f) = X (quart 3 f)) (k : Fin 1024) :
    concatenate S256x1024 1 [⟨S256x256, a⟩, ⟨S256x256, b⟩, ⟨S256x256, c⟩, ⟨S256x256, d⟩]
      concatenates_S256x256_S256x256_S256x256_S256x256_S256x1024_d1 (ix2 i k) = X k := by
  pointwise
  split
  · exact (ha _).trans (congrArg X (Fin.ext (by simp)))
  · split
    · exact (hb _).trans (congrArg X (Fin.ext (by simp; omega)))
    · split
      · exact (hc _).trans (congrArg X (Fin.ext (by simp; omega)))
      · exact (hd _).trans (congrArg X (Fin.ext (by simp; omega)))

/-- The sum of a block's columns, added to what was there. -/
theorem columns_at (x : FVec Ideal S256x1024 .f32) (b : Vec Ideal S1x1024 .f32) (k : Fin 1024) :
    k0_pay2 x b (ix2 0 k) = b (ix2 0 k) + ∑ i : Fin 256, x (ix2 i k) := by
  pointwise [k0_pay2]

/-- The sum of a block's entries, scaled and added to what was there. -/
theorem entries_at (x : FVec Ideal S256x1024 .f32) (b : FVec Ideal S1x128 .f32) (j : Fin 128) :
    k0_pay1 b x (ix2 0 j) = b (ix2 0 j) + halfPerWidth * ∑ i : Fin 256, ∑ k : Fin 1024, x (ix2 i k) := by
  pointwise [k0_pay1]

/-! ### The rows of a block -/

variable (A : Args) (t : Fin 16)

section
variable (v : Vec Ideal S256x1024 .f32) (g : Vec Ideal S1x1024 .f32) (W : Vec Ideal S1024x1024 .bf16)
  (hv : ∀ i k, v (ix2 i k) = A.h (row t i) k) (hg : ∀ k, g (ix2 0 k) = A.g k) (hW : ∀ k f, W (ix2 k f) = A.wg k f)

include hv in
theorem rstd_row (i : Fin 256) : k0_pay4 v (ix2 i 0) = rstd A.h (row t i) := by
  pointwise [k0_pay4]
  simp only [hv]
  rfl

include hv hg in
theorem n_row (i : Fin 256) (k : Fin 1024) : k0_pay5 v g (ix2 i k) = A.n (row t i) k := by
  pointwise [k0_pay5]
  rw [rstd_row A t v hv]
  simp only [hv, hg]
  rfl

include hv hg hW in
theorem gate_row (i : Fin 256) (k : Fin 1024) : k0_pay6 v g W (ix2 i k) = A.gate (row t i) k := by
  refine (gate_at (k0_pay5 v g) W i k).trans (congrArg Cert.Ffn.sig (Finset.sum_congr rfl fun j _ => ?_))
  rw [n_row A t v g hv hg, hW]

end

theorem pp_row (P : Vec Ideal S256x256 .f32) (w0 w1 w2 w3 : Vec Ideal S1x256x256 .bf16) (hP : ∀ i j, P (ix2 i j) = A.p (row t i) j)
    (h0 : ∀ j f, w0 (ix3 0 j f) = A.wp j (quart 0 f)) (h1 : ∀ j f, w1 (ix3 0 j f) = A.wp j (quart 1 f))
    (h2 : ∀ j f, w2 (ix3 0 j f) = A.wp j (quart 2 f)) (h3 : ∀ j f, w3 (ix3 0 j f) = A.wp j (quart 3 f)) (i : Fin 256) (k : Fin 1024) :
    k0_pay10 (k0_pay7 P) (k0_pay8 P w0) (k0_pay9 P w1) w2 w3 (ix2 i k) = A.pp (row t i) k := by
  have piece : ∀ (q : Fin 4) (w : Vec Ideal S1x256x256 .bf16) (_ : ∀ j f, w (ix3 0 j f) = A.wp j (quart q f)) (f : Fin 256), _ :=
    fun q w hw f => (piece_at (k0_pay7 P) w i f).trans (Finset.sum_congr rfl fun j _ => congrArg₂ (· * ·) (hP i j) (hw j f))
  exact four_at _ _ _ _ (A.pp (row t i)) i (piece 0 w0 h0) (piece 1 w1 h1) (piece 2 w2 h2) (piece 3 w3 h3) k

section
variable (v : Vec Ideal S256x1024 .f32) (G : FVec Ideal S256x1024 .f32) (b : FVec Ideal S256x256 .bf16) (x y : FVec Ideal S256x256 .f32)
  (w2 w3 : Vec Ideal S1x256x256 .bf16) (gf : Vec Ideal S1x1024 .f32) (T : Vec Ideal S256x1024 .f32)
  (hv : ∀ i k, v (ix2 i k) = A.h (row t i) k) (hG : ∀ i k, G (ix2 i k) = A.gate (row t i) k)
  (hp : ∀ i k, k0_pay10 b x y w2 w3 (ix2 i k) = A.pp (row t i) k)
  (hgf : ∀ k, gf (ix2 0 k) = A.gf k) (hT : ∀ i k, T (ix2 i k) = A.t (row t i) k)

include hv hG hp

theorem h4_row (i : Fin 256) (k : Fin 1024) : k0_pay11 v G b x y w2 w3 (ix2 i k) = A.h4 (row t i) k := by
  have e := hp i k
  unfold k0_pay11
  generalize k0_pay10 b x y w2 w3 = Q at *
  pointwise
  rw [e, hv, hG]
  rfl

theorem rstd4_row (i : Fin 256) : k0_pay12 v G b x y w2 w3 (ix2 i 0) = rstd A.h4 (row t i) := by
  have e := h4_row A t v G b x y w2 w3 hv hG hp i
  unfold k0_pay12
  generalize k0_pay11 v G b x y w2 w3 = Q at *
  pointwise
  simp only [e]
  rfl

include hgf hT

theorem err_row (i : Fin 256) (k : Fin 1024) : k0_pay14 v G b x y w2 w3 gf T (ix2 i k) = A.err (row t i) k := by
  have e := h4_row A t v G b x y w2 w3 hv hG hp i k
  have r := rstd4_row A t v G b x y w2 w3 hv hG hp i
  unfold k0_pay14 k0_pay13
  generalize k0_pay11 v G b x y w2 w3 = Q at *
  generalize k0_pay12 v G b x y w2 w3 = R at *
  pointwise
  rw [e, r, hgf, hT]
  rfl

theorem dy_row (i : Fin 256) (k : Fin 1024) : k0_pay15 v G b x y w2 w3 gf T (ix2 i k) = A.dy (row t i) k := by
  have e := err_row A t v G b x y w2 w3 gf T hv hG hp hgf hT i k
  unfold k0_pay15
  generalize k0_pay14 v G b x y w2 w3 gf T = Q at *
  pointwise
  rw [e]
  rfl

theorem dh4_row (i : Fin 256) (k : Fin 1024) : k0_pay16 v G b x y w2 w3 gf T (ix2 i k) = A.dh4 (row t i) k := by
  have e := h4_row A t v G b x y w2 w3 hv hG hp i
  have r := rstd4_row A t v G b x y w2 w3 hv hG hp i
  have d := dy_row A t v G b x y w2 w3 gf T hv hG hp hgf hT i
  unfold k0_pay16 k0_pay13
  generalize k0_pay11 v G b x y w2 w3 = Q at *
  generalize k0_pay12 v G b x y w2 w3 = R at *
  generalize k0_pay15 v G b x y w2 w3 gf T = Y at *
  pointwise
  simp only [e, r, d, hgf]
  rfl

theorem gf_row (i : Fin 256) (k : Fin 1024) : k0_pay17 v G b x y w2 w3 gf T (ix2 i k) = A.gfRow (row t i) k := by
  have e := h4_row A t v G b x y w2 w3 hv hG hp i k
  have r := rstd4_row A t v G b x y w2 w3 hv hG hp i
  have d := dy_row A t v G b x y w2 w3 gf T hv hG hp hgf hT i k
  unfold k0_pay17
  generalize k0_pay11 v G b x y w2 w3 = Q at *
  generalize k0_pay12 v G b x y w2 w3 = R at *
  generalize k0_pay15 v G b x y w2 w3 gf T = Y at *
  pointwise
  rw [e, r, d]
  rfl

end

section
variable (v : Vec Ideal S256x1024 .f32) (R : FVec Ideal S256x1 .f32) (g : Vec Ideal S1x1024 .f32) (G Q X : FVec Ideal S256x1024 .f32)
  (W : Vec Ideal S1024x1024 .bf16)
  (hv : ∀ i k, v (ix2 i k) = A.h (row t i) k) (hR : ∀ i, R (ix2 i 0) = rstd A.h (row t i)) (hg : ∀ k, g (ix2 0 k) = A.g k)
  (hG : ∀ i k, G (ix2 i k) = A.gate (row t i) k) (hQ : ∀ i k, Q (ix2 i k) = A.pp (row t i) k) (hX : ∀ i k, X (ix2 i k) = A.dh4 (row t i) k)
  (hW : ∀ k f, W (ix2 k f) = A.wg k f)

include hG hX in
theorem dpp_row (i : Fin 256) (k : Fin 1024) : k0_pay19 G X (ix2 i k) = A.dpp (row t i) k := by
  pointwise [k0_pay19]
  rw [hX, hG]
  rfl

include hG hQ hX in
theorem dz_row (i : Fin 256) (k : Fin 1024) : k0_pay18 G Q X (ix2 i k) = A.dz (row t i) k := by
  pointwise [k0_pay18]
  rw [hX, hG, hQ]
  rfl

include hG hQ hX hW

theorem dn_row (i : Fin 256) (k : Fin 1024) : k0_pay20 G Q X W (ix2 i k) = A.dn (row t i) k := by
  refine (through_at (k0_pay18 G Q X) W i k).trans (Finset.sum_congr rfl fun f _ => ?_)
  rw [dz_row A t G Q X hG hQ hX, hW]

include hv hR

theorem g_row (i : Fin 256) (k : Fin 1024) : k0_pay21 v R G Q X W (ix2 i k) = A.gRow (row t i) k := by
  have e := dn_row A t G Q X W hG hQ hX hW i k
  unfold k0_pay21
  generalize k0_pay20 G Q X W = N at *
  pointwise
  rw [e, hv, hR]
  rfl

include hg

theorem dh_row (i : Fin 256) (k : Fin 1024) : k0_pay22 v R g G Q X W (ix2 i k) = A.dh (row t i) k := by
  have e := dn_row A t G Q X W hG hQ hX hW i
  unfold k0_pay22
  generalize k0_pay20 G Q X W = N at *
  pointwise
  simp only [e, hv, hR, hg, hX]
  rfl

end
end Cert.Kernel13Ideal.Val
end
-- ==== Proof.Head.lean ====
module

public import proofs.«01_k».proof.Proof.HeadBlock
public import Idealize.ShloMosaic.Lib.Pipeline.ReadBack

/-! # The loss and its gradients: the kernel's arrays -/

@[expose] public section

set_option maxRecDepth 16384

noncomputable section
open Idealize.ShloMosaic Idealize.ShloMosaic.TcCoe Idealize.SL.Sem Cert.Head
open Idealize.ShloMosaic.Pipeline (Dat)
namespace Cert.Kernel13Ideal.Val
open Cert.Kernel13Ideal Cert.Kernel13Ideal.Gen

variable (m : (ℓ : Loc nD τ sig) → Buf (Elt Ideal) ℓ) (c : Dev nD)

/-- The kernel's arguments. -/
def args : Args where
  h i k := (m ((c : Thread nD τ).loc main_arg0) : FVec Ideal S4096x1024 .f32) (ix2 i k)
  p i k := (m ((c : Thread nD τ).loc main_arg1) : FVec Ideal S4096x256 .f32) (ix2 i k)
  t i k := (m ((c : Thread nD τ).loc main_arg2) : FVec Ideal S4096x1024 .f32) (ix2 i k)
  g k := (m ((c : Thread nD τ).loc main_arg3) : FVec Ideal S1x1024 .f32) (ix2 0 k)
  gf k := (m ((c : Thread nD τ).loc main_arg4) : FVec Ideal S1024 .f32) (ix1 k)
  wg k f := (m ((c : Thread nD τ).loc main_arg5) : FVec Ideal S1x1024x1024 .f32) (ix3 0 k f)
  wp k f := (m ((c : Thread nD τ).loc main_arg6) : FVec Ideal S1x256x1024 .f32) (ix3 0 k f)

/-- The number of a grid point. -/
abbrev num (t : Fin cfg0.N) : Fin 16 := ⟨t.val, lt_of_lt_of_eq t.isLt N_0⟩

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, _)

variable (t : Fin cfg0.N)

/-! ### The blocks of the arguments -/

theorem read_h (i : Fin 256) (k : Fin 1024) : (iblk m c 0 t : Vec Ideal S256x1024 .f32) (ix2 i k) = (args m c).h (row (num t) i) k := by
  pointwise [args]
  blk_point [iblk, V, idx t]

theorem read_p (i : Fin 256) (k : Fin 256) : (iblk m c 1 t : Vec Ideal S256x256 .f32) (ix2 i k) = (args m c).p (row (num t) i) k := by
  pointwise [args]
  blk_point [iblk, V, idx t]

theorem read_t (i : Fin 256) (k : Fin 1024) : (iblk m c 2 t : Vec Ideal S256x1024 .f32) (ix2 i k) = (args m c).t (row (num t) i) k := by
  pointwise [args]
  blk_point [iblk, V, idx t]

theorem read_g (k : Fin 1024) : (iblk m c 3 t : Vec Ideal S1x1024 .f32) (ix2 0 k) = (args m c).g k := by
  pointwise [args]
  blk_point [iblk, V, idx t]

theorem read_gf (k : Fin 1024) : (iblk m c 4 t : Vec Ideal S1x1024 .f32) (ix2 0 k) = (args m c).gf k := by
  pointwise [args]
  blk_point [iblk, V, idx t]

theorem read_wg (k f : Fin 1024) : (iblk m c 5 t : Vec Ideal S1024x1024 .bf16) (ix2 k f) = (args m c).wg k f := by
  pointwise [args]
  blk_point [iblk, V, idx t]

theorem read_wp (q : Fin 4) (o : ℕ) (e : o = q.val) (h) (k f : Fin 256) :
    (View.ld (iblk m c 6 t) (Rect.unit (s := S4x256x256) ![o, 0, 0] S1x256x256.size h) : Vec Ideal S1x256x256 .bf16) (ix3 0 k f) = (args m c).wp k (quart q f) := by
  subst e
  pointwise [args]
  blk_simp [iblk, idx t]
  entry_read
  pointwise
  blk_point [iblk, V, idx t]

/-! ### The values that a grid point carries -/

/-- The gate, as the point computes it. -/
abbrev gatePt : FVec Ideal S256x1024 .f32 := k0_pay6 (iblk m c 0 t) (iblk m c 3 t) (iblk m c 5 t)
/-- One block of the embeddings' matrix. -/
abbrev wpPt (o : ℕ) (h : ∀ a, (![o, 0, 0] : Fin 3 → ℕ) a + S1x256x256.size a ≤ S4x256x256.size a) : Vec Ideal S1x256x256 .bf16 := View.ld (iblk m c 6 t) (Rect.unit (s := S4x256x256) ![o, 0, 0] S1x256x256.size h)

theorem gate_pt (i : Fin 256) (k : Fin 1024) : gatePt m c t (ix2 i k) = (args m c).gate (row (num t) i) k :=
  gate_row (args m c) (num t) _ _ _ (read_h m c t) (read_g m c t) (read_wg m c t) i k

theorem pp_pt (h0 h1 h2 h3) (i : Fin 256) (k : Fin 1024) :
    k0_pay10 (k0_pay7 (iblk m c 1 t)) (k0_pay8 (iblk m c 1 t) (wpPt m c t 0 h0)) (k0_pay9 (iblk m c 1 t) (wpPt m c t 1 h1))
      (wpPt m c t 2 h2) (wpPt m c t 3 h3) (ix2 i k) = (args m c).pp (row (num t) i) k :=
  pp_row (args m c) (num t) _ _ _ _ _ (read_p m c t) (read_wp m c t 0 0 rfl _) (read_wp m c t 1 1 rfl _) (read_wp m c t 2 2 rfl _) (read_wp m c t 3 3 rfl _) i k

theorem err_pt (h0 h1 h2 h3) (i : Fin 256) (k : Fin 1024) :
    k0_pay14 (iblk m c 0 t) (gatePt m c t) (k0_pay7 (iblk m c 1 t)) (k0_pay8 (iblk m c 1 t) (wpPt m c t 0 h0)) (k0_pay9 (iblk m c 1 t) (wpPt m c t 1 h1))
      (wpPt m c t 2 h2) (wpPt m c t 3 h3) (iblk m c 4 t) (iblk m c 2 t) (ix2 i k) = (args m c).err (row (num t) i) k :=
  err_row (args m c) (num t) _ _ _ _ _ _ _ _ _ (read_h m c t) (gate_pt m c t) (pp_pt m c t _ _ _ _) (read_gf m c t) (read_t m c t) i k

theorem dh4_pt (h0 h1 h2 h3) (i : Fin 256) (k : Fin 1024) :
    k0_pay16 (iblk m c 0 t) (gatePt m c t) (k0_pay7 (iblk m c 1 t)) (k0_pay8 (iblk m c 1 t) (wpPt m c t 0 h0)) (k0_pay9 (iblk m c 1 t) (wpPt m c t 1 h1))
      (wpPt m c t 2 h2) (wpPt m c t 3 h3) (iblk m c 4 t) (iblk m c 2 t) (ix2 i k) = (args m c).dh4 (row (num t) i) k :=
  dh4_row (args m c) (num t) _ _ _ _ _ _ _ _ _ (read_h m c t) (gate_pt m c t) (pp_pt m c t _ _ _ _) (read_gf m c t) (read_t m c t) i k

theorem gf_pt (h0 h1 h2 h3) (i : Fin 256) (k : Fin 1024) :
    k0_pay17 (iblk m c 0 t) (gatePt m c t) (k0_pay7 (iblk m c 1 t)) (k0_pay8 (iblk m c 1 t) (wpPt m c t 0 h0)) (k0_pay9 (iblk m c 1 t) (wpPt m c t 1 h1))
      (wpPt m c t 2 h2) (wpPt m c t 3 h3) (iblk m c 4 t) (iblk m c 2 t) (ix2 i k) = (args m c).gfRow (row (num t) i) k :=
  gf_row (args m c) (num t) _ _ _ _ _ _ _ _ _ (read_h m c t) (gate_pt m c t) (pp_pt m c t _ _ _ _) (read_gf m c t) (read_t m c t) i k

/-! ### What a grid point leaves -/

theorem out10 (y : S256x1024.Idx) : (outsAt0 m c t.val t.isLt).2.2.2.1 y = (args m c).dh (row (num t) (y 0)) (y 1) := by
  have A := outsAt0_A m c t
  have B := outsAt0_B m c t
  by_cases e : t.val % 16 = 0
  on_goal 1 => rw [A e]
  on_goal 2 => rw [B e]
  all_goals
    frame_out
    clear A B e
    idx_vars y
    exact dh_row (args m c) (num t) _ _ _ _ _ _ _ (read_h m c t) (rstd_row (args m c) (num t) _ (read_h m c t)) (read_g m c t)
      (gate_pt m c t) (pp_pt m c t _ _ _ _) (dh4_pt m c t _ _ _ _) (read_wg m c t) y0 y1

theorem out11 (y : S256x1024.Idx) : (outsAt0 m c t.val t.isLt).2.2.2.2.1 y = (args m c).dz (row (num t) (y 0)) (y 1) := by
  have A := outsAt0_A m c t
  have B := outsAt0_B m c t
  by_cases e : t.val % 16 = 0
  on_goal 1 => rw [A e]
  on_goal 2 => rw [B e]
  all_goals
    frame_out
    clear A B e
    idx_vars y
    exact dz_row (args m c) (num t) _ _ _ (gate_pt m c t) (pp_pt m c t _ _ _ _) (dh4_pt m c t _ _ _ _) y0 y1

theorem out12 (y : S256x1024.Idx) : (outsAt0 m c t.val t.isLt).2.2.2.2.2.1 y = (args m c).dpp (row (num t) (y 0)) (y 1) := by
  have A := outsAt0_A m c t
  have B := outsAt0_B m c t
  by_cases e : t.val % 16 = 0
  on_goal 1 => rw [A e]
  on_goal 2 => rw [B e]
  all_goals
    frame_out
    clear A B e
    idx_vars y
    exact dpp_row (args m c) (num t) _ _ (gate_pt m c t) (dh4_pt m c t _ _ _ _) y0 y1

theorem out13 (y : S256x1024.Idx) : (outsAt0 m c t.val t.isLt).2.2.2.2.2.2.1 y = (args m c).n (row (num t) (y 0)) (y 1) := by
  have A := outsAt0_A m c t
  have B := outsAt0_B m c t
  by_cases e : t.val % 16 = 0
  on_goal 1 => rw [A e]
  on_goal 2 => rw [B e]
  all_goals
    frame_out
    clear A B e
    idx_vars y
    exact n_row (args m c) (num t) _ _ (read_h m c t) (read_g m c t) y0 y1

theorem out14 (y : S256x256.Idx) : (outsAt0 m c t.val t.isLt).2.2.2.2.2.2.2 y = (args m c).p (row (num t) (y 0)) (y 1) := by
  have A := outsAt0_A m c t
  have B := outsAt0_B m c t
  by_cases e : t.val % 16 = 0
  on_goal 1 => rw [A e]
  on_goal 2 => rw [B e]
  all_goals
    frame_out
    clear A B e
    idx_vars y
    exact read_p m c t y0 y1

/-- The part of a point's rows in the loss. -/
theorem part_pt (h0 h1 h2 h3) (b : FVec Ideal S1x128 .f32) (j : Fin 128) :
    k0_pay1 b (k0_pay27 (k0_pay14 (iblk m c 0 t) (gatePt m c t) (k0_pay7 (iblk m c 1 t)) (k0_pay8 (iblk m c 1 t) (wpPt m c t 0 h0))
      (k0_pay9 (iblk m c 1 t) (wpPt m c t 1 h1)) (wpPt m c t 2 h2) (wpPt m c t 3 h3) (iblk m c 4 t) (iblk m c 2 t))) (ix2 0 j)
      = b (ix2 0 j) + (args m c).part (num t) := by
  refine (entries_at _ _ _).trans (congrArg (_ + halfPerWidth * ·) (Finset.sum_congr rfl fun i _ => Finset.sum_congr rfl fun k _ => ?_))
  exact congrArg (fun e => e * e) (err_pt m c t h0 h1 h2 h3 i k)

theorem out7_A (e : t.val % 16 = 0) (j : Fin 128) : (outsAt0 m c t.val t.isLt).1 (ix2 0 j) = (args m c).part (num t) := by
  rw [outsAt0_A m c t e]
  frame_out
  refine (part_pt m c t _ _ _ _ _ j).trans ?_
  pointwise [k0_pay26, k0_pay23]

theorem out7_B (e : ¬ t.val % 16 = 0) (j : Fin 128) : (outsAt0 m c t.val t.isLt).1 (ix2 0 j)
    = (outsAt0 m c (t.val - 1) (by omega)).1 (ix2 0 j) + (args m c).part (num t) := by
  rw [outsAt0_B m c t e]
  frame_out
  refine (part_pt m c t _ _ _ _ _ j).trans ?_
  generalize (outsAt0 m c (t.val - 1) _).1 = X
  pointwise [k0_pay26]

/-- A point's part of the last norm's gain. -/
abbrev gfPart (k : Fin 1024) : EReal := ∑ i, (args m c).gfRow (row (num t) i) k
/-- A point's part of the gate's norm's gain. -/
abbrev gPart (k : Fin 1024) : EReal := ∑ i, (args m c).gRow (row (num t) i) k

theorem out8_A (e : t.val % 16 = 0) (k : Fin 1024) : (outsAt0 m c t.val t.isLt).2.1 (ix2 0 k) = gfPart m c t k := by
  rw [outsAt0_A m c t e]
  frame_out
  refine ((columns_at _ _ k).trans (congrArg (_ + ·) (Finset.sum_congr rfl fun i _ => gf_pt m c t _ _ _ _ i k))).trans ?_
  pointwise [k0_pay24]

theorem out8_B (e : ¬ t.val % 16 = 0) (k : Fin 1024) : (outsAt0 m c t.val t.isLt).2.1 (ix2 0 k)
    = (outsAt0 m c (t.val - 1) (by omega)).2.1 (ix2 0 k) + gfPart m c t k := by
  rw [outsAt0_B m c t e]
  frame_out
  exact (columns_at _ _ k).trans (congrArg (_ + ·) (Finset.sum_congr rfl fun i _ => gf_pt m c t _ _ _ _ i k))

theorem out9_A (e : t.val % 16 = 0) (k : Fin 1024) : (outsAt0 m c t.val t.isLt).2.2.1 (ix2 0 k) = gPart m c t k := by
  rw [outsAt0_A m c t e]
  frame_out
  refine ((columns_at _ _ k).trans (congrArg (_ + ·) (Finset.sum_congr rfl fun i _ =>
    g_row (args m c) (num t) _ _ _ _ _ _ (read_h m c t) (rstd_row (args m c) (num t) _ (read_h m c t))
      (gate_pt m c t) (pp_pt m c t _ _ _ _) (dh4_pt m c t _ _ _ _) (read_wg m c t) i k))).trans ?_
  pointwise [k0_pay25]

theorem out9_B (e : ¬ t.val % 16 = 0) (k : Fin 1024) : (outsAt0 m c t.val t.isLt).2.2.1 (ix2 0 k)
    = (outsAt0 m c (t.val - 1) (by omega)).2.2.1 (ix2 0 k) + gPart m c t k := by
  rw [outsAt0_B m c t e]
  frame_out
  exact (columns_at _ _ k).trans (congrArg (_ + ·) (Finset.sum_congr rfl fun i _ =>
    g_row (args m c) (num t) _ _ _ _ _ _ (read_h m c t) (rstd_row (args m c) (num t) _ (read_h m c t))
      (gate_pt m c t) (pp_pt m c t _ _ _ _) (dh4_pt m c t _ _ _ _) (read_wg m c t) i k))

/-! ### The arrays -/

theorem N : cfg0.N = 16 := N_0

theorem last : t0_15.val + 1 = cfg0.N := N.symm

/-- The gradient of the rows. -/
theorem arr10 : (dats m 0 c).arrAt 10 cfg0.N = (fun i => (args m c).dh (i 0) (i 1) : FVec Ideal S4096x1024 .f32) := by
  refine (dats m 0 c).arrAt_eq_of_covers 10 _ (by decide +kernel) fun t hf y => ?_
  blk_simp
  rw [after0_10]
  refine (out10 m c t _).trans ?_
  refine congrArg₂ (args m c).dh (Fin.ext ?_) (Fin.ext ?_) <;> blk_simp [idx t]
  exact congrArg (· + _) (Nat.mul_comm _ _)

/-- The gradient of the gate before its sigmoid. -/
theorem arr11 : (dats m 0 c).arrAt 11 cfg0.N = (fun i => (args m c).dz (i 0) (i 1) : FVec Ideal S4096x1024 .bf16) := by
  refine (dats m 0 c).arrAt_eq_of_covers 11 _ (by decide +kernel) fun t hf y => ?_
  blk_simp
  rw [after0_11]
  refine (out11 m c t _).trans ?_
  refine congrArg₂ (args m c).dz (Fin.ext ?_) (Fin.ext ?_) <;> blk_simp [idx t]
  exact congrArg (· + _) (Nat.mul_comm _ _)

/-- The gradient of the embeddings through their matrix. -/
theorem arr12 : (dats m 0 c).arrAt 12 cfg0.N = (fun i => (args m c).dpp (i 0) (i 1) : FVec Ideal S4096x1024 .bf16) := by
  refine (dats m 0 c).arrAt_eq_of_covers 12 _ (by decide +kernel) fun t hf y => ?_
  blk_simp
  rw [after0_12]
  refine (out12 m c t _).trans ?_
  refine congrArg₂ (args m c).dpp (Fin.ext ?_) (Fin.ext ?_) <;> blk_simp [idx t]
  exact congrArg (· + _) (Nat.mul_comm _ _)

/-- The normalized rows. -/
theorem arr13 : (dats m 0 c).arrAt 13 cfg0.N = (fun i => (args m c).n (i 0) (i 1) : FVec Ideal S4096x1024 .bf16) := by
  refine (dats m 0 c).arrAt_eq_of_covers 13 _ (by decide +kernel) fun t hf y => ?_
  blk_simp
  rw [after0_13]
  refine (out13 m c t _).trans ?_
  refine congrArg₂ (args m c).n (Fin.ext ?_) (Fin.ext ?_) <;> blk_simp [idx t]
  exact congrArg (· + _) (Nat.mul_comm _ _)

/-- The embeddings. -/
theorem arr14 : (dats m 0 c).arrAt 14 cfg0.N = (fun i => (args m c).p (i 0) (i 1) : FVec Ideal S4096x256 .bf16) := by
  refine (dats m 0 c).arrAt_eq_of_covers 14 _ (by decide +kernel) fun t hf y => ?_
  blk_simp
  rw [after0_14]
  refine (out14 m c t _).trans ?_
  refine congrArg₂ (args m c).p (Fin.ext ?_) (Fin.ext ?_) <;> blk_simp [idx t]
  exact congrArg (· + _) (Nat.mul_comm _ _)

/-- A sum over the blocks and the rows of each is the sum over the rows. -/
theorem sum_rows (f : Fin 4096 → EReal) : ∑ t : Fin cfg0.N, ∑ i : Fin 256, f (row (num t) i) = ∑ i, f i := by
  refine Fin.sum_mul_add_congr (S := cfg0.N) (fun t k hl => congrArg f (Fin.ext ?_)) (by rw [N])
  simp only; omega

/-- An index of one row is its column. -/
theorem one_row {n : ℕ} (j : (⟨2, ![1, n]⟩ : Shape).Idx) : ∃ k : Fin n, j = ix2 (0 : Fin 1) k :=
  ⟨j 1, funext fun a => by
    fin_cases a
    · exact Subsingleton.elim (α := Fin 1) _ _
    · rfl⟩

/-- The loss. -/
theorem arr7 : (dats m 0 c).arrAt 7 cfg0.N = (fun _ => (args m c).loss : FVec Ideal S1x128 .f32) := by
  refine (dats m 0 c).arrAt_eq_of_after_last 7 t0_15 (by decide +kernel) _ fun j => ?_
  blk_simp
  rw [after0_7]
  obtain ⟨k, rfl⟩ := one_row j
  refine (Pipeline.eq_sum_fin_of_reset_step_apply_last (M := EReal)
    (fun n h k => ((outsAt0 m c n h).1 : FVec Ideal S1x128 .f32) (ix2 0 k)) 16 (fun _ => 0)
    (fun t _ => (args m c).part (num t)) (fun t h y => (out7_A m c t h y).trans (zero_add _).symm)
    (fun t h y => out7_B m c t h y) (le_of_eq N_0) t0_15 last k).trans ?_
  rw [zero_add]
  exact Fintype.sum_equiv (finCongr N) _ _ fun _ => rfl

/-- The gradient of the last norm's gain. -/
theorem arr8 : (dats m 0 c).arrAt 8 cfg0.N = (fun i => (args m c).dgf (i 1) : FVec Ideal S1x1024 .f32) := by
  refine (dats m 0 c).arrAt_eq_of_after_last 8 t0_15 (by decide +kernel) _ fun j => ?_
  blk_simp
  rw [after0_8]
  obtain ⟨k, rfl⟩ := one_row j
  refine (Pipeline.eq_sum_fin_of_reset_step_apply_last (M := EReal)
    (fun n h k => ((outsAt0 m c n h).2.1 : FVec Ideal S1x1024 .f32) (ix2 0 k)) 16 (fun _ => 0)
    (fun t k => gfPart m c t k) (fun t h y => (out8_A m c t h y).trans (zero_add _).symm)
    (fun t h y => out8_B m c t h y) (le_of_eq N_0) t0_15 last k).trans ?_
  rw [zero_add]
  exact sum_rows fun i => (args m c).gfRow i k

/-- The gradient of the gate's norm's gain. -/
theorem arr9 : (dats m 0 c).arrAt 9 cfg0.N = (fun i => (args m c).dg (i 1) : FVec Ideal S1x1024 .f32) := by
  refine (dats m 0 c).arrAt_eq_of_after_last 9 t0_15 (by decide +kernel) _ fun j => ?_
  blk_simp
  rw [after0_9]
  obtain ⟨k, rfl⟩ := one_row j
  refine (Pipeline.eq_sum_fin_of_reset_step_apply_last (M := EReal)
    (fun n h k => ((outsAt0 m c n h).2.2.1 : FVec Ideal S1x1024 .f32) (ix2 0 k)) 16 (fun _ => 0)
    (fun t k => gPart m c t k) (fun t h y => (out9_A m c t h y).trans (zero_add _).symm)
    (fun t h y => out9_B m c t h y) (le_of_eq N_0) t0_15 last k).trans ?_
  rw [zero_add]
  exact sum_rows fun i => (args m c).gRow i k

end Cert.Kernel13Ideal.Val
end
-- ==== Proof.HeadNumbers.lean ====
module

public import proofs.«01_k».proof.Proof.HeadSpec
public import proofs.«01_k».proof.Proof.FfnNumbers
public import proofs.«01_k».proof.Proof.Finite
public import proofs.«01_k».proof.Pre_finite13
public import Idealize.ShloMosaic.Lib.Pointwise

/-! # The loss and its gradients on arguments that are real numbers -/

@[expose] public section

noncomputable section
open Idealize.ShloMosaic

namespace Cert.Head
open Cert.Gmlp (half negHalf IsReal half_val dnorm_eq rsqrt_real meanSq_real)
open Cert.Ffn (width sig width_val sig_real)

theorem perWidth_val : perWidth = ((1 / 1024 : ℝ) : EReal) := by
  simp [Ideal.ofBits, Ideal.ieee, -EReal.coe_mul]; norm_num
theorem halfPerWidth_val : halfPerWidth = ((1 / 2048 : ℝ) : EReal) := by
  simp [Ideal.ofBits, Ideal.ieee, -EReal.coe_mul]; norm_num
theorem two_val : Ideal.ofBits .f32 0x40000000#32 = ((2 : ℝ) : EReal) := by
  simp [Ideal.ofBits, Ideal.ieee, -EReal.coe_mul]; norm_num

/-- A real number over the width. -/
theorem over_width (a : ℝ) : Ideal.div (a : EReal) width = ((a * (1 / 1024) : ℝ) : EReal) := by
  rw [width_val, Ideal.div_coe (by norm_num)]
  first | rfl | (rw [← EReal.coe_mul]; norm_num)
theorem mean_real {x : EReal} (hx : IsReal x) : IsReal (Ideal.div x width) := by
  obtain ⟨a, rfl⟩ := hx; rw [over_width]; exact .coe _

section
variable {x e : Rows} (hx : ∀ i k, IsReal (x i k)) (i : Fin 4096)
include hx

theorem ms_real : ∃ M : ℝ, 0 < M ∧ ms x i = (M : EReal) := meanSq_real (hx i) width_val (by norm_num)
theorem rstd_real : IsReal (rstd x i) := by
  obtain ⟨M, hM, e⟩ := ms_real hx i
  unfold rstd; rw [e]; exact rsqrt_real hM

variable (he : ∀ i k, IsReal (e i k))
include he

theorem dot_real : IsReal (∑ k, e i k * x i k) := IsReal.sum _ fun k => (he i k).mul (hx i k)
theorem back_real (k : Fin 1024) : IsReal (back x e i k) :=
  have r := rstd_real hx i
  (r.mul (he i k)).sub (((hx i k).mul ((r.mul r).mul r)).mul (mean_real (dot_real hx i he)))

/-- The norm's derivative, as the reference writes it. -/
theorem back_eq (k : Fin 1024) :
    let E := Ideal.div ((∑ k, x i k * e i k) * (negHalf * Ideal.div (rstd x i) (ms x i))) width
    e i k * rstd x i + x i k * E + E * x i k = back x e i k := by
  obtain ⟨M, hM, eM⟩ := ms_real hx i
  have := dnorm_eq (hx i k) (he i k) (dot_real hx i he) hM width_val (by norm_num)
  rw [← eM] at this
  intro E
  have hE : E = Ideal.div ((∑ k, e i k * x i k) * (negHalf * Ideal.div (rstd x i) (ms x i))) width :=
    congrArg (fun s => Ideal.div (s * _) _) (Finset.sum_congr rfl fun k _ => mul_comm _ _)
  rw [hE]
  exact this
end

/-- Arguments whose entries are real numbers. -/
structure Args.Real (A : Args) : Prop where
  h : ∀ i k, IsReal (A.h i k)
  p : ∀ i k, IsReal (A.p i k)
  t : ∀ i k, IsReal (A.t i k)
  g : ∀ k, IsReal (A.g k)
  gf : ∀ k, IsReal (A.gf k)
  wg : ∀ k f, IsReal (A.wg k f)
  wp : ∀ k f, IsReal (A.wp k f)

namespace Args.Real
variable {A : Args} (H : A.Real) (i : Fin 4096) (k : Fin 1024)
include H

theorem z : IsReal (A.z i k) := IsReal.sum _ fun j => (((H.h i j).mul (rstd_real H.h i)).mul (H.g j)).mul (H.wg j k)
theorem gate : IsReal (A.gate i k) := sig_real (H.z i k)
theorem pp : IsReal (A.pp i k) := IsReal.sum _ fun j => (H.p i j).mul (H.wp j k)
theorem h4 : IsReal (A.h4 i k) := (H.h i k).add ((H.gate i k).mul (H.pp i k))
theorem err : IsReal (A.err i k) := (((H.h4 i k).mul (rstd_real H.h4 i)).mul (H.gf k)).sub (H.t i k)
theorem dy : IsReal (A.dy i k) := (H.err i k).mul (perWidth_val ▸ .coe _)
theorem dyg : IsReal (A.dyg i k) := (H.dy i k).mul (H.gf k)
theorem dh4 : IsReal (A.dh4 i k) := back_real H.h4 i H.dyg k
theorem dz : IsReal (A.dz i k) :=
  (((H.dh4 i k).mul (H.pp i k)).mul (H.gate i k)).mul (IsReal.sub ⟨1, rfl⟩ (H.gate i k))
theorem dn : IsReal (A.dn i k) := IsReal.sum _ fun f => (H.dz i f).mul (H.wg k f)
theorem dng : IsReal (A.dng i k) := (H.dn i k).mul (H.g k)

/-- The cotangent of the normalized rows, as the reference writes it. -/
theorem dy_eq : Ideal.div (half * 1) width * (Ideal.ofBits .f32 0x40000000#32 * A.err i k) = A.dy i k := by
  unfold Args.dy
  obtain ⟨a, ea⟩ := H.err i k
  rw [ea, mul_one, half_val, over_width, two_val, perWidth_val, ← EReal.coe_mul, ← EReal.coe_mul, ← EReal.coe_mul]
  exact congrArg _ (by ring)

/-- The gradient of the rows, as the reference writes it. -/
theorem dh_eq :
    let E := Ideal.div ((∑ k, A.h i k * A.dng i k) * (negHalf * Ideal.div (rstd A.h i) (ms A.h i))) width
    A.dh4 i k + A.dng i k * rstd A.h i + A.h i k * E + E * A.h i k = A.dh i k := by
  intro E
  exact Eq.trans (by simp only [add_assoc]; rfl) (congrArg (A.dh4 i k + ·) (back_eq H.h i H.dng k))

omit i k in
/-- The loss, as the reference writes it. -/
theorem loss_eq : half * ∑ i, Ideal.div (∑ k, A.err i k * A.err i k) width = A.loss := by
  choose e he using H.err
  have hs : ∀ i, ∑ k, A.err i k * A.err i k = ((∑ k, e i k * e i k : ℝ) : EReal) := fun i => by
    rw [Finset.sum_congr rfl fun k _ => (by rw [he i k, ← EReal.coe_mul] : A.err i k * A.err i k = ((e i k * e i k : ℝ) : EReal))]
    exact (map_sum (⟨⟨Real.toEReal, rfl⟩, EReal.coe_add⟩ : ℝ →+ EReal) _ _).symm
  have hr : ∑ i : Fin 4096, (∑ k, e i k * e i k) = ∑ t : Fin 16, ∑ i : Fin 256, ∑ k, e (row t i) k * e (row t i) k := by
    refine (Fin.sum_mul_add_congr (S := 16) (n := 256) (fun t k hl => ?_) (by norm_num)).symm
    have : row t k = ⟨_, hl⟩ := Fin.ext (by simp only; omega)
    rw [this]
  unfold Args.loss Args.part
  simp only [hs, over_width, halfPerWidth_val, half_val]
  have cs : ∀ {n : ℕ} (f : Fin n → ℝ), ∑ i, ((f i : ℝ) : EReal) = ((∑ i, f i : ℝ) : EReal) := fun f =>
    (map_sum (⟨⟨Real.toEReal, rfl⟩, EReal.coe_add⟩ : ℝ →+ EReal) _ _).symm
  simp only [cs, ← EReal.coe_mul]
  rw [← Finset.sum_mul, hr, ← Finset.mul_sum]
  exact congrArg _ (by ring)

end Args.Real
end Cert.Head

namespace Cert.Pre_finite13
open Cert.Gmlp Facts

/-- The shape relations the precondition's operations take. -/
theorem facts : Facts where
  bcast_S_S4096x1024 := by decide
  reducesTo_S4096x1024_S_d0_1 := by decide
  h_S_ := by decide
  bcast_S_S4096x256 := by decide
  reducesTo_S4096x256_S_d0_1 := by decide
  bcast_S_S1x1024 := by decide
  reducesTo_S1x1024_S_d0_1 := by decide
  bcast_S_S1024 := by decide
  reducesTo_S1024_S_d0 := by decide
  bcast_S_S1x1024x1024 := by decide
  reducesTo_S1x1024x1024_S_d0_1_2 := by decide
  bcast_S_S1x256x1024 := by decide
  reducesTo_S1x256x1024_S_d0_1_2 := by decide

variable [Facts] {x0 x2 : FVec Ideal S4096x1024 .f32} {x1 : FVec Ideal S4096x256 .f32} {x3 : FVec Ideal S1x1024 .f32}
    {x4 : FVec Ideal S1024 .f32} {x5 : FVec Ideal S1x1024x1024 .f32} {x6 : FVec Ideal S1x256x1024 .f32}

/-- What the precondition says: every entry of the arguments is a real number. -/
theorem real (h : fn x0 x1 x2 x3 x4 x5 x6 = fun _ => 1#1) : (∀ i, IsReal (x0 i)) ∧ (∀ i, IsReal (x1 i)) ∧ (∀ i, IsReal (x2 i))
    ∧ (∀ i, IsReal (x3 i)) ∧ (∀ i, IsReal (x4 i)) ∧ (∀ i, IsReal (x5 i)) ∧ (∀ i, IsReal (x6 i)) := by
  obtain ⟨h, e6⟩ := IntOp.andi_eq_one.1 (congrFun h fun k => k.elim0)
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  exact ⟨Cert.Pre_finite.real_of_all x0 _ _ _ e0, Cert.Pre_finite.real_of_all x1 _ _ _ e1, Cert.Pre_finite.real_of_all x2 _ _ _ e2,
    Cert.Pre_finite.real_of_all x3 _ _ _ e3, Cert.Pre_finite.real_of_all x4 _ _ _ e4, Cert.Pre_finite.real_of_all x5 _ _ _ e5,
    Cert.Pre_finite.real_of_all x6 _ _ _ e6⟩

end Cert.Pre_finite13
end
-- ==== Proof.HeadRef.lean ====
module

public import proofs.«01_k».proof.Proof.Gen.Reference13Ideal.Run
public import proofs.«01_k».proof.Proof.FfnGradRef
public import proofs.«01_k».proof.Proof.MixInRef
public import proofs.«01_k».proof.Proof.HeadNumbers

/-! # The loss and its gradients: the reference's results

The norm and its derivative take the stages of the programs before. -/

@[expose] public section

set_option maxRecDepth 16384

noncomputable section
open Idealize.ShloMosaic Idealize.ShloMosaic.TcCoe Idealize.SL.Sem Idealize.ShloMosaic.StableHlo Cert.Head
namespace Cert.Reference13Ideal.Stage
open Cert.Reference13Ideal Cert.Reference13Ideal.Gen Cert.Reference13Ideal.Value
open Cert.Gmlp (IsReal half negHalf)
open Cert.Ffn (width)
open Cert.Reference5Ideal.Stage (meanSq meanSq_at)
open Cert.Reference9Ideal.Stage (gain normed gain_at)
open Cert.Reference2Ideal.Stage (wide dmean dgain dmean_at dgain_at)

abbrev Mat := FVec Ideal S4096x1024 .f32

/-- One constant on every entry. -/
def fill (w : BitVec 32) : Mat := broadcastInDim S4096x1024 ![] bcast_S_S4096x1024 (constant S_ .f32 w)
/-- The gate, from what its sigmoid takes. -/
def logi (x : Mat) : Mat := Host.divf (fill 0x3F800000#32) (addf (fill 0x3F800000#32) (Host.exp (Host.negf x)))
/-- The rows through the gate's matrix. -/
def pre (n : Mat) (w : FVec Ideal S1x1024x1024 .f32) : Mat :=
  Host.dotGeneral dot_S4096x1024_S1024x1024_S4096x1024_1_0_0_1_n_n none n (shapeCast S1024x1024 w shapeCasts_S1x1024x1024_S1024x1024)
/-- The embeddings through theirs. -/
def proj (p : FVec Ideal S4096x256 .f32) (w : FVec Ideal S1x256x1024 .f32) : Mat :=
  Host.dotGeneral dot_S4096x256_S256x1024_S4096x1024_1_0_0_1_n_n none p (shapeCast S256x1024 w shapeCasts_S1x256x1024_S256x1024)
/-- The last norm's gain on every row. -/
def last (g : FVec Ideal S1024 .f32) : Mat :=
  broadcastInDim S4096x1024 ![0, 1] bcast_S1x1024_S4096x1024_0_1 (broadcastInDim S1x1024 ![1] bcast_S1024_S1x1024_1 g)
/-- The rows over their mean square's root. -/
def unit (x : Mat) : Mat := mulf x (wide (Host.rsqrt (meanSq x)))
/-- The cotangent of the mean of squares, on every entry. -/
def seed : Mat :=
  broadcastInDim S4096x1024 ![0] bcast_S4096_S4096x1024_0 (Host.divf (broadcastInDim S4096 ![] bcast_S_S4096
    (mulf (constant S_ .f32 0x3F000000#32) (constant S_ .f32 0x3F800000#32))) (broadcastInDim S4096 ![] bcast_S_S4096 (constant S_ .f32 0x44800000#32)))
/-- The norm's derivative, `v` being the cotangent of the rows before the gain. -/
def dnorm (x v : Mat) : Mat := addf (addf (mulf v (wide (Host.rsqrt (meanSq x)))) (mulf x (dmean x v))) (mulf (dmean x v) x)
/-- The derivative of the gate's product, in the normalized rows. -/
def dpre (e : Mat) (w : FVec Ideal S1x1024x1024 .f32) : Mat :=
  Host.dotGeneral dot_S4096x1024_S1024x1024_S4096x1024_1_1_0_0_n_n none e (shapeCast S1024x1024 w shapeCasts_S1x1024x1024_S1024x1024)
/-- The loss of the differences. -/
def cost (e : Mat) : FVec Ideal S1x128 .f32 :=
  broadcastInDim S1x128 ![] bcast_S_S1x128 (mulf (constant S_ .f32 0x3F000000#32) (Host.reduceAdd (Host.divf
    (Host.reduceAdd (mulf e e) (constant S_ .f32 0x00000000#32) reducesTo_S4096x1024_S4096_d1 h_S_)
    (broadcastInDim S4096 ![] bcast_S_S4096 (constant S_ .f32 0x44800000#32))) (constant S_ .f32 0x00000000#32) reducesTo_S4096_S_d0 h_S_))

variable (h : Mat) (p : FVec Ideal S4096x256 .f32) (t : Mat) (g : FVec Ideal S1x1024 .f32) (gf : FVec Ideal S1024 .f32)
  (wg : FVec Ideal S1x1024x1024 .f32) (wp : FVec Ideal S1x256x1024 .f32)

/-- The stages at the arguments, each named as its formula. -/
def gate : Mat := logi (pre (normed h g) wg)
@[inherit_doc gate] def h4 : Mat := addf h (mulf (gate h g wg) (proj p wp))
@[inherit_doc gate] def err : Mat := subf (mulf (unit (h4 h p g wg wp)) (last gf)) t
@[inherit_doc gate] def dy : Mat := mulf seed (mulf (fill 0x40000000#32) (err h p t g gf wg wp))
@[inherit_doc gate] def dh4 : Mat := dnorm (h4 h p g wg wp) (mulf (dy h p t g gf wg wp) (last gf))
@[inherit_doc gate] def dz : Mat :=
  mulf (mulf (dh4 h p t g gf wg wp) (proj p wp)) (mulf (gate h g wg) (subf (fill 0x3F800000#32) (gate h g wg)))
@[inherit_doc gate] def dpp : Mat := mulf (gate h g wg) (dh4 h p t g gf wg wp)
@[inherit_doc gate] def dn : Mat := dpre (dz h p t g gf wg wp) wg
@[inherit_doc gate] def dng : Mat := mulf (dn h p t g gf wg wp) (gain g)
@[inherit_doc gate] def dh : Mat :=
  addf (addf (addf (dh4 h p t g gf wg wp) (mulf (dng h p t g gf wg wp) (wide (Host.rsqrt (meanSq h)))))
    (mulf h (dmean h (dng h p t g gf wg wp)))) (mulf (dmean h (dng h p t g gf wg wp)) h)

/-! ### The program's results are the stages -/

section
variable (m : (ℓ : Loc nD τ sig) → Buf (Elt Ideal) ℓ) (c : Dev nD)

/-- The arguments on a device. -/
abbrev a0 : Mat := m (c.tc.loc main_arg0)
@[inherit_doc a0] abbrev a1 : FVec Ideal S4096x256 .f32 := m (c.tc.loc main_arg1)
@[inherit_doc a0] abbrev a2 : Mat := m (c.tc.loc main_arg2)
@[inherit_doc a0] abbrev a3 : FVec Ideal S1x1024 .f32 := m (c.tc.loc main_arg3)
@[inherit_doc a0] abbrev a4 : FVec Ideal S1024 .f32 := m (c.tc.loc main_arg4)
@[inherit_doc a0] abbrev a5 : FVec Ideal S1x1024x1024 .f32 := m (c.tc.loc main_arg5)
@[inherit_doc a0] abbrev a6 : FVec Ideal S1x256x1024 .f32 := m (c.tc.loc main_arg6)

theorem v24_eq : res_main_v24 (launchContents m c) = gate (a0 m c) (a3 m c) (a5 m c) := rfl
theorem v31_eq : res_main_v31 (launchContents m c) = h4 (a0 m c) (a1 m c) (a3 m c) (a5 m c) (a6 m c) := rfl
theorem v48_eq : res_main_v48 (launchContents m c) = err (a0 m c) (a1 m c) (a2 m c) (a3 m c) (a4 m c) (a5 m c) (a6 m c) := rfl
theorem v62_eq : res_main_v62 (launchContents m c) = dy (a0 m c) (a1 m c) (a2 m c) (a3 m c) (a4 m c) (a5 m c) (a6 m c) := rfl
theorem v82_eq : res_main_v82 (launchContents m c) = dh4 (a0 m c) (a1 m c) (a2 m c) (a3 m c) (a4 m c) (a5 m c) (a6 m c) := rfl
theorem v85_eq : res_main_v85 (launchContents m c) = dn (a0 m c) (a1 m c) (a2 m c) (a3 m c) (a4 m c) (a5 m c) (a6 m c) := rfl
theorem v90_eq : res_main_v90 (launchContents m c) = dng (a0 m c) (a1 m c) (a2 m c) (a3 m c) (a4 m c) (a5 m c) (a6 m c) := rfl
theorem v102_eq : res_main_v102 (launchContents m c) = dmean (a0 m c) (dng (a0 m c) (a1 m c) (a2 m c) (a3 m c) (a4 m c) (a5 m c) (a6 m c)) := rfl
/-- The program computes these stages a second time. -/
theorem v183_eq : res_main_v183 (launchContents m c) = dh4 (a0 m c) (a1 m c) (a2 m c) (a3 m c) (a4 m c) (a5 m c) (a6 m c) := rfl
@[inherit_doc v183_eq] theorem v131_eq : res_main_v131 (launchContents m c) = gate (a0 m c) (a3 m c) (a5 m c) := rfl
@[inherit_doc v183_eq] theorem v125_eq : res_main_v125 (launchContents m c) = proj (a1 m c) (a6 m c) := rfl
@[inherit_doc v183_eq] theorem v121_eq : res_main_v121 (launchContents m c) = normed (a0 m c) (a3 m c) := rfl
end

/-- The reference's arguments. -/
def args : Args where
  h i k := h (ix2 i k)
  p i k := p (ix2 i k)
  t i k := t (ix2 i k)
  g k := g (ix2 0 k)
  gf k := gf (ix1 k)
  wg k f := wg (ix3 0 k f)
  wp k f := wp (ix3 0 k f)

variable (i : Fin 4096) (k : Fin 1024)

/-! ### Entries of the stages -/

theorem logi_at (x : Mat) : logi x (ix2 i k) = Cert.Ffn.sig (x (ix2 i k)) := by
  pointwise [logi, fill]
  rfl
theorem pre_at (n : Mat) : pre n wg (ix2 i k) = ∑ j : Fin 1024, n (ix2 i j) * wg (ix3 0 j k) := by
  pointwise [pre]
theorem proj_at : proj p wp (ix2 i k) = ∑ j : Fin 256, p (ix2 i j) * wp (ix3 0 j k) := by
  pointwise [proj]
theorem last_at : last gf (ix2 i k) = gf (ix1 k) := by
  pointwise [last]
theorem unit_at (x : Mat) : unit x (ix2 i k) = x (ix2 i k) * Ideal.rsqrt (meanSq x (ix2 i 0)) := by
  pointwise [unit]
theorem seed_at : seed (ix2 i k) = Ideal.div (half * 1) width := by
  pointwise [seed]
theorem dpre_at (e : Mat) : dpre e wg (ix2 i k) = ∑ f : Fin 1024, e (ix2 i f) * wg (ix3 0 k f) := by
  pointwise [dpre]
theorem cost_at (e : Mat) (j : Fin 128) : cost e (ix2 0 j) = half * ∑ i : Fin 4096, Ideal.div (∑ k : Fin 1024, e (ix2 i k) * e (ix2 i k)) width := by
  pointwise [cost]

/-- Rows by entries. -/
abbrev rows (x : Mat) : Rows := fun i k => x (ix2 i k)

theorem ms_at (x : Mat) : meanSq x (ix2 i 0) = ms (rows x) i := meanSq_at x i

theorem mean_at (x v : Mat) : dmean x v (ix2 i k)
    = Ideal.div ((∑ k, rows x i k * rows v i k) * (negHalf * Ideal.div (rstd (rows x) i) (ms (rows x) i))) width := by
  rw [dmean_at, ms_at]; rfl

theorem dnorm_at (x v : Mat) (hx : ∀ i k, IsReal (x (ix2 i k))) (hv : ∀ i k, IsReal (v (ix2 i k))) :
    dnorm x v (ix2 i k) = back (rows x) (rows v) i k := by
  have e : dnorm x v (ix2 i k) = v (ix2 i k) * Ideal.rsqrt (meanSq x (ix2 i 0)) + x (ix2 i k) * dmean x v (ix2 i k) + dmean x v (ix2 i k) * x (ix2 i k) := by
    pointwise [dnorm]
  rw [e, mean_at, ms_at]
  exact back_eq hx i hv k

/-! ### The stages are the formulas -/

theorem gate_eq : gate h g wg (ix2 i k) = (args h p t g gf wg wp).gate i k := by
  unfold gate
  rw [logi_at, pre_at]
  exact congrArg Cert.Ffn.sig (Finset.sum_congr rfl fun j _ => congrArg (· * _) (Cert.Reference9Ideal.Stage.normed_at h g (fun _ => 0) i j))

theorem pp_eq : proj p wp (ix2 i k) = (args h p t g gf wg wp).pp i k := proj_at p wp i k

theorem h4_eq : h4 h p g wg wp (ix2 i k) = (args h p t g gf wg wp).h4 i k :=
  congrArg (h (ix2 i k) + ·) (congrArg₂ (· * ·) (gate_eq h p t g gf wg wp i k) (pp_eq h p t g gf wg wp i k))

theorem h4_rows : rows (h4 h p g wg wp) = (args h p t g gf wg wp).h4 := funext fun i => funext fun k => h4_eq h p t g gf wg wp i k

theorem err_eq : err h p t g gf wg wp (ix2 i k) = (args h p t g gf wg wp).err i k := by
  show unit _ _ * last gf _ - t _ = _
  rw [unit_at, last_at, ms_at, h4_rows h p t g gf wg wp, h4_eq h p t g gf wg wp]
  rfl

variable {h p t g gf wg wp} (H : (args h p t g gf wg wp).Real)
include H

theorem dy_eq : dy h p t g gf wg wp (ix2 i k) = (args h p t g gf wg wp).dy i k := by
  refine Eq.trans ?_ (H.dy_eq i k)
  rw [← err_eq h p t g gf wg wp, ← seed_at i k]
  pointwise [dy, fill]

theorem dyg_eq : mulf (dy h p t g gf wg wp) (last gf) (ix2 i k) = (args h p t g gf wg wp).dyg i k :=
  congrArg₂ (· * ·) (dy_eq i k H) (last_at gf i k)

theorem dyg_rows : rows (mulf (dy h p t g gf wg wp) (last gf)) = (args h p t g gf wg wp).dyg := funext fun i => funext fun k => dyg_eq i k H

theorem dh4_eq : dh4 h p t g gf wg wp (ix2 i k) = (args h p t g gf wg wp).dh4 i k := by
  unfold dh4
  rw [dnorm_at, h4_rows h p t g gf wg wp, dyg_rows H]
  · rfl
  · intro i k; rw [h4_eq h p t g gf wg wp]; exact H.h4 i k
  · intro i k; rw [dyg_eq i k H]; exact H.dyg i k

theorem dz_eq : dz h p t g gf wg wp (ix2 i k) = (args h p t g gf wg wp).dz i k := by
  have e : dz h p t g gf wg wp (ix2 i k)
      = dh4 h p t g gf wg wp (ix2 i k) * proj p wp (ix2 i k) * (gate h g wg (ix2 i k) * (1 - gate h g wg (ix2 i k))) := by
    unfold dz
    generalize dh4 h p t g gf wg wp = X
    generalize proj p wp = Y
    generalize gate h g wg = Z
    pointwise [fill]
  rw [e, dh4_eq i k H, pp_eq h p t g gf wg wp, gate_eq h p t g gf wg wp, ← mul_assoc]
  rfl

theorem dpp_eq : dpp h p t g gf wg wp (ix2 i k) = (args h p t g gf wg wp).dpp i k :=
  (congrArg₂ (· * ·) (gate_eq h p t g gf wg wp i k) (dh4_eq i k H)).trans (mul_comm _ _)

theorem dn_eq : dn h p t g gf wg wp (ix2 i k) = (args h p t g gf wg wp).dn i k :=
  (dpre_at wg i k _).trans (Finset.sum_congr rfl fun f _ => congrArg (· * _) (dz_eq i f H))

theorem dng_eq : dng h p t g gf wg wp (ix2 i k) = (args h p t g gf wg wp).dng i k :=
  congrArg₂ (· * ·) (dn_eq i k H) (gain_at g i k)

theorem dng_rows : rows (dng h p t g gf wg wp) = (args h p t g gf wg wp).dng := funext fun i => funext fun k => dng_eq i k H

theorem dh_eq : dh h p t g gf wg wp (ix2 i k) = (args h p t g gf wg wp).dh i k := by
  have e : dh h p t g gf wg wp (ix2 i k) = dh4 h p t g gf wg wp (ix2 i k) + dng h p t g gf wg wp (ix2 i k) * Ideal.rsqrt (meanSq h (ix2 i 0))
      + h (ix2 i k) * dmean h (dng h p t g gf wg wp) (ix2 i k) + dmean h (dng h p t g gf wg wp) (ix2 i k) * h (ix2 i k) := by
    unfold dh
    generalize dh4 h p t g gf wg wp = X
    generalize dng h p t g gf wg wp = Y
    pointwise
  rw [e, mean_at, dng_rows H, ms_at, dh4_eq i k H, dng_eq i k H]
  exact H.dh_eq i k

/-! ### The results as arrays -/

theorem loss_array : cost (err h p t g gf wg wp) = fun _ => (args h p t g gf wg wp).loss := by
  funext j; idx_vars j; obtain rfl : j0 = 0 := Subsingleton.elim _ _
  rw [cost_at]
  refine Eq.trans ?_ H.loss_eq
  simp only [err_eq]

theorem dgf_array : dgain (h4 h p g wg wp) (dy h p t g gf wg wp) = fun i => (args h p t g gf wg wp).dgf (i 1) := by
  funext j; idx_vars j; obtain rfl : j0 = 0 := Subsingleton.elim _ _
  rw [dgain_at]
  refine Finset.sum_congr rfl fun i _ => ?_
  rw [ms_at, h4_rows h p t g gf wg wp, h4_eq h p t g gf wg wp, dy_eq i j1 H, mul_comm, ← mul_assoc]
  rfl

theorem dg_array : dgain h (dn h p t g gf wg wp) = fun i => (args h p t g gf wg wp).dg (i 1) := by
  funext j; idx_vars j; obtain rfl : j0 = 0 := Subsingleton.elim _ _
  rw [dgain_at]
  refine Finset.sum_congr rfl fun i _ => ?_
  rw [ms_at, dn_eq i j1 H, mul_comm, ← mul_assoc]
  rfl

theorem dh_array : dh h p t g gf wg wp = fun i => (args h p t g gf wg wp).dh (i 0) (i 1) := by
  funext i; idx_vars i; exact dh_eq i0 i1 H

theorem dz_array : (truncf .bf16 (dz h p t g gf wg wp) bitsLt_bf16_f32 : FVec Ideal S4096x1024 .bf16)
    = fun i => (args h p t g gf wg wp).dz (i 0) (i 1) := by
  funext i; idx_vars i; exact dz_eq i0 i1 H

theorem dpp_array : (truncf .bf16 (dpp h p t g gf wg wp) bitsLt_bf16_f32 : FVec Ideal S4096x1024 .bf16)
    = fun i => (args h p t g gf wg wp).dpp (i 0) (i 1) := by
  funext i; idx_vars i; exact dpp_eq i0 i1 H

omit H in
theorem n_array (h p t g gf wg wp) : (truncf .bf16 (normed h g) bitsLt_bf16_f32 : FVec Ideal S4096x1024 .bf16)
    = fun i => (args h p t g gf wg wp).n (i 0) (i 1) := by
  funext i; idx_vars i; exact Cert.Reference9Ideal.Stage.normed_at h g (fun _ => 0) i0 i1

omit H in
theorem p_array (h p t g gf wg wp) : (truncf .bf16 p bitsLt_bf16_f32 : FVec Ideal S4096x256 .bf16)
    = fun i => (args h p t g gf wg wp).p (i 0) (i 1) := by
  funext i; idx_vars i; rfl

end Cert.Reference13Ideal.Stage
end
-- ==== Proof.PleGate.lean ====
module

public import proofs.«01_k».proof.Proof.Gen.Kernel14Ideal.Value
public import proofs.«01_k».proof.Proof.Gen.Reference14Ideal.Run
public import Idealize.ShloMosaic.Lib.Pointwise
public import Idealize.ShloMosaic.Lib.Pipeline.ValueKit
public import Idealize.ShloMosaic.Lib.Pipeline.ReadBack

/-! # The gradient of the gate's matrix: the kernel's arrays and the reference's

A grid point takes 256 columns of the left rows, over all tokens, and leaves as many rows of the gradient. -/

@[expose] public section

set_option maxRecDepth 16384

noncomputable section
open Idealize.ShloMosaic Idealize.ShloMosaic.TcCoe Idealize.SL.Sem
open Idealize.ShloMosaic.Pipeline (Dat)

namespace Cert.Kernel14Ideal.Val
open Cert.Kernel14Ideal Cert.Kernel14Ideal.Gen

theorem product_at (x : Vec Ideal S4096x256 .bf16) (y : Vec Ideal S4096x1024 .bf16) (a : Fin 256) (b : Fin 1024) :
    k0_pay1 x y (ix2 a b) = ∑ p : Fin 4096, x (ix2 p a) * y (ix2 p b) := by
  pointwise [k0_pay1]

theorem rounded_at (x : Vec Ideal S256x1024 .f32) (a : Fin 256) (b : Fin 1024) : k0_pay3 x (ix2 a b) = x (ix2 a b) := by
  pointwise [k0_pay3]

variable (m : (ℓ : Loc nD τ sig) → Buf (Elt Ideal) ℓ) (c : Dev nD) (t : Fin cfg0.N)

/-- The normalized rows. -/
def left (i : Fin 4096) (a : Fin 1024) : EReal := (m ((c : Thread nD τ).loc main_arg0) : FVec Ideal S4096x1024 .bf16) (ix2 i a)
/-- The cotangent of the gate before its sigmoid. -/
def right (i : Fin 4096) (b : Fin 1024) : EReal := (m ((c : Thread nD τ).loc main_arg1) : FVec Ideal S4096x1024 .bf16) (ix2 i b)
/-- The gradient. -/
def grad (a b : Fin 1024) : EReal := ∑ i, left m c i a * right m c i b

/-- A row of the part that the point writes. -/
abbrev place (a : Fin 256) : Fin 1024 := ⟨t.val * 256 + a.val, by have := lt_of_lt_of_eq t.isLt N_0; omega⟩

theorem idx : ∀ t : Fin cfg0.N, win0_0.index t = ![0, t.val] ∧ win0_1.index t = ![0, 0] ∧ win0_2.index t = ![t.val, 0] ∧ win0_3.index t = ![t.val, 0] :=
  (by decide +kernel : ∀ t : Fin grid0.N, _)

theorem left_at (p : Fin 4096) (a : Fin 256) : (iblk m c 0 t : Vec Ideal S4096x256 .bf16) (ix2 p a) = left m c p (place t a) := by
  pointwise [left]
  blk_point [iblk, V, idx t]

theorem right_at (p : Fin 4096) (b : Fin 1024) : (iblk m c 1 t : Vec Ideal S4096x1024 .bf16) (ix2 p b) = right m c p b := by
  pointwise [right]
  blk_point [iblk, V, idx t]

theorem stored : (outsAt0 m c t).1 = k0_pay1 (iblk m c 0 t : Vec Ideal S4096x256 .bf16) (iblk m c 1 t : Vec Ideal S4096x1024 .bf16) := by
  unfold outsAt0
  frame_out

theorem stored_rounded : (outsAt0 m c t).2 = k0_pay3 (outsAt0 m c t).1 := by
  unfold outsAt0
  frame_out

theorem stored_at (a : Fin 256) (b : Fin 1024) : (outsAt0 m c t).1 (ix2 a b) = grad m c (place t a) b :=
  (congrFun (stored m c t) _).trans ((product_at _ _ a b).trans
    (Finset.sum_congr rfl fun p _ => congrArg₂ (· * ·) (left_at m c t p a) (right_at m c t p b)))

/-- The gradient. -/
theorem arr2 : (dats m 0 c).arrAt 2 cfg0.N = (fun i => grad m c (i 0) (i 1) : FVec Ideal S1024x1024 .f32) := by
  refine (dats m 0 c).arrAt_eq_of_covers 2 _ (by decide +kernel) fun t hf y => ?_
  blk_simp
  rw [after0_2]
  idx_vars y
  refine (stored_at m c t y0 y1).trans ?_
  refine congrArg₂ (grad m c) (Fin.ext ?_) (Fin.ext ?_) <;> blk_simp [idx t]

/-- The gradient, rounded. -/
theorem arr3 : (dats m 0 c).arrAt 3 cfg0.N = (fun i => grad m c (i 0) (i 1) : FVec Ideal S1024x1024 .bf16) := by
  refine (dats m 0 c).arrAt_eq_of_covers 3 _ (by decide +kernel) fun t hf y => ?_
  blk_simp
  rw [after0_3, stored_rounded]
  idx_vars y
  refine (rounded_at _ y0 y1).trans ((stored_at m c t y0 y1).trans ?_)
  refine congrArg₂ (grad m c) (Fin.ext ?_) (Fin.ext ?_) <;> blk_simp [idx t]

end Cert.Kernel14Ideal.Val

namespace Cert.Reference14Ideal.Stage
open Cert.Reference14Ideal Cert.Reference14Ideal.Gen

variable (a0 a1 : FVec Ideal S4096x1024 .bf16)

/-- The derivative of the product in its right factor, at the cotangent. -/
def grad : FVec Ideal S1024x1024 .f32 :=
  transpose S1024x1024 [1, 0] (Host.dotGeneral dot_S4096x1024_S4096x1024_S1024x1024_0_0_1_1_n_n none
    (extf .f32 a1 bitsLt_bf16_f32) (extf .f32 a0 bitsLt_bf16_f32)) transposes_S1024x1024_S1024x1024_1_0

theorem grad_array : grad a0 a1 = fun i => ∑ k : Fin 4096, (a0 (ix2 k (i 0)) : EReal) * a1 (ix2 k (i 1)) := by
  funext i
  idx_vars i
  pointwise [grad]
  exact Finset.sum_congr rfl fun _ _ => mul_comm _ _

theorem rounded_array : truncf .bf16 (grad a0 a1) bitsLt_bf16_f32
    = (fun i => ∑ k : Fin 4096, (a0 (ix2 k (i 0)) : EReal) * a1 (ix2 k (i 1)) : FVec Ideal S1024x1024 .bf16) :=
  grad_array a0 a1

end Cert.Reference14Ideal.Stage
end
-- ==== Proof.PleProj.lean ====
module

public import proofs.«01_k».proof.Proof.HeadSpec
public import proofs.«01_k».proof.Proof.Gen.Kernel15Ideal.Value
public import proofs.«01_k».proof.Proof.Gen.Reference15Ideal.Run
public import Idealize.ShloMosaic.Lib.Pipeline.ValueKit
public import Idealize.ShloMosaic.Lib.Pipeline.ReadBack

/-! # The gradient of the embeddings' matrix: the kernel's arrays and the reference's

One grid point per quarter of the matrix's columns, each quarter a block of the result. -/

@[expose] public section

set_option maxRecDepth 16384

noncomputable section
open Idealize.ShloMosaic Idealize.ShloMosaic.TcCoe Idealize.SL.Sem
open Idealize.ShloMosaic.Pipeline (Dat)
open Cert.Head (quart)

namespace Cert.Kernel15Ideal.Val
open Cert.Kernel15Ideal Cert.Kernel15Ideal.Gen

theorem product_at (x : Vec Ideal S4096x256 .bf16) (y : Vec Ideal S4096x256 .bf16) (a : Fin 256) (b : Fin 256) :
    k0_pay1 x y (ix3 0 a b) = ∑ p : Fin 4096, x (ix2 p a) * y (ix2 p b) := by
  pointwise [k0_pay1]

theorem rounded_at (x : Vec Ideal S1x256x256 .f32) (a : Fin 256) (b : Fin 256) : k0_pay3 x (ix3 0 a b) = x (ix3 0 a b) := by
  pointwise [k0_pay3]

variable (m : (ℓ : Loc nD τ sig) → Buf (Elt Ideal) ℓ) (c : Dev nD) (t : Fin cfg0.N)

/-- The embeddings of the tokens. -/
def left (i : Fin 4096) (a : Fin 256) : EReal := (m ((c : Thread nD τ).loc main_arg0) : FVec Ideal S4096x256 .bf16) (ix2 i a)
/-- The cotangent of the embeddings through the matrix. -/
def right (i : Fin 4096) (b : Fin 1024) : EReal := (m ((c : Thread nD τ).loc main_arg1) : FVec Ideal S4096x1024 .bf16) (ix2 i b)
/-- The gradient. -/
def grad (a : Fin 256) (b : Fin 1024) : EReal := ∑ i, left m c i a * right m c i b

/-- The quarter that the point writes. -/
abbrev num : Fin 4 := ⟨t.val, lt_of_lt_of_eq t.isLt N_0⟩

theorem idx : ∀ t : Fin cfg0.N, win0_0.index t = ![0, 0] ∧ win0_1.index t = ![0, t.val] ∧ win0_2.index t = ![t.val, 0, 0] ∧ win0_3.index t = ![t.val, 0, 0] :=
  (by decide +kernel : ∀ t : Fin grid0.N, _)

theorem left_at (p : Fin 4096) (a : Fin 256) : (iblk m c 0 t : Vec Ideal S4096x256 .bf16) (ix2 p a) = left m c p a := by
  pointwise [left]
  blk_point [iblk, V, idx t]

theorem right_at (p : Fin 4096) (b : Fin 256) : (iblk m c 1 t : Vec Ideal S4096x256 .bf16) (ix2 p b) = right m c p (quart (num t) b) := by
  pointwise [right]
  blk_point [iblk, V, idx t]

theorem stored : (outsAt0 m c t).1 = k0_pay1 (iblk m c 0 t : Vec Ideal S4096x256 .bf16) (iblk m c 1 t : Vec Ideal S4096x256 .bf16) := by
  unfold outsAt0
  frame_out

theorem stored_rounded : (outsAt0 m c t).2 = k0_pay3 (outsAt0 m c t).1 := by
  unfold outsAt0
  frame_out

theorem stored_at (a : Fin 256) (b : Fin 256) : (outsAt0 m c t).1 (ix3 0 a b) = grad m c a (quart (num t) b) :=
  (congrFun (stored m c t) _).trans ((product_at _ _ a b).trans
    (Finset.sum_congr rfl fun p _ => congrArg₂ (· * ·) (left_at m c t p a) (right_at m c t p b)))

/-- The gradient. -/
theorem arr2 : (dats m 0 c).arrAt 2 cfg0.N = (fun i => grad m c (i 1) (quart (i 0) (i 2)) : FVec Ideal S4x256x256 .f32) := by
  refine (dats m 0 c).arrAt_eq_of_covers 2 _ (by decide +kernel) fun t hf y => ?_
  blk_simp
  rw [after0_2]
  idx_vars y
  obtain rfl : y0 = 0 := Subsingleton.elim _ _
  refine (stored_at m c t y1 y2).trans ?_
  refine congrArg₂ (grad m c) (Fin.ext ?_) (congrArg₂ quart (Fin.ext ?_) (Fin.ext ?_)) <;> blk_simp [idx t] <;> rfl

/-- The gradient, rounded. -/
theorem arr3 : (dats m 0 c).arrAt 3 cfg0.N = (fun i => grad m c (i 1) (quart (i 0) (i 2)) : FVec Ideal S4x256x256 .bf16) := by
  refine (dats m 0 c).arrAt_eq_of_covers 3 _ (by decide +kernel) fun t hf y => ?_
  blk_simp
  rw [after0_3, stored_rounded]
  idx_vars y
  obtain rfl : y0 = 0 := Subsingleton.elim _ _
  refine (rounded_at _ y1 y2).trans ((stored_at m c t y1 y2).trans ?_)
  refine congrArg₂ (grad m c) (Fin.ext ?_) (congrArg₂ quart (Fin.ext ?_) (Fin.ext ?_)) <;> blk_simp [idx t] <;> rfl

end Cert.Kernel15Ideal.Val

namespace Cert.Reference15Ideal.Stage
open Cert.Reference15Ideal Cert.Reference15Ideal.Gen

variable (a0 : FVec Ideal S4096x256 .bf16) (a1 : FVec Ideal S4096x1024 .bf16)

/-- The derivative of the product in its right factor, at the cotangent. -/
def grad : FVec Ideal S256x1024 .f32 :=
  transpose S256x1024 [1, 0] (Host.dotGeneral dot_S4096x1024_S4096x256_S1024x256_0_0_1_1_n_n none
    (extf .f32 a1 bitsLt_bf16_f32) (extf .f32 a0 bitsLt_bf16_f32)) transposes_S1024x256_S256x1024_1_0

/-- Its columns in four blocks. -/
def blocks : FVec Ideal S4x256x256 .f32 :=
  transpose S4x256x256 [1, 0, 2] (shapeCast S256x4x256 (grad a0 a1) shapeCasts_S256x1024_S256x4x256) transposes_S256x4x256_S4x256x256_1_0_2

theorem grad_at (a : Fin 256) (b : Fin 1024) : grad a0 a1 (ix2 a b) = ∑ i : Fin 4096, a0 (ix2 i a) * a1 (ix2 i b) := by
  pointwise [grad]
  exact Finset.sum_congr rfl fun _ _ => mul_comm _ _

theorem blocks_at (q : Fin 4) (a : Fin 256) (b : Fin 256) : blocks a0 a1 (ix3 q a b) = grad a0 a1 (ix2 a (quart q b)) := by
  unfold blocks
  generalize grad a0 a1 = X
  pointwise

theorem blocks_array : blocks a0 a1 = fun i => ∑ k : Fin 4096, (a0 (ix2 k (i 1)) : EReal) * a1 (ix2 k (quart (i 0) (i 2))) := by
  funext i; idx_vars i; exact (blocks_at a0 a1 i0 i1 i2).trans (grad_at a0 a1 i1 (quart i0 i2))

theorem rounded_array : truncf .bf16 (blocks a0 a1) bitsLt_bf16_f32
    = (fun i => ∑ k : Fin 4096, (a0 (ix2 k (i 1)) : EReal) * a1 (ix2 k (quart (i 0) (i 2))) : FVec Ideal S4x256x256 .bf16) :=
  blocks_array a0 a1

end Cert.Reference15Ideal.Stage
end
-- ==== Proof.Embed.lean ====
module

public import proofs.«01_k».proof.Defs
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel15.Frame
public import proofs.«01_k».proof.Proof.Gen.Kernel15Ideal.Frame
public import proofs.«01_k».proof.Proof.Head
public import proofs.«01_k».proof.Proof.HeadRef
public import proofs.«01_k».proof.Proof.PleGate
public import proofs.«01_k».proof.Proof.PleProj
public import Idealize.ShloMosaic.Adequacy
public import Idealize.ShloMosaic.Init

/-! # The loss, its gradients and those of the per-layer embedding's matrices agree with the reference -/

@[expose] public section

set_option maxRecDepth 16384

noncomputable section
namespace Cert.Embed

open Idealize.ShloMosaic Idealize.SL.Sem

instance : Cert.Kernel13.Facts := Cert.Kernel13.Gen.facts
instance : Cert.Kernel13Ideal.Facts := Cert.Kernel13Ideal.Gen.facts
instance : Cert.Reference13Ideal.Facts := Cert.Reference13Ideal.Gen.facts
instance : Cert.Kernel14.Facts := Cert.Kernel14.Gen.facts
instance : Cert.Kernel14Ideal.Facts := Cert.Kernel14Ideal.Gen.facts
instance : Cert.Reference14Ideal.Facts := Cert.Reference14Ideal.Gen.facts
instance : Cert.Kernel15.Facts := Cert.Kernel15.Gen.facts
instance : Cert.Kernel15Ideal.Facts := Cert.Kernel15Ideal.Gen.facts
instance : Cert.Reference15Ideal.Facts := Cert.Reference15Ideal.Gen.facts
instance : Cert.Pre_finite13.Facts := Cert.Pre_finite13.facts

/-- The reference runs, keeps its arguments and ends with every semaphore at zero. -/
theorem frame_reference13 : Cert.quiescent_Reference13Ideal := fun m ρ _ =>
  (θ_run Cert.Reference13Ideal.defs _ _).mono (fun r h => ⟨fun c => (h c).2.2.2.2.2.2.2.2, sem_eq_zero_of_no_sems (by decide) r.2⟩)
    (Cert.Reference13Ideal.Value.run (F := Ideal) m ρ)

/-- The reference runs, keeps its arguments and ends with every semaphore at zero. -/
theorem frame_reference14 : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run (F := Ideal) m ρ)

/-- The reference runs, keeps its arguments and ends with every semaphore at zero. -/
theorem frame_reference15 : Cert.quiescent_Reference15Ideal := fun m ρ _ =>
  (θ_run Cert.Reference15Ideal.defs _ _).mono (fun r h => ⟨fun c => (h c).2.2, sem_eq_zero_of_no_sems (by decide) r.2⟩)
    (Cert.Reference15Ideal.Value.run (F := Ideal) m ρ)

section
open Cert.Reference13Ideal.Stage

/-- The loss and its gradients, on real arguments. -/
theorem algebraic13 : Cert.algebraic_Kernel13Ideal_Reference13Ideal_pre_finite13 := by
  pair_intro
  · run_from Cert.Kernel13Ideal.Value.run_blocks m g
  · have real : ∀ c, (Cert.Kernel13Ideal.Val.args m c).Real := fun c => by
      obtain ⟨h0, h1, h2, h3, h4, h5, h6⟩ := Cert.Pre_finite13.real (hpre c)
      exact ⟨fun _ _ => h0 _, fun _ _ => h1 _, fun _ _ => h2 _, fun _ => h3 _, fun _ => h4 _, fun _ _ => h5 _, fun _ _ => h6 _⟩
    have same : ∀ c, args (a0 m' c) (a1 m' c) (a2 m' c) (a3 m' c) (a4 m' c) (a5 m' c) (a6 m' c) = Cert.Kernel13Ideal.Val.args m c := fun c => by
      obtain ⟨e0, e1, e2, e3, e4, e5, e6⟩ := hagree c
      unfold a0 a1 a2 a3 a4 a5 a6
      rw [e0, e1, e2, e3, e4, e5, e6]
      rfl
    have real' := fun c => (same c).symm ▸ real c
    run_from Cert.Reference13Ideal.Value.run m' g'
    · refine (loss_array (real' c)).trans (Eq.trans ?_ (Cert.Kernel13Ideal.Val.arr7 m c).symm)
      rw [same c]
    · refine (dgf_array (real' c)).trans (Eq.trans ?_ (Cert.Kernel13Ideal.Val.arr8 m c).symm)
      rw [same c]
    · refine (dg_array (real' c)).trans (Eq.trans ?_ (Cert.Kernel13Ideal.Val.arr9 m c).symm)
      rw [same c]
    · rw [← (hagree c).1]
      refine (dh_array (real' c)).trans (Eq.trans ?_ (Cert.Kernel13Ideal.Val.arr10 m c).symm)
      rw [same c]
    · refine (dz_array (real' c)).trans (Eq.trans ?_ (Cert.Kernel13Ideal.Val.arr11 m c).symm)
      rw [same c]
    · refine (dpp_array (real' c)).trans (Eq.trans ?_ (Cert.Kernel13Ideal.Val.arr12 m c).symm)
      rw [same c]
    · refine (n_array (a0 m' c) (a1 m' c) (a2 m' c) (a3 m' c) (a4 m' c) (a5 m' c) (a6 m' c)).trans (Eq.trans ?_ (Cert.Kernel13Ideal.Val.arr13 m c).symm)
      rw [same c]
    · exact Eq.trans (funext fun i => by idx_vars i; rfl) (Cert.Kernel13Ideal.Val.arr14 m c).symm
end

/-- The gradient of the gate's matrix. -/
theorem algebraic14 : Cert.algebraic_Kernel14Ideal_Reference14Ideal := by
  pair_intro
  · run_from Cert.Kernel14Ideal.Value.run_blocks m g
  · run_from Cert.Reference14Ideal.Value.run m' g'
    · exact Eq.trans (Cert.Reference14Ideal.Stage.grad_array _ _) (Cert.Kernel14Ideal.Val.arr2 m c).symm
    · exact Eq.trans (Cert.Reference14Ideal.Stage.rounded_array _ _) (Cert.Kernel14Ideal.Val.arr3 m c).symm

/-- The gradient of the embeddings' matrix. -/
theorem algebraic15 : Cert.algebraic_Kernel15Ideal_Reference15Ideal := by
  pair_intro
  · run_from Cert.Kernel15Ideal.Value.run_blocks m g
  · run_from Cert.Reference15Ideal.Value.run m' g'
    · exact Eq.trans (Cert.Reference15Ideal.Stage.blocks_array _ _) (Cert.Kernel15Ideal.Val.arr2 m c).symm
    · exact Eq.trans (Cert.Reference15Ideal.Stage.rounded_array _ _) (Cert.Kernel15Ideal.Val.arr3 m c).symm

end Cert.Embed
end
-- ==== Proof.FwdBlock.lean ====
module

public import proofs.«01_k».proof.Proof.Gen.Kernel16Ideal.Frame
public import proofs.«01_k».proof.Proof.Block

/-! # The forward pass of the chunked gMLP: one block of 512 rows

The payloads of the kernel's sixteen stores at a grid point, and the array that the region leaves. -/

@[expose] public section

set_option maxRecDepth 16384

noncomputable section
open Idealize.ShloMosaic Idealize.ShloMosaic.TcCoe Idealize.SL.Sem Cert.Gmlp
open Idealize.ShloMosaic.Pipeline (Dat)

/-- The first half after gelu times the mixed second half: the forward pass's result. -/
def Cert.Gmlp.Args.out (A : Args) (i : Fin 4096) (j : Fin 512) : EReal := A.u i j * A.sv i j

namespace Cert.Kernel16Ideal.Val
open Cert.Kernel16Ideal Cert.Kernel16Ideal.Gen
open Cert.KernelIdeal.Val (row masked du_piece)

section
variable (A : Args) (t : Fin 8)

theorem gelu_at (z : Vec Ideal S512x512 .f32) (i j : Fin 512) : k0_pay4 z (ix2 i j) = gelu (z (ix2 i j)) := by
  pointwise [k0_pay4]
  rfl

theorem u_row (zu : Vec Ideal S512x512 .f32) (hz : ∀ i j, zu (ix2 i j) = A.z (row t i) (lo j)) (i j : Fin 512) :
    k0_pay4 zu (ix2 i j) = A.u (row t i) j := by
  rw [gelu_at, hz]; rfl

theorem vn_row (zv : Vec Ideal S512x512 .f32) (gv : Vec Ideal S1x512 .f32) (hz : ∀ i j, zv (ix2 i j) = A.z (row t i) (hi j))
    (hg : ∀ j, gv (ix2 0 j) = A.g j) (i j : Fin 512) : k0_pay5 zv gv (ix2 i j) = A.vn (row t i) j :=
  Cert.KernelIdeal.Val.pay6_row A t zv gv hz hg i j

/-- One of the sixteen tiles: a head's columns of a chunk's rows. -/
theorem tile (h q : Fin 4) (r cc : ℕ) (hs : S512x512.Slices ![r, cc] S128x128) (w : Vec Ideal S1x128x128 .f32)
    (V : FVec Ideal S512x512 .bf16) (U : FVec Ideal S512x512 .f32) (bt : Vec Ideal S128x1 .f32)
    (hw : ∀ a b, w (ix3 0 a b) = A.w h a b) (hb : ∀ a, bt (ix2 a 0) = A.b h a)
    (hV : ∀ i j, V (ix2 i j) = A.vn (row t i) j) (hU : ∀ i j, U (ix2 i j) = A.u (row t i) j)
    (hr : r = 128 * q.val) (hc : cc = 128 * h.val) (x : S128x128.Idx) (y : S512x512.Idx)
    (h0 : (y 0).val = r + (x 0).val) (h1 : (y 1).val = cc + (x 1).val) :
    truncf .bf16 (mulf (extractStridedSlice S128x128 ![r, cc] U hs)
      (addf (matmul dot_S128x128_S128x128_S128x128_1_0_0_1_n_n none (masked w) (extractStridedSlice S128x128 ![r, cc] V hs)
        (constant S128x128 FTy.f32 0#32)) (broadcastTo S128x128 (shapeCast S128x1 bt shapeCasts_S128x1_S128x1) broadcasts_S128x1_S128x128)))
      bitsLt_bf16_f32 x = A.out (row t (y 0)) (y 1) := by
  idx_vars x
  refine (du_piece { A with ct := A.u } t h r cc hs w V U bt hw hb hV hU q hr hc _ _).trans ?_
  exact congrArg₂ A.out (congrArg (row t) (Fin.ext h0.symm)) (Fin.ext h1.symm)

end

variable (m : (ℓ : Loc nD τ sig) → Buf (Elt Ideal) ℓ) (c : Dev nD)

/-- The kernel's arguments; no cotangent enters. -/
def args : Args where
  z i j := (m ((c : Thread nD τ).loc main_arg0) : FVec Ideal S4096x1024 .f32) (ix2 i j)
  ct _ _ := 0
  g j := (m ((c : Thread nD τ).loc main_arg1) : FVec Ideal S1x512 .f32) (ix2 0 j)
  w h a b := (m ((c : Thread nD τ).loc main_arg2) : FVec Ideal S1x4x128x128 .f32) (ix4 0 h a b)
  b h a := (m ((c : Thread nD τ).loc main_arg3) : FVec Ideal S1x4x128 .f32) (ix3 0 h a)

/-- The number of a grid point. -/
abbrev num (t : Fin cfg0.N) : Fin 8 := ⟨t.val, lt_of_lt_of_eq t.isLt N_0⟩

theorem idx : ∀ t : Fin cfg0.N, win0_0.index t = ![t.val, 0] ∧ win0_1.index t = ![0, 0] ∧ win0_2.index t = ![0, 0, 0]
    ∧ win0_3.index t = ![0, 0] ∧ win0_4.index t = ![t.val, 0] :=
  (by decide +kernel : ∀ t : Fin grid0.N, _)

variable (t : Fin cfg0.N)

theorem read_zu (h) (i j : Fin 512) : (View.ld (iblk m c 0 t) (Rect.unit ![0, 0] ![512, 512] h) : Vec Ideal S512x512 .f32) (ix2 i j)
    = (args m c).z (row (num t) i) (lo j) := by
  pointwise [args]
  blk_point [iblk, V, idx t]

theorem read_zv (h) (i j : Fin 512) : (View.ld (iblk m c 0 t) (Rect.unit ![0, 512] ![512, 512] h) : Vec Ideal S512x512 .f32) (ix2 i j)
    = (args m c).z (row (num t) i) (hi j) := by
  pointwise [args]
  blk_point [iblk, V, idx t]

theorem read_g (h) (j : Fin 512) : (View.ld (iblk m c 1 t) (Rect.unit ![0, 0] ![1, 512] h) : Vec Ideal S1x512 .f32) (ix2 0 j) = (args m c).g j := by
  pointwise [args]
  blk_point [iblk, V, idx t]

theorem read_w (hd : Fin 4) (o : ℕ) (e : o = hd.val) (h) (a b : Fin 128) :
    (View.ld (iblk m c 2 t) (Rect.unit ![o, 0, 0] ![1, 128, 128] h) : Vec Ideal S1x128x128 .f32) (ix3 0 a b) = (args m c).w hd a b := by
  subst e
  pointwise [args]
  blk_simp [iblk, idx t]
  show StableHlo.after hostOps0 _ _ _ = _
  after_results
  pointwise
  blk_point [iblk, V, idx t]

theorem read_b (hd : Fin 4) (o : ℕ) (e : o = hd.val) (h) (a : Fin 128) :
    (View.ld (iblk m c 3 t) (Rect.unit ![0, o] ![128, 1] h) : Vec Ideal S128x1 .f32) (ix2 a 0) = (args m c).b hd a := by
  subst e
  pointwise [args]
  blk_simp [iblk, idx t]
  show StableHlo.after hostOps0 _ _ _ = _
  after_results
  pointwise
  blk_point [iblk, V, idx t]

/-- A tile over the blocks of the grid point. -/
theorem piece (h q : Fin 4) (r cc o : ℕ) (hs : S512x512.Slices ![r, cc] S128x128) (hr : r = 128 * q.val) (hc : cc = 128 * h.val)
    (ho : o = h.val) (hu hv hg hw hb) (x : S128x128.Idx) (y : S512x512.Idx)
    (h0 : (y 0).val = r + (x 0).val) (h1 : (y 1).val = cc + (x 1).val) :
    truncf .bf16 (mulf (extractStridedSlice S128x128 ![r, cc] (k0_pay4 (View.ld (iblk m c 0 t) (Rect.unit ![0, 0] ![512, 512] hu))) hs)
      (addf (matmul dot_S128x128_S128x128_S128x128_1_0_0_1_n_n none (masked (View.ld (iblk m c 2 t) (Rect.unit ![o, 0, 0] ![1, 128, 128] hw)))
        (extractStridedSlice S128x128 ![r, cc] (k0_pay5 (View.ld (iblk m c 0 t) (Rect.unit ![0, 512] ![512, 512] hv))
          (View.ld (iblk m c 1 t) (Rect.unit ![0, 0] ![1, 512] hg))) hs)
        (constant S128x128 FTy.f32 0#32)) (broadcastTo S128x128 (shapeCast S128x1 (View.ld (iblk m c 3 t) (Rect.unit ![0, o] ![128, 1] hb))
          shapeCasts_S128x1_S128x1) broadcasts_S128x1_S128x128)))
      bitsLt_bf16_f32 x = (args m c).out (row (num t) (y 0)) (y 1) :=
  tile (args m c) (num t) h q r cc hs _ _ _ _ (read_w m c t h o ho hw) (read_b m c t h o ho hb)
    (vn_row (args m c) (num t) _ _ (read_zv m c t hv) (read_g m c t hg)) (u_row (args m c) (num t) _ (read_zu m c t hu)) hr hc x y h0 h1

/-- What a grid point leaves in the output's buffer. -/
theorem block (y : S512x512.Idx) :
    out0_4 (iblk m c 0 t) (iblk m c 1 t) (iblk m c 2 t) (iblk m c 3 t) y = (args m c).out (row (num t) (y 0)) (y 1) := by
  unfold_out out0_4
  canon_tiles x h
  · exact piece m c t 3 3 384 384 3 _ rfl rfl rfl _ _ _ _ _ x y (by omega) (by omega)
  · exact piece m c t 3 2 256 384 3 _ rfl rfl rfl _ _ _ _ _ x y (by omega) (by omega)
  · exact piece m c t 3 1 128 384 3 _ rfl rfl rfl _ _ _ _ _ x y (by omega) (by omega)
  · exact piece m c t 3 0 0 384 3 _ rfl rfl rfl _ _ _ _ _ x y (by omega) (by omega)
  · exact piece m c t 2 3 384 256 2 _ rfl rfl rfl _ _ _ _ _ x y (by omega) (by omega)
  · exact piece m c t 2 2 256 256 2 _ rfl rfl rfl _ _ _ _ _ x y (by omega) (by omega)
  · exact piece m c t 2 1 128 256 2 _ rfl rfl rfl _ _ _ _ _ x y (by omega) (by omega)
  · exact piece m c t 2 0 0 256 2 _ rfl rfl rfl _ _ _ _ _ x y (by omega) (by omega)
  · exact piece m c t 1 3 384 128 1 _ rfl rfl rfl _ _ _ _ _ x y (by omega) (by omega)
  · exact piece m c t 1 2 256 128 1 _ rfl rfl rfl _ _ _ _ _ x y (by omega) (by omega)
  · exact piece m c t 1 1 128 128 1 _ rfl rfl rfl _ _ _ _ _ x y (by omega) (by omega)
  · exact piece m c t 1 0 0 128 1 _ rfl rfl rfl _ _ _ _ _ x y (by omega) (by omega)
  · exact piece m c t 0 3 384 0 0 _ rfl rfl rfl _ _ _ _ _ x y (by omega) (by omega)
  · exact piece m c t 0 2 256 0 0 _ rfl rfl rfl _ _ _ _ _ x y (by omega) (by omega)
  · exact piece m c t 0 1 128 0 0 _ rfl rfl rfl _ _ _ _ _ x y (by omega) (by omega)
  · exact piece m c t 0 0 0 0 0 _ rfl rfl rfl _ _ _ _ _ x y (by omega) (by omega)

end Cert.Kernel16Ideal.Val
end
-- ==== Proof.FwdRef.lean ====
module

public import proofs.«01_k».proof.Proof.Gen.Reference16Ideal.Run
public import proofs.«01_k».proof.Proof.FwdBlock
public import proofs.«01_k».proof.Proof.RefValue

/-! # The forward pass of the chunked gMLP: the reference's result -/

@[expose] public section

set_option maxRecDepth 16384

noncomputable section
open Idealize.ShloMosaic Idealize.ShloMosaic.TcCoe Idealize.SL.Sem Cert.Gmlp
namespace Cert.Reference16Ideal.Stage
open Cert.Reference16Ideal Cert.Reference16Ideal.Gen
open Cert.ReferenceIdeal.Stage (zu zv gel vn weights biases mixed args u_eq vn_eq wm_eq mixed_at biases_at chunkRow_peer col_head)

variable (a0 : FVec Ideal S4096x1024 .f32) (a1 : FVec Ideal S1x512 .f32) (a2 : FVec Ideal S1x4x128x128 .f32) (a3 : FVec Ideal S1x4x128 .f32)

/-- The result. -/
def out : FVec Ideal S4096x512 .bf16 :=
  truncf .bf16 (shapeCast S4096x512 (mulf (gel (zu a0)) (mixed (vn (gel (zv a0)) a1) (weights a2) (biases a3))) shapeCasts_S1x4096x512_S4096x512) bitsLt_bf16_f32

/-- The reference's arguments; no cotangent enters. -/
abbrev given : Args := args a0 (fun _ => 0) a1 a2 a3

theorem out_at (i : Fin 4096) (j : Fin 512) : out a0 a1 a2 a3 (ix2 i j) = (given a0 a1 a2 a3).out i j := by
  unfold out
  refine Eq.trans (b := gel (zu a0) (ix3 0 i j) * mixed (vn (gel (zv a0)) a1) (weights a2) (biases a3) (ix3 0 i j)) ?_ ?_
  · generalize gel (zu a0) = X
    generalize mixed (vn (gel (zv a0)) a1) (weights a2) (biases a3) = Y
    pointwise
  · rw [u_eq a0 (fun _ => 0) a1 a2 a3, mixed_at, biases_at]
    refine congrArg (_ * ·) (congrArg (· + _) (Finset.sum_congr rfl fun s _ => ?_))
    rw [vn_eq a0 (fun _ => 0) a1 a2 a3, wm_eq a0 (fun _ => 0) a1 a2 a3, chunkRow_peer, col_head]; exact mul_comm _ _

variable (m : (ℓ : Loc nD τ sig) → Buf (Elt Ideal) ℓ) (c : Dev nD)

theorem out_eq : Value.res_out0 m c = out (m ((c.tc : Thread nD τ).loc main_arg0)) (m ((c.tc : Thread nD τ).loc main_arg1))
    (m ((c.tc : Thread nD τ).loc main_arg2)) (m ((c.tc : Thread nD τ).loc main_arg3)) := rfl

end Cert.Reference16Ideal.Stage
end
-- ==== Proof.Forward.lean ====
module

public import proofs.«01_k».proof.Defs
public import proofs.«01_k».proof.Proof.Gen.Kernel16.Frame
public import proofs.«01_k».proof.Proof.FwdRef
public import Idealize.ShloMosaic.Adequacy
public import Idealize.ShloMosaic.Init

/-! # The forward pass of the chunked gMLP agrees with the reference -/

@[expose] public section

set_option maxRecDepth 16384

noncomputable section
open Idealize.ShloMosaic Idealize.ShloMosaic.TcCoe Idealize.SL.Sem Cert.Gmlp
open Idealize.ShloMosaic.Pipeline (Dat)

namespace Cert.Kernel16Ideal.Val
open Cert.Kernel16Ideal Cert.Kernel16Ideal.Gen
open Cert.KernelIdeal.Val (row)

variable (m : (ℓ : Loc nD τ sig) → Buf (Elt Ideal) ℓ) (c : Dev nD)

/-- The array that the region leaves: the result in the first 512 columns, in the others what it held before. -/
theorem arr4 : (dats m 0 c).arrAt 4 cfg0.N = fun i =>
    if (i 1 : ℕ) / 512 = 0 then
      (fun i => if h : (i 1 : ℕ) < 512 then (args m c).out (i 0) ⟨(i 1).val, h⟩ else 0 : FVec Ideal S4096x1024 .bf16) i
    else (dats m 0 c).A 4 i := by
  refine (dats m 0 c).arrAt_eq_of_coversWhere 4 _ (fun β => β (1 : Fin _) = 0) (by decide +kernel) (fun t hf y => ?_) (fun j => Iff.rfl)
  blk_simp
  rw [after0_4]
  refine (block m c t _).trans ?_
  have e0 : (((win0_4.blk t).view.emb y) 0).val = 512 * t.val + (y 0).val := by
    blk_simp [idx t]
    exact congrArg (· + _) (Nat.mul_comm _ _)
  have e1 : win0_4.index t 1 * 512 + (y 1).val = (y 1).val := by simp [idx t]
  have hy : (y 1).val < 512 := (y 1).isLt
  rw [dif_pos (lt_of_eq_of_lt e1 hy)]
  exact congrArg₂ (args m c).out (Fin.ext e0.symm) (Fin.ext e1.symm)

/-- The program's result: the first 512 columns. -/
theorem cut : extractStridedSlice S4096x512 ![0, 0] ((dats m 0 c).arrAt 4 cfg0.N : FVec Ideal S4096x1024 .bf16) slices_S4096x1024_S4096x512_0_0
    = fun i => (args m c).out (i 0) (i 1) := by
  rw [arr4]
  funext i
  idx_vars i
  pointwise
  exact if_pos (Nat.div_eq_of_lt i1.isLt)

/-- What the line after the region leaves as the result. -/
theorem tail : Pipeline.afterTail₀ cfgs (dats m) 0 (V0 m) [hostOps1] c main_v4
    = (fun i => (args m c).out (i 0) (i 1) : FVec Ideal S4096x512 .bf16) := by
  unfold Pipeline.afterTail₀
  show StableHlo.after hostOps1 _ _ = _
  after_results
  refine Eq.trans ?_ (cut m c)
  exact congrArg (extractStridedSlice S4096x512 ![0, 0] · slices_S4096x1024_S4096x512_0_0)
    (Pipeline.withArrays_arr (cfgs 0).spec (by decide) c (V0 m c) _ (4 : Fin 5))

end Cert.Kernel16Ideal.Val

namespace Cert.Forward

instance : Cert.Kernel16.Facts := Cert.Kernel16.Gen.facts
instance : Cert.Kernel16Ideal.Facts := Cert.Kernel16Ideal.Gen.facts
instance : Cert.Reference16Ideal.Facts := Cert.Reference16Ideal.Gen.facts

/-- The reference runs, keeps its arguments and ends with every semaphore at zero. -/
theorem frame_reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The one constant of the kernel read as a real number. -/
theorem preserves16 : Cert.preserves_Kernel16_Kernel16Ideal :=
  IdealRules.named_const.statement Cert.Kernel16Ideal.κ _ .f32 _ _ rfl

/-- The rows that the chunked gMLP hands on. -/
theorem algebraic16 : Cert.algebraic_Kernel16Ideal_Reference16Ideal := by
  pair_intro
  · run_from Cert.Kernel16Ideal.Gen.run_main m g
    · exact Cert.Kernel16Ideal.Gen.W_main_arg2 m _ c
    · exact Cert.Kernel16Ideal.Gen.W_main_arg3 m _ c
  · run_from Cert.Reference16Ideal.Value.run m' g'
    refine Eq.trans ?_ (Cert.Kernel16Ideal.Val.tail m c).symm
    obtain ⟨e0, e1, e2, e3⟩ := hagree c
    refine (Cert.Reference16Ideal.Stage.out_eq m' c).trans ?_
    rw [e0, e1, e2, e3]
    funext i
    idx_vars i
    exact Cert.Reference16Ideal.Stage.out_at _ _ _ _ _ _

end Cert.Forward
end
-- ==== Proof.Adam.lean ====
module

public import proofs.«01_k».proof.Proof.Gen.Kernel12Ideal.Value
public import proofs.«01_k».proof.Proof.Gen.Reference12Ideal.Run
public import Idealize.ShloMosaic.Lib.Pointwise
public import Idealize.ShloMosaic.Lib.Pipeline.ValueKit
public import Idealize.ShloMosaic.Lib.Pipeline.ReadBack

/-! # The optimiser: the kernel's arrays and the reference's -/

@[expose] public section

set_option maxRecDepth 16384

noncomputable section
open Idealize.ShloMosaic Idealize.ShloMosaic.TcCoe Idealize.SL.Sem
open Idealize.ShloMosaic.Pipeline (Dat)

namespace Cert.Adam

/-- The value of a 32-bit word. -/
abbrev word (b : BitVec 32) : EReal := Ideal.ofBits .f32 b
/-- The new first moment, of a gradient and the old moment. -/
def first (g m : EReal) : EReal := word 0x3F666666#32 * m + word 0x3DCCCCCD#32 * g
/-- The new second moment. -/
def second (g v : EReal) : EReal := word 0x3F7FBE77#32 * v + word 0x3A83126F#32 * (g * g)
/-- The change of a weight. -/
def delta (w g m v : EReal) : EReal :=
  word 0xBA83126F#32 * (Ideal.div (Ideal.div (first g m) (word 0x3F26BD02#32))
    (Ideal.sqrt (Ideal.div (second g v) (word 0x3C231ACC#32)) + word 0x322BCC77#32) + word 0x3C23D70A#32 * w)

end Cert.Adam

namespace Cert.Kernel12Ideal.Val
open Cert.Kernel12Ideal Cert.Kernel12Ideal.Gen Cert.Adam

section
variable (w g a b : Vec Ideal S128x1408 .f32) (i : Fin 128) (j : Fin 1408)
theorem first_at : k0_pay1 g a (ix2 i j) = first (g (ix2 i j)) (a (ix2 i j)) := by
  pointwise [k0_pay1, first]
theorem second_at : k0_pay2 g b (ix2 i j) = second (g (ix2 i j)) (b (ix2 i j)) := by
  pointwise [k0_pay2, second]
theorem delta_at : k0_pay3 g a b w (ix2 i j) = delta (w (ix2 i j)) (g (ix2 i j)) (a (ix2 i j)) (b (ix2 i j)) := by
  unfold k0_pay3
  have e1 := first_at g a i j
  have e2 := second_at g b i j
  generalize k0_pay1 g a = A at *
  generalize k0_pay2 g b = B at *
  pointwise [delta]
  rw [e1, e2]
end

variable (m : (ℓ : Loc nD τ sig) → Buf (Elt Ideal) ℓ) (c : Dev nD) (t : Fin cfg0.N)

/-- The weights. -/
def weight (i : Fin 1024) (j : Fin 1408) : EReal := (m ((c : Thread nD τ).loc main_arg0) : FVec Ideal S1x1024x1408 .f32) (ix3 0 i j)
/-- Their gradient. -/
def grad (i : Fin 1024) (j : Fin 1408) : EReal := (m ((c : Thread nD τ).loc main_arg1) : FVec Ideal S1024x1408 .f32) (ix2 i j)
/-- The moments. -/
def mom (i : Fin 1024) (j : Fin 1408) : EReal := (m ((c : Thread nD τ).loc main_arg2) : FVec Ideal S1x1024x1408 .f32) (ix3 0 i j)
@[inherit_doc mom] def mom2 (i : Fin 1024) (j : Fin 1408) : EReal := (m ((c : Thread nD τ).loc main_arg3) : FVec Ideal S1x1024x1408 .f32) (ix3 0 i j)

/-- A row of the tile. -/
abbrev row (i : Fin 128) : Fin 1024 := ⟨t.val * 128 + i.val, by have := lt_of_lt_of_eq t.isLt N_0; omega⟩

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

section
variable (i : Fin 128) (j : Fin 1408)
theorem read_w : (View.ld (iblk m c 0 t) r0_0 : Vec Ideal S128x1408 .f32) (ix2 i j) = weight m c (row t i) j := by
  pointwise [weight]
  blk_point [iblk, V, idx t]
theorem read_g : (View.ld (iblk m c 1 t) r0_0 : Vec Ideal S128x1408 .f32) (ix2 i j) = grad m c (row t i) j := by
  pointwise [grad]
  blk_point [iblk, V, idx t]
theorem read_m : (View.ld (iblk m c 2 t) r0_0 : Vec Ideal S128x1408 .f32) (ix2 i j) = mom m c (row t i) j := by
  pointwise [mom]
  blk_point [iblk, V, idx t]
theorem read_v : (View.ld (iblk m c 3 t) r0_0 : Vec Ideal S128x1408 .f32) (ix2 i j) = mom2 m c (row t i) j := by
  pointwise [mom2]
  blk_point [iblk, V, idx t]
end

/-- The change of the weights. -/
theorem arr4 : (dats m 0 c).arrAt 4 cfg0.N
    = (fun i => delta (weight m c (i 0) (i 1)) (grad m c (i 0) (i 1)) (mom m c (i 0) (i 1)) (mom2 m c (i 0) (i 1)) : FVec Ideal S1024x1408 .f32) := by
  refine (dats m 0 c).arrAt_eq_of_covers 4 _ (by decide +kernel) fun t hf y => ?_
  blk_simp
  rw [after0_4]
  idx_vars y
  refine (congrFun (View.canon_cons_unit_lit inb_S128x1408_S128x1408_0_0 _ [] (by decide)) _).trans ((delta_at _ _ _ _ y0 y1).trans ?_)
  rw [read_w, read_g, read_m, read_v]
  refine congrArg₂ (fun i j => delta (weight m c i j) (grad m c i j) (mom m c i j) (mom2 m c i j)) (Fin.ext ?_) (Fin.ext ?_) <;> blk_simp [idx t]

/-- The new first moment. -/
theorem arr5 : (dats m 0 c).arrAt 5 cfg0.N = (fun i => first (grad m c (i 0) (i 1)) (mom m c (i 0) (i 1)) : FVec Ideal S1024x1408 .f32) := by
  refine (dats m 0 c).arrAt_eq_of_covers 5 _ (by decide +kernel) fun t hf y => ?_
  blk_simp
  rw [after0_5]
  idx_vars y
  refine (congrFun (View.canon_cons_unit_lit inb_S128x1408_S128x1408_0_0 _ [] (by decide)) _).trans ((first_at _ _ y0 y1).trans ?_)
  rw [read_g, read_m]
  refine congrArg₂ (fun i j => first (grad m c i j) (mom m c i j)) (Fin.ext ?_) (Fin.ext ?_) <;> blk_simp [idx t]

/-- The new second moment. -/
theorem arr6 : (dats m 0 c).arrAt 6 cfg0.N = (fun i => second (grad m c (i 0) (i 1)) (mom2 m c (i 0) (i 1)) : FVec Ideal S1024x1408 .f32) := by
  refine (dats m 0 c).arrAt_eq_of_covers 6 _ (by decide +kernel) fun t hf y => ?_
  blk_simp
  rw [after0_6]
  idx_vars y
  refine (congrFun (View.canon_cons_unit_lit inb_S128x1408_S128x1408_0_0 _ [] (by decide)) _).trans ((second_at _ _ y0 y1).trans ?_)
  rw [read_g, read_v]
  refine congrArg₂ (fun i j => second (grad m c i j) (mom2 m c i j)) (Fin.ext ?_) (Fin.ext ?_) <;> blk_simp [idx t]

end Cert.Kernel12Ideal.Val

namespace Cert.Reference12Ideal.Stage
open Cert.Reference12Ideal Cert.Reference12Ideal.Gen Cert.Adam

abbrev Mat := FVec Ideal S1024x1408 .f32
/-- A constant at every entry. -/
abbrev every (b : BitVec 32) : Mat := broadcastInDim S1024x1408 ![] bcast_S_S1024x1408 (constant S_ .f32 b)

variable (w : FVec Ideal S1x1024x1408 .f32) (g : Mat) (a b : FVec Ideal S1x1024x1408 .f32)

/-- The new first moment. -/
def firsts : Mat := addf (mulf (every 0x3F666666#32) (shapeCast _ a shapeCasts_S1x1024x1408_S1024x1408)) (mulf (every 0x3DCCCCCD#32) g)
/-- The new second moment. -/
def seconds : Mat := addf (mulf (every 0x3F7FBE77#32) (shapeCast _ b shapeCasts_S1x1024x1408_S1024x1408)) (mulf (every 0x3A83126F#32) (mulf g g))
/-- The change, of the moments. -/
def change (A B : Mat) : Mat := mulf (every 0xBA83126F#32) (addf (Host.divf (Host.divf A (every 0x3F26BD02#32))
  (addf (Host.sqrt (Host.divf B (every 0x3C231ACC#32))) (every 0x322BCC77#32))) (mulf (every 0x3C23D70A#32) (shapeCast _ w shapeCasts_S1x1024x1408_S1024x1408)))

theorem firsts_array : firsts g a = fun i => first (g (ix2 (i 0) (i 1))) (a (ix3 0 (i 0) (i 1))) := by
  funext i; idx_vars i; pointwise [firsts, first]
theorem seconds_array : seconds g b = fun i => second (g (ix2 (i 0) (i 1))) (b (ix3 0 (i 0) (i 1))) := by
  funext i; idx_vars i; pointwise [seconds, second]
theorem change_array : change w (firsts g a) (seconds g b)
    = fun i => delta (w (ix3 0 (i 0) (i 1))) (g (ix2 (i 0) (i 1))) (a (ix3 0 (i 0) (i 1))) (b (ix3 0 (i 0) (i 1))) := by
  rw [firsts_array, seconds_array]
  funext i; idx_vars i; pointwise [change, delta]

end Cert.Reference12Ideal.Stage
end
-- ==== Proof.Optimiser.lean ====
module

public import proofs.«01_k».proof.Defs
public import proofs.«01_k».proof.Proof.Gen.Kernel12.Frame
public import proofs.«01_k».proof.Proof.Gen.Kernel12Ideal.Frame
public import proofs.«01_k».proof.Proof.Adam
public import Idealize.ShloMosaic.Adequacy
public import Idealize.ShloMosaic.Init

/-! # The optimiser's step agrees with the reference's -/

@[expose] public section

set_option maxRecDepth 16384

noncomputable section
namespace Cert.Optimiser

open Idealize.ShloMosaic Idealize.SL.Sem

instance : Cert.Kernel12.Facts := Cert.Kernel12.Gen.facts
instance : Cert.Kernel12Ideal.Facts := Cert.Kernel12Ideal.Gen.facts
instance : Cert.Reference12Ideal.Facts := Cert.Reference12Ideal.Gen.facts

/-- The reference runs, keeps its arguments and ends with every semaphore at zero. -/
theorem frame_reference12 : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

/-- The change of the weights and the new moments. -/
theorem algebraic12 : Cert.algebraic_Kernel12Ideal_Reference12Ideal := by
  pair_intro
  · run_from Cert.Kernel12Ideal.Value.run_blocks m g
  · run_from Cert.Reference12Ideal.Value.run m' g'
    · exact Eq.trans (Cert.Reference12Ideal.Stage.change_array _ _ _ _) (Cert.Kernel12Ideal.Val.arr4 m c).symm
    · exact Eq.trans (Cert.Reference12Ideal.Stage.firsts_array _ _) (Cert.Kernel12Ideal.Val.arr5 m c).symm
    · exact Eq.trans (Cert.Reference12Ideal.Stage.seconds_array _ _) (Cert.Kernel12Ideal.Val.arr6 m c).symm

end Cert.Optimiser
end
-- ==== Proof.lean ====
/- The claims of this problem: the frames, the named constants, and that the kernel and the reference agree. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Arrays
public import proofs.«01_k».proof.Proof.RefValue
public import proofs.«01_k».proof.Proof.Finite
public import proofs.«01_k».proof.Proof.Products
public import proofs.«01_k».proof.Proof.HalfStep
public import proofs.«01_k».proof.Proof.Mixer
public import proofs.«01_k».proof.Proof.Embed
public import proofs.«01_k».proof.Proof.Forward
public import proofs.«01_k».proof.Proof.Optimiser
public import Idealize.ShloMosaic.Adequacy
public import Idealize.ShloMosaic.Init

@[expose] public section

noncomputable section

namespace Cert.Proof

open Idealize.ShloMosaic Idealize.SL.Sem Cert.ReferenceIdeal Cert.KernelIdeal Cert.Products Cert.HalfStep Cert.Mixer Cert.Optimiser Cert.Embed Cert.Forward

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite.Facts := Cert.Pre_finite.facts

/-- Each named constant is the exact value its word stands for. -/
theorem preserves : Cert.preserves_Kernel_KernelIdeal :=
  ⟨IdealRules.named_const.statement Cert.KernelIdeal.κ _ .f32 _ _ rfl, IdealRules.named_const.statement Cert.KernelIdeal.κ _ .f32 _ _ (by simp only [Cert.KernelIdeal.κ])⟩

/-- The kernel's and the reference's gradients agree on real arguments. -/
theorem algebraic : Cert.algebraic_KernelIdeal_ReferenceIdeal_pre_finite := by
  pair_intro
  · run_from Cert.KernelIdeal.Value.run_blocks m g
  · run_from Cert.ReferenceIdeal.Value.run m' g'
    · obtain ⟨e0, e1, e2, e3, e4⟩ := hagree c
      obtain ⟨h0, h1, h2, h3, h4⟩ := Cert.Pre_finite.real (hpre c)
      refine (Stage.out0_eq m' c).trans (Eq.trans ?_ (Val.arr5 m c).symm)
      rw [e0, e1, e2, e3, e4]
      exact Stage.dz_array _ _ _ _ _ ⟨fun _ _ => h0 _, fun _ _ => h1 _, fun _ => h2 _, fun _ _ _ => h3 _, fun _ _ => h4 _⟩
    · obtain ⟨e0, e1, e2, -, -⟩ := hagree c
      refine (Stage.out1_eq m' c).trans (Eq.trans ?_ (Val.arr6 m c).symm)
      rw [e0, e1, e2]
      exact Stage.dw_array _ _ _ (m (c.tc.loc Cert.KernelIdeal.main_arg3)) (m (c.tc.loc Cert.KernelIdeal.main_arg4))
    · exact Eq.trans (Stage.db_array _ _ (m (c.tc.loc Cert.KernelIdeal.main_arg2)) (m (c.tc.loc Cert.KernelIdeal.main_arg3))
        (m (c.tc.loc Cert.KernelIdeal.main_arg4))) (Val.arr7 m c).symm
    · obtain ⟨e0, e1, -, e3, -⟩ := hagree c
      refine (Stage.out3_eq m' c).trans (Eq.trans ?_ (Val.arr8 m c).symm)
      rw [e0, e1, e3]
      exact Stage.dg_array _ _ (m (c.tc.loc Cert.KernelIdeal.main_arg2)) _ (m (c.tc.loc Cert.KernelIdeal.main_arg4))

/-- The reference runs, keeps its arguments and ends with every semaphore at zero. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem claim : Cert.Claim := ⟨
  inferInstance, inferInstance, inferInstance, inferInstance, inferInstance, inferInstance, inferInstance, inferInstance, inferInstance,
  inferInstance, inferInstance, inferInstance, inferInstance, inferInstance, inferInstance, inferInstance, inferInstance, inferInstance,
  inferInstance, inferInstance, inferInstance, inferInstance, inferInstance, inferInstance, inferInstance, inferInstance, inferInstance,
  inferInstance, inferInstance, inferInstance, inferInstance, inferInstance, inferInstance, inferInstance, inferInstance, inferInstance,
  inferInstance, inferInstance, inferInstance, inferInstance, inferInstance, inferInstance, inferInstance, inferInstance, inferInstance,
  inferInstance, inferInstance, inferInstance, inferInstance, inferInstance, inferInstance, inferInstance,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, fun m ρ _ => Cert.Kernel11Ideal.Gen.frame m ρ,
  frame_reference11, fun m ρ _ => frame_reference11 m ρ trivial,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, fun m ρ _ => Cert.Kernel13Ideal.Gen.frame m ρ,
  frame_reference13, fun m ρ _ => frame_reference13 m ρ trivial,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  preserves, algebraic, trivial, algebraic2, trivial, algebraic3, trivial, algebraic4, trivial, algebraic5, trivial, algebraic6, trivial, algebraic7, trivial, algebraic8, trivial, algebraic9, trivial, algebraic10, trivial, algebraic11, trivial, algebraic12,
  trivial, algebraic13, trivial, algebraic14, trivial, algebraic15,
  preserves16, algebraic16⟩

end Cert.Proof

end
